-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3x100x152 : Shape := ⟨4, ![2, 3, 100, 152]⟩
abbrev S2x12x100x152 : Shape := ⟨4, ![2, 12, 100, 152]⟩
abbrev S2x45600x4 : Shape := ⟨3, ![2, 45600, 4]⟩
abbrev S2x100x152x3 : Shape := ⟨4, ![2, 100, 152, 3]⟩
abbrev S2x45600 : Shape := ⟨2, ![2, 45600]⟩
abbrev S2x4000 : Shape := ⟨2, ![2, 4000]⟩
abbrev S2x3x4x100x152 : Shape := ⟨5, ![2, 3, 4, 100, 152]⟩
abbrev S2x100x152x3x4 : Shape := ⟨5, ![2, 100, 152, 3, 4]⟩
abbrev S2x4000x1 : Shape := ⟨3, ![2, 4000, 1]⟩
abbrev S_ : Shape := ⟨0, ![]⟩
abbrev S1 : Shape := ⟨1, ![1]⟩
abbrev S1x1x1 : Shape := ⟨3, ![1, 1, 1]⟩
abbrev S2x4000x4 : Shape := ⟨3, ![2, 4000, 4]⟩
abbrev S2x4000x8 : Shape := ⟨3, ![2, 4000, 8]⟩
abbrev S2x4096x8 : Shape := ⟨3, ![2, 4096, 8]⟩
abbrev S2x8x4096 : Shape := ⟨3, ![2, 8, 4096]⟩
abbrev S2x4096 : Shape := ⟨2, ![2, 4096]⟩
abbrev S2x1x4096 : Shape := ⟨3, ![2, 1, 4096]⟩
abbrev S1x8x4096 : Shape := ⟨3, ![1, 8, 4096]⟩
abbrev S1x4096x8 : Shape := ⟨3, ![1, 4096, 8]⟩
abbrev S1x1x4096 : Shape := ⟨3, ![1, 1, 4096]⟩
abbrev S1x4096 : Shape := ⟨2, ![1, 4096]⟩
abbrev S4096x1 : Shape := ⟨2, ![4096, 1]⟩
abbrev S1x4096x1 : Shape := ⟨3, ![1, 4096, 1]⟩
abbrev S256x256 : Shape := ⟨2, ![256, 256]⟩
abbrev S256x1 : Shape := ⟨2, ![256, 1]⟩
abbrev S1x256 : Shape := ⟨2, ![1, 256]⟩
abbrev S256 : Shape := ⟨1, ![256]⟩
abbrev S1x256x1 : Shape := ⟨3, ![1, 256, 1]⟩
abbrev S1x512 : Shape := ⟨2, ![1, 512]⟩
abbrev S256x512 : Shape := ⟨2, ![256, 512]⟩
abbrev S1x768 : Shape := ⟨2, ![1, 768]⟩
abbrev S256x768 : Shape := ⟨2, ![256, 768]⟩
abbrev S512x1 : Shape := ⟨2, ![512, 1]⟩
abbrev S512x256 : Shape := ⟨2, ![512, 256]⟩
abbrev S1x1024 : Shape := ⟨2, ![1, 1024]⟩
abbrev S256x1024 : Shape := ⟨2, ![256, 1024]⟩
abbrev S768x1 : Shape := ⟨2, ![768, 1]⟩
abbrev S768x256 : Shape := ⟨2, ![768, 256]⟩
abbrev S1x1280 : Shape := ⟨2, ![1, 1280]⟩
abbrev S256x1280 : Shape := ⟨2, ![256, 1280]⟩
abbrev S1024x1 : Shape := ⟨2, ![1024, 1]⟩
abbrev S1024x256 : Shape := ⟨2, ![1024, 256]⟩
abbrev S1x1536 : Shape := ⟨2, ![1, 1536]⟩
abbrev S256x1536 : Shape := ⟨2, ![256, 1536]⟩
abbrev S1280x1 : Shape := ⟨2, ![1280, 1]⟩
abbrev S1280x256 : Shape := ⟨2, ![1280, 256]⟩
abbrev S1x1792 : Shape := ⟨2, ![1, 1792]⟩
abbrev S256x1792 : Shape := ⟨2, ![256, 1792]⟩
abbrev S1536x1 : Shape := ⟨2, ![1536, 1]⟩
abbrev S1536x256 : Shape := ⟨2, ![1536, 256]⟩
abbrev S1x2048 : Shape := ⟨2, ![1, 2048]⟩
abbrev S256x2048 : Shape := ⟨2, ![256, 2048]⟩
abbrev S1792x1 : Shape := ⟨2, ![1792, 1]⟩
abbrev S1792x256 : Shape := ⟨2, ![1792, 256]⟩
abbrev S1x2304 : Shape := ⟨2, ![1, 2304]⟩
abbrev S256x2304 : Shape := ⟨2, ![256, 2304]⟩
abbrev S2048x1 : Shape := ⟨2, ![2048, 1]⟩
abbrev S2048x256 : Shape := ⟨2, ![2048, 256]⟩
abbrev S1x2560 : Shape := ⟨2, ![1, 2560]⟩
abbrev S256x2560 : Shape := ⟨2, ![256, 2560]⟩
abbrev S2304x1 : Shape := ⟨2, ![2304, 1]⟩
abbrev S2304x256 : Shape := ⟨2, ![2304, 256]⟩
abbrev S1x2816 : Shape := ⟨2, ![1, 2816]⟩
abbrev S256x2816 : Shape := ⟨2, ![256, 2816]⟩
abbrev S2560x1 : Shape := ⟨2, ![2560, 1]⟩
abbrev S2560x256 : Shape := ⟨2, ![2560, 256]⟩
abbrev S1x3072 : Shape := ⟨2, ![1, 3072]⟩
abbrev S256x3072 : Shape := ⟨2, ![256, 3072]⟩
abbrev S2816x1 : Shape := ⟨2, ![2816, 1]⟩
abbrev S2816x256 : Shape := ⟨2, ![2816, 256]⟩
abbrev S1x3328 : Shape := ⟨2, ![1, 3328]⟩
abbrev S256x3328 : Shape := ⟨2, ![256, 3328]⟩
abbrev S3072x1 : Shape := ⟨2, ![3072, 1]⟩
abbrev S3072x256 : Shape := ⟨2, ![3072, 256]⟩
abbrev S1x3584 : Shape := ⟨2, ![1, 3584]⟩
abbrev S256x3584 : Shape := ⟨2, ![256, 3584]⟩
abbrev S3328x1 : Shape := ⟨2, ![3328, 1]⟩
abbrev S3328x256 : Shape := ⟨2, ![3328, 256]⟩
abbrev S1x3840 : Shape := ⟨2, ![1, 3840]⟩
abbrev S256x3840 : Shape := ⟨2, ![256, 3840]⟩
abbrev S3584x1 : Shape := ⟨2, ![3584, 1]⟩
abbrev S3584x256 : Shape := ⟨2, ![3584, 256]⟩
abbrev S256x4096 : Shape := ⟨2, ![256, 4096]⟩
abbrev S3840x1 : Shape := ⟨2, ![3840, 1]⟩
abbrev S3840x256 : Shape := ⟨2, ![3840, 256]⟩
abbrev S2x4x4096 : Shape := ⟨3, ![2, 4, 4096]⟩
abbrev S2x4096x4 : Shape := ⟨3, ![2, 4096, 4]⟩
abbrev S2x1000 : Shape := ⟨2, ![2, 1000]⟩
abbrev S2x1000x1 : Shape := ⟨3, ![2, 1000, 1]⟩
abbrev S2x1000x4 : Shape := ⟨3, ![2, 1000, 4]⟩
abbrev S2x1000x5 : Shape := ⟨3, ![2, 1000, 5]⟩

abbrev nBuf : Space → Nat
  | .hbm => 98
  | .vmem => 12
  | .smem => 0
  | _ => 0

abbrev bufTy : (tb : Table) → Fin (tcTables nBuf tb) → BufTy
  | .hbm, ⟨0, _⟩ => ⟨S2x3x100x152, .f32⟩
  | .hbm, ⟨1, _⟩ => ⟨S2x12x100x152, .f32⟩
  | .hbm, ⟨2, _⟩ => ⟨S2x45600x4, .f32⟩
  | .hbm, ⟨3, _⟩ => ⟨S2x100x152x3, .f32⟩
  | .hbm, ⟨4, _⟩ => ⟨S2x45600, .f32⟩
  | .hbm, ⟨5, _⟩ => ⟨S2x45600, .f32⟩
  | .hbm, ⟨6, _⟩ => ⟨S2x4000, .f32⟩
  | .hbm, ⟨7, _⟩ => ⟨S2x4000, .i32⟩
  | .hbm, ⟨8, _⟩ => ⟨S2x3x4x100x152, .f32⟩
  | .hbm, ⟨9, _⟩ => ⟨S2x100x152x3x4, .f32⟩
  | .hbm, ⟨10, _⟩ => ⟨S2x45600x4, .f32⟩
  | .hbm, ⟨11, _⟩ => ⟨S2x4000x1, .i32⟩
  | .hbm, ⟨12, _⟩ => ⟨S_, .i32⟩
  | .hbm, ⟨13, _⟩ => ⟨S2x4000x1, .i32⟩
  | .hbm, ⟨14, _⟩ => ⟨S2x4000x1, .i1⟩
  | .hbm, ⟨15, _⟩ => ⟨S_, .i32⟩
  | .hbm, ⟨16, _⟩ => ⟨S2x4000x1, .i32⟩
  | .hbm, ⟨17, _⟩ => ⟨S2x4000x1, .i32⟩
  | .hbm, ⟨18, _⟩ => ⟨S2x4000x1, .i32⟩
  | .hbm, ⟨19, _⟩ => ⟨S1, .i32⟩
  | .hbm, ⟨20, _⟩ => ⟨S_, .i32⟩
  | .hbm, ⟨21, _⟩ => ⟨S2x4000x1, .i32⟩
  | .hbm, ⟨22, _⟩ => ⟨S2x4000x1, .i1⟩
  | .hbm, ⟨23, _⟩ => ⟨S1x1x1, .i32⟩
  | .hbm, ⟨24, _⟩ => ⟨S2x4000x1, .i32⟩
  | .hbm, ⟨25, _⟩ => ⟨S2x4000x1, .i1⟩
  | .hbm, ⟨26, _⟩ => ⟨S2x4000x1, .i1⟩
  | .hbm, ⟨27, _⟩ => ⟨S_, .i1⟩
  | .hbm, ⟨28, _⟩ => ⟨S2x4000, .i1⟩
  | .hbm, ⟨29, _⟩ => ⟨S2x4000x4, .f32⟩
  | .hbm, ⟨30, _⟩ => ⟨S2x4000x4, .i1⟩
  | .hbm, ⟨31, _⟩ => ⟨S_, .f32⟩
  | .hbm, ⟨32, _⟩ => ⟨S2x4000x4, .f32⟩
  | .hbm, ⟨33, _⟩ => ⟨S2x4000x4, .f32⟩
  | .hbm, ⟨34, _⟩ => ⟨S2x4000x1, .i32⟩
  | .hbm, ⟨35, _⟩ => ⟨S_, .i32⟩
  | .hbm, ⟨36, _⟩ => ⟨S2x4000x1, .i32⟩
  | .hbm, ⟨37, _⟩ => ⟨S2x4000x1, .i1⟩
  | .hbm, ⟨38, _⟩ => ⟨S_, .i32⟩
  | .hbm, ⟨39, _⟩ => ⟨S2x4000x1, .i32⟩
  | .hbm, ⟨40, _⟩ => ⟨S2x4000x1, .i32⟩
  | .hbm, ⟨41, _⟩ => ⟨S2x4000x1, .i32⟩
  | .hbm, ⟨42, _⟩ => ⟨S1, .i32⟩
  | .hbm, ⟨43, _⟩ => ⟨S_, .i32⟩
  | .hbm, ⟨44, _⟩ => ⟨S2x4000x1, .i32⟩
  | .hbm, ⟨45, _⟩ => ⟨S2x4000x1, .i1⟩
  | .hbm, ⟨46, _⟩ => ⟨S1x1x1, .i32⟩
  | .hbm, ⟨47, _⟩ => ⟨S2x4000x1, .i32⟩
  | .hbm, ⟨48, _⟩ => ⟨S2x4000x1, .i1⟩
  | .hbm, ⟨49, _⟩ => ⟨S2x4000x1, .i1⟩
  | .hbm, ⟨50, _⟩ => ⟨S_, .i1⟩
  | .hbm, ⟨51, _⟩ => ⟨S2x4000, .i1⟩
  | .hbm, ⟨52, _⟩ => ⟨S2x4000x4, .f32⟩
  | .hbm, ⟨53, _⟩ => ⟨S2x4000x4, .i1⟩
  | .hbm, ⟨54, _⟩ => ⟨S_, .f32⟩
  | .hbm, ⟨55, _⟩ => ⟨S2x4000x4, .f32⟩
  | .hbm, ⟨56, _⟩ => ⟨S2x4000x4, .f32⟩
  | .hbm, ⟨57, _⟩ => ⟨S2x4000x8, .f32⟩
  | .hbm, ⟨58, _⟩ => ⟨S_, .i32⟩
  | .hbm, ⟨59, _⟩ => ⟨S_, .f32⟩
  | .hbm, ⟨60, _⟩ => ⟨S2x4096x8, .f32⟩
  | .hbm, ⟨61, _⟩ => ⟨S2x8x4096, .f32⟩
  | .hbm, ⟨62, _⟩ => ⟨S_, .f32⟩
  | .hbm, ⟨63, _⟩ => ⟨S_, .f32⟩
  | .hbm, ⟨64, _⟩ => ⟨S2x4096, .f32⟩
  | .hbm, ⟨65, _⟩ => ⟨S2x1x4096, .f32⟩
  | .hbm, ⟨66, _⟩ => ⟨S2x8x4096, .f32⟩
  | .hbm, ⟨67, _⟩ => ⟨S2x4x4096, .f32⟩
  | .hbm, ⟨68, _⟩ => ⟨S2x4096x4, .f32⟩
  | .hbm, ⟨69, _⟩ => ⟨S2x1x4096, .f32⟩
  | .hbm, ⟨70, _⟩ => ⟨S2x4096, .f32⟩
  | .hbm, ⟨71, _⟩ => ⟨S2x1000, .f32⟩
  | .hbm, ⟨72, _⟩ => ⟨S2x1000, .i32⟩
  | .hbm, ⟨73, _⟩ => ⟨S2x1000x1, .i32⟩
  | .hbm, ⟨74, _⟩ => ⟨S_, .i32⟩
  | .hbm, ⟨75, _⟩ => ⟨S2x1000x1, .i32⟩
  | .hbm, ⟨76, _⟩ => ⟨S2x1000x1, .i1⟩
  | .hbm, ⟨77, _⟩ => ⟨S_, .i32⟩
  | .hbm, ⟨78, _⟩ => ⟨S2x1000x1, .i32⟩
  | .hbm, ⟨79, _⟩ => ⟨S2x1000x1, .i32⟩
  | .hbm, ⟨80, _⟩ => ⟨S2x1000x1, .i32⟩
  | .hbm, ⟨81, _⟩ => ⟨S1, .i32⟩
  | .hbm, ⟨82, _⟩ => ⟨S_, .i32⟩
  | .hbm, ⟨83, _⟩ => ⟨S2x1000x1, .i32⟩
  | .hbm, ⟨84, _⟩ => ⟨S2x1000x1, .i1⟩
  | .hbm, ⟨85, _⟩ => ⟨S1x1x1, .i32⟩
  | .hbm, ⟨86, _⟩ => ⟨S2x1000x1, .i32⟩
  | .hbm, ⟨87, _⟩ => ⟨S2x1000x1, .i1⟩
  | .hbm, ⟨88, _⟩ => ⟨S2x1000x1, .i1⟩
  | .hbm, ⟨89, _⟩ => ⟨S_, .i1⟩
  | .hbm, ⟨90, _⟩ => ⟨S2x1000, .i1⟩
  | .hbm, ⟨91, _⟩ => ⟨S2x1000x4, .f32⟩
  | .hbm, ⟨92, _⟩ => ⟨S2x1000x4, .i1⟩
  | .hbm, ⟨93, _⟩ => ⟨S_, .f32⟩
  | .hbm, ⟨94, _⟩ => ⟨S2x1000x4, .f32⟩
  | .hbm, ⟨95, _⟩ => ⟨S2x1000x4, .f32⟩
  | .hbm, ⟨96, _⟩ => ⟨S2x1000x1, .f32⟩
  | .hbm, ⟨97, _⟩ => ⟨S2x1000x5, .f32⟩
  | .local _ .vmem, ⟨0, _⟩ => ⟨S2x45600, .f32⟩
  | .local _ .vmem, ⟨1, _⟩ => ⟨S2x45600, .f32⟩
  | .local _ .vmem, ⟨2, _⟩ => ⟨S1x8x4096, .f32⟩
  | .local _ .vmem, ⟨3, _⟩ => ⟨S1x8x4096, .f32⟩
  | .local _ .vmem, ⟨4, _⟩ => ⟨S1x4096x8, .f32⟩
  | .local _ .vmem, ⟨5, _⟩ => ⟨S1x4096x8, .f32⟩
  | .local _ .vmem, ⟨6, _⟩ => ⟨S1x1x4096, .f32⟩
  | .local _ .vmem, ⟨7, _⟩ => ⟨S1x1x4096, .f32⟩
  | .local _ .vmem, ⟨8, _⟩ => ⟨S1x8x4096, .f32⟩
  | .local _ .vmem, ⟨9, _⟩ => ⟨S1x8x4096, .f32⟩
  | .local _ .vmem, ⟨10, _⟩ => ⟨S1x4096, .i32⟩
  | .local _ .vmem, ⟨11, _⟩ => ⟨S4096x1, .i32⟩
  | _, _ => ⟨S2x3x100x152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_values : Ref sig .tc := ⟨.hbm, 6, rfl⟩
abbrev main_indices : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_c_2 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_c_3 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v7 : Ref sig .tc := ⟨.hbm, 33, rfl⟩
abbrev main_v8 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_c_2 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_c_3 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v9 : Ref sig .tc := ⟨.hbm, 56, rfl⟩
abbrev main_v10 : Ref sig .tc := ⟨.hbm, 57, rfl⟩
abbrev main_c : Ref sig .tc := ⟨.hbm, 58, rfl⟩
abbrev main_call2_v0 : Ref sig .tc := ⟨.hbm, 59, rfl⟩
abbrev main_v11 : Ref sig .tc := ⟨.hbm, 60, rfl⟩
abbrev main_v12 : Ref sig .tc := ⟨.hbm, 61, rfl⟩
abbrev main_cst : Ref sig .tc := ⟨.hbm, 62, rfl⟩
abbrev main_call3_v0 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_values_0 : Ref sig .tc := ⟨.hbm, 71, rfl⟩
abbrev main_indices_1 : Ref sig .tc := ⟨.hbm, 72, rfl⟩
abbrev main_v20 : Ref sig .tc := ⟨.hbm, 73, rfl⟩
abbrev main_call4_c : Ref sig .tc := ⟨.hbm, 74, rfl⟩
abbrev main_call4_v0 : Ref sig .tc := ⟨.hbm, 75, rfl⟩
abbrev main_call4_v1 : Ref sig .tc := ⟨.hbm, 76, rfl⟩
abbrev main_call4_c_0 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_call4_c_1 : Ref sig .tc := ⟨.hbm, 81, rfl⟩
abbrev main_call4_c_2 : Ref sig .tc := ⟨.hbm, 82, rfl⟩
abbrev main_call4_v5 : Ref sig .tc := ⟨.hbm, 83, rfl⟩
abbrev main_call4_v6 : Ref sig .tc := ⟨.hbm, 84, rfl⟩
abbrev main_call4_v7 : Ref sig .tc := ⟨.hbm, 85, rfl⟩
abbrev main_call4_v8 : Ref sig .tc := ⟨.hbm, 86, rfl⟩
abbrev main_call4_v9 : Ref sig .tc := ⟨.hbm, 87, rfl⟩
abbrev main_call4_v10 : Ref sig .tc := ⟨.hbm, 88, rfl⟩
abbrev main_call4_c_3 : Ref sig .tc := ⟨.hbm, 89, rfl⟩
abbrev main_call4_v11 : Ref sig .tc := ⟨.hbm, 90, rfl⟩
abbrev main_call4_v12 : Ref sig .tc := ⟨.hbm, 91, rfl⟩
abbrev main_call4_v13 : Ref sig .tc := ⟨.hbm, 92, rfl⟩
abbrev main_call4_cst : Ref sig .tc := ⟨.hbm, 93, rfl⟩
abbrev main_call4_v14 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_scratch0 : Ref sig .tc := ⟨.vmem, 10, rfl⟩
abbrev cc1_scratch1 : Ref sig .tc := ⟨.vmem, 11, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := .none

abbrev stage0_0 : Fin 1 → Memref sig .tc .vmem S2x45600 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x45600 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x8x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S2x3x100x152 : Shape := ⟨4, ![2, 3, 100, 152]⟩
abbrev S2x12x100x152 : Shape := ⟨4, ![2, 12, 100, 152]⟩
abbrev S2x45600x4 : Shape := ⟨3, ![2, 45600, 4]⟩
abbrev S2x100x152x3 : Shape := ⟨4, ![2, 100, 152, 3]⟩
abbrev S2x45600 : Shape := ⟨2, ![2, 45600]⟩
abbrev S_ : Shape := ⟨0, ![]⟩
abbrev S2x4000 : Shape := ⟨2, ![2, 4000]⟩
abbrev S2x3x4x100x152 : Shape := ⟨5, ![2, 3, 4, 100, 152]⟩
abbrev S2x100x152x3x4 : Shape := ⟨5, ![2, 100, 152, 3, 4]⟩
abbrev S2x4000x1 : Shape := ⟨3, ![2, 4000, 1]⟩
abbrev S1 : Shape := ⟨1, ![1]⟩
abbrev S1x1x1 : Shape := ⟨3, ![1, 1, 1]⟩
abbrev S2x4000x4 : Shape := ⟨3, ![2, 4000, 4]⟩
abbrev S8000x4 : Shape := ⟨2, ![8000, 4]⟩
abbrev S8000x1 : Shape := ⟨2, ![8000, 1]⟩
abbrev S8000 : Shape := ⟨1, ![8000]⟩
abbrev S2x4000x2 : Shape := ⟨3, ![2, 4000, 2]⟩
abbrev S2x4000x1x2 : Shape := ⟨4, ![2, 4000, 1, 2]⟩
abbrev S2x1x4000x2 : Shape := ⟨4, ![2, 1, 4000, 2]⟩
abbrev S2x4000x4000x2 : Shape := ⟨4, ![2, 4000, 4000, 2]⟩
abbrev S2x4000x4000x1 : Shape := ⟨4, ![2, 4000, 4000, 1]⟩
abbrev S2x4000x4000 : Shape := ⟨3, ![2, 4000, 4000]⟩
abbrev S2x1x4000 : Shape := ⟨3, ![2, 1, 4000]⟩
abbrev S4000 : Shape := ⟨1, ![4000]⟩
abbrev S2x1 : Shape := ⟨2, ![2, 1]⟩
abbrev S1x4000 : Shape := ⟨2, ![1, 4000]⟩
abbrev S2x1000 : Shape := ⟨2, ![2, 1000]⟩
abbrev S2x1000x1 : Shape := ⟨3, ![2, 1000, 1]⟩
abbrev S2x1000x4 : Shape := ⟨3, ![2, 1000, 4]⟩
abbrev S2x1000x5 : Shape := ⟨3, ![2, 1000, 5]⟩

abbrev nBuf : Space → Nat
  | .hbm => 331
  | .vmem => 0
  | .smem => 0
  | _ => 0

abbrev hbmTy0_0 (i : Nat) : BufTy := match i % 128 with
  | 0 => ⟨S2x3x100x152, .f32⟩
  | 1 => ⟨S2x12x100x152, .f32⟩
  | 2 => ⟨S2x45600x4, .f32⟩
  | 3 => ⟨S2x100x152x3, .f32⟩
  | 4 => ⟨S2x45600, .f32⟩
  | 5 => ⟨S2x45600, .f32⟩
  | 6 => ⟨S2x45600, .f32⟩
  | 7 => ⟨S_, .f32⟩
  | 8 => ⟨S2x45600, .f32⟩
  | 9 => ⟨S2x45600, .f32⟩
  | 10 => ⟨S_, .f32⟩
  | 11 => ⟨S2x45600, .f32⟩
  | 12 => ⟨S2x45600, .f32⟩
  | 13 => ⟨S2x4000, .f32⟩
  | 14 => ⟨S2x4000, .i32⟩
  | 15 => ⟨S2x3x4x100x152, .f32⟩
  | 16 => ⟨S2x100x152x3x4, .f32⟩
  | 17 => ⟨S2x45600x4, .f32⟩
  | 18 => ⟨S2x4000x1, .i32⟩
  | 19 => ⟨S_, .i32⟩
  | 20 => ⟨S2x4000x1, .i32⟩
  | 21 => ⟨S2x4000x1, .i1⟩
  | 22 => ⟨S_, .i32⟩
  | 23 => ⟨S2x4000x1, .i32⟩
  | 24 => ⟨S2x4000x1, .i32⟩
  | 25 => ⟨S2x4000x1, .i32⟩
  | 26 => ⟨S1, .i32⟩
  | 27 => ⟨S_, .i32⟩
  | 28 => ⟨S2x4000x1, .i32⟩
  | 29 => ⟨S2x4000x1, .i1⟩
  | 30 => ⟨S1x1x1, .i32⟩
  | 31 => ⟨S2x4000x1, .i32⟩
  | 32 => ⟨S2x4000x1, .i1⟩
  | 33 => ⟨S2x4000x1, .i1⟩
  | 34 => ⟨S_, .i1⟩
  | 35 => ⟨S2x4000, .i1⟩
  | 36 => ⟨S2x4000x4, .f32⟩
  | 37 => ⟨S2x4000x4, .i1⟩
  | 38 => ⟨S_, .f32⟩
  | 39 => ⟨S2x4000x4, .f32⟩
  | 40 => ⟨S2x4000x4, .f32⟩
  | 41 => ⟨S2x4000x1, .i32⟩
  | 42 => ⟨S_, .i32⟩
  | 43 => ⟨S2x4000x1, .i32⟩
  | 44 => ⟨S2x4000x1, .i1⟩
  | 45 => ⟨S_, .i32⟩
  | 46 => ⟨S2x4000x1, .i32⟩
  | 47 => ⟨S2x4000x1, .i32⟩
  | 48 => ⟨S2x4000x1, .i32⟩
  | 49 => ⟨S1, .i32⟩
  | 50 => ⟨S_, .i32⟩
  | 51 => ⟨S2x4000x1, .i32⟩
  | 52 => ⟨S2x4000x1, .i1⟩
  | 53 => ⟨S1x1x1, .i32⟩
  | 54 => ⟨S2x4000x1, .i32⟩
  | 55 => ⟨S2x4000x1, .i1⟩
  | 56 => ⟨S2x4000x1, .i1⟩
  | 57 => ⟨S_, .i1⟩
  | 58 => ⟨S2x4000, .i1⟩
  | 59 => ⟨S2x4000x4, .f32⟩
  | 60 => ⟨S2x4000x4, .i1⟩
  | 61 => ⟨S_, .f32⟩
  | 62 => ⟨S2x4000x4, .f32⟩
  | 63 => ⟨S2x4000x4, .f32⟩
  | 64 => ⟨S8000x4, .f32⟩
  | 65 => ⟨S8000x4, .f32⟩
  | 66 => ⟨S8000x1, .f32⟩
  | 67 => ⟨S8000, .f32⟩
  | 68 => ⟨S8000x1, .f32⟩
  | 69 => ⟨S8000, .f32⟩
  | 70 => ⟨S8000, .f32⟩
  | 71 => ⟨S_, .f32⟩
  | 72 => ⟨S8000, .f32⟩
  | 73 => ⟨S8000, .f32⟩
  | 74 => ⟨S8000x1, .f32⟩
  | 75 => ⟨S8000, .f32⟩
  | 76 => ⟨S8000x1, .f32⟩
  | 77 => ⟨S8000, .f32⟩
  | 78 => ⟨S8000, .f32⟩
  | 79 => ⟨S_, .f32⟩
  | 80 => ⟨S8000, .f32⟩
  | 81 => ⟨S8000, .f32⟩
  | 82 => ⟨S8000x1, .f32⟩
  | 83 => ⟨S8000, .f32⟩
  | 84 => ⟨S_, .f32⟩
  | 85 => ⟨S8000, .f32⟩
  | 86 => ⟨S8000, .f32⟩
  | 87 => ⟨S8000, .f32⟩
  | 88 => ⟨S8000x1, .f32⟩
  | 89 => ⟨S8000, .f32⟩
  | 90 => ⟨S_, .f32⟩
  | 91 => ⟨S8000, .f32⟩
  | 92 => ⟨S8000, .f32⟩
  | 93 => ⟨S8000, .f32⟩
  | 94 => ⟨S8000x1, .f32⟩
  | 95 => ⟨S8000, .f32⟩
  | 96 => ⟨S8000x1, .f32⟩
  | 97 => ⟨S8000, .f32⟩
  | 98 => ⟨S8000x1, .f32⟩
  | 99 => ⟨S8000, .f32⟩
  | 100 => ⟨S8000x1, .f32⟩
  | 101 => ⟨S8000, .f32⟩
  | 102 => ⟨S_, .f32⟩
  | 103 => ⟨S8000, .f32⟩
  | 104 => ⟨S8000, .f32⟩
  | 105 => ⟨S_, .f32⟩
  | 106 => ⟨S8000, .f32⟩
  | 107 => ⟨S8000, .f32⟩
  | 108 => ⟨S8000, .f32⟩
  | 109 => ⟨S8000, .f32⟩
  | 110 => ⟨S8000, .f32⟩
  | 111 => ⟨S8000, .f32⟩
  | 112 => ⟨S8000, .f32⟩
  | 113 => ⟨S8000, .f32⟩
  | 114 => ⟨S8000, .f32⟩
  | 115 => ⟨S8000, .f32⟩
  | 116 => ⟨S_, .f32⟩
  | 117 => ⟨S8000, .f32⟩
  | 118 => ⟨S8000, .f32⟩
  | 119 => ⟨S8000, .f32⟩
  | 120 => ⟨S_, .f32⟩
  | 121 => ⟨S8000, .f32⟩
  | 122 => ⟨S8000, .f32⟩
  | 123 => ⟨S8000, .f32⟩
  | 124 => ⟨S_, .f32⟩
  | 125 => ⟨S8000, .f32⟩
  | 126 => ⟨S8000, .f32⟩
  | 127 => ⟨S8000, .f32⟩
  | _ => ⟨S2x3x100x152, .f32⟩

abbrev hbmTy0_1 (i : Nat) : BufTy := match i % 128 with
  | 0 => ⟨S_, .f32⟩
  | 1 => ⟨S8000, .f32⟩
  | 2 => ⟨S8000, .f32⟩
  | 3 => ⟨S_, .f32⟩
  | 4 => ⟨S8000, .f32⟩
  | 5 => ⟨S8000, .f32⟩
  | 6 => ⟨S8000, .f32⟩
  | 7 => ⟨S_, .f32⟩
  | 8 => ⟨S8000, .f32⟩
  | 9 => ⟨S8000, .f32⟩
  | 10 => ⟨S8000x1, .f32⟩
  | 11 => ⟨S8000x1, .f32⟩
  | 12 => ⟨S8000x1, .f32⟩
  | 13 => ⟨S8000x1, .f32⟩
  | 14 => ⟨S8000x4, .f32⟩
  | 15 => ⟨S2x4000x4, .f32⟩
  | 16 => ⟨S2x4000x1, .f32⟩
  | 17 => ⟨S2x4000, .f32⟩
  | 18 => ⟨S_, .f32⟩
  | 19 => ⟨S_, .f32⟩
  | 20 => ⟨S_, .f32⟩
  | 21 => ⟨S2x4000, .f32⟩
  | 22 => ⟨S2x4000, .f32⟩
  | 23 => ⟨S_, .f32⟩
  | 24 => ⟨S2x4000, .f32⟩
  | 25 => ⟨S2x4000, .f32⟩
  | 26 => ⟨S2x4000x1, .f32⟩
  | 27 => ⟨S2x4000, .f32⟩
  | 28 => ⟨S_, .f32⟩
  | 29 => ⟨S_, .f32⟩
  | 30 => ⟨S_, .f32⟩
  | 31 => ⟨S2x4000, .f32⟩
  | 32 => ⟨S2x4000, .f32⟩
  | 33 => ⟨S_, .f32⟩
  | 34 => ⟨S2x4000, .f32⟩
  | 35 => ⟨S2x4000, .f32⟩
  | 36 => ⟨S2x4000x1, .f32⟩
  | 37 => ⟨S2x4000, .f32⟩
  | 38 => ⟨S_, .f32⟩
  | 39 => ⟨S_, .f32⟩
  | 40 => ⟨S_, .f32⟩
  | 41 => ⟨S2x4000, .f32⟩
  | 42 => ⟨S2x4000, .f32⟩
  | 43 => ⟨S_, .f32⟩
  | 44 => ⟨S2x4000, .f32⟩
  | 45 => ⟨S2x4000, .f32⟩
  | 46 => ⟨S2x4000x1, .f32⟩
  | 47 => ⟨S2x4000, .f32⟩
  | 48 => ⟨S_, .f32⟩
  | 49 => ⟨S_, .f32⟩
  | 50 => ⟨S_, .f32⟩
  | 51 => ⟨S2x4000, .f32⟩
  | 52 => ⟨S2x4000, .f32⟩
  | 53 => ⟨S_, .f32⟩
  | 54 => ⟨S2x4000, .f32⟩
  | 55 => ⟨S2x4000, .f32⟩
  | 56 => ⟨S2x4000x1, .f32⟩
  | 57 => ⟨S2x4000x1, .f32⟩
  | 58 => ⟨S2x4000x1, .f32⟩
  | 59 => ⟨S2x4000x1, .f32⟩
  | 60 => ⟨S2x4000x4, .f32⟩
  | 61 => ⟨S2x4000, .f32⟩
  | 62 => ⟨S_, .f32⟩
  | 63 => ⟨S2x4000, .f32⟩
  | 64 => ⟨S2x4000, .f32⟩
  | 65 => ⟨S2x4000, .f32⟩
  | 66 => ⟨S_, .f32⟩
  | 67 => ⟨S2x4000, .f32⟩
  | 68 => ⟨S2x4000, .f32⟩
  | 69 => ⟨S_, .f32⟩
  | 70 => ⟨S2x4000, .f32⟩
  | 71 => ⟨S2x4000, .i1⟩
  | 72 => ⟨S_, .f32⟩
  | 73 => ⟨S2x4000, .f32⟩
  | 74 => ⟨S2x4000, .i1⟩
  | 75 => ⟨S2x4000, .i1⟩
  | 76 => ⟨S2x4000x1, .f32⟩
  | 77 => ⟨S2x4000, .f32⟩
  | 78 => ⟨S2x4000x1, .f32⟩
  | 79 => ⟨S2x4000, .f32⟩
  | 80 => ⟨S2x4000, .f32⟩
  | 81 => ⟨S_, .f32⟩
  | 82 => ⟨S2x4000, .f32⟩
  | 83 => ⟨S2x4000, .f32⟩
  | 84 => ⟨S2x4000x1, .f32⟩
  | 85 => ⟨S2x4000, .f32⟩
  | 86 => ⟨S2x4000x1, .f32⟩
  | 87 => ⟨S2x4000, .f32⟩
  | 88 => ⟨S2x4000, .f32⟩
  | 89 => ⟨S_, .f32⟩
  | 90 => ⟨S2x4000, .f32⟩
  | 91 => ⟨S2x4000, .f32⟩
  | 92 => ⟨S2x4000, .f32⟩
  | 93 => ⟨S2x4000x2, .f32⟩
  | 94 => ⟨S2x4000x1x2, .f32⟩
  | 95 => ⟨S2x4000x2, .f32⟩
  | 96 => ⟨S2x1x4000x2, .f32⟩
  | 97 => ⟨S2x4000x4000x2, .f32⟩
  | 98 => ⟨S2x4000x4000x2, .f32⟩
  | 99 => ⟨S2x4000x4000x2, .f32⟩
  | 100 => ⟨S2x4000x2, .f32⟩
  | 101 => ⟨S2x4000x1x2, .f32⟩
  | 102 => ⟨S2x4000x2, .f32⟩
  | 103 => ⟨S2x1x4000x2, .f32⟩
  | 104 => ⟨S2x4000x4000x2, .f32⟩
  | 105 => ⟨S2x4000x4000x2, .f32⟩
  | 106 => ⟨S2x4000x4000x2, .f32⟩
  | 107 => ⟨S2x4000x4000x2, .f32⟩
  | 108 => ⟨S_, .f32⟩
  | 109 => ⟨S2x4000x4000x2, .f32⟩
  | 110 => ⟨S2x4000x4000x2, .f32⟩
  | 111 => ⟨S_, .f32⟩
  | 112 => ⟨S_, .f32⟩
  | 113 => ⟨S2x4000x4000x2, .f32⟩
  | 114 => ⟨S2x4000x4000x2, .f32⟩
  | 115 => ⟨S2x4000x4000x1, .f32⟩
  | 116 => ⟨S2x4000x4000, .f32⟩
  | 117 => ⟨S2x4000x4000x1, .f32⟩
  | 118 => ⟨S2x4000x4000, .f32⟩
  | 119 => ⟨S2x4000x4000, .f32⟩
  | 120 => ⟨S2x4000x1, .f32⟩
  | 121 => ⟨S2x1x4000, .f32⟩
  | 122 => ⟨S2x4000x4000, .f32⟩
  | 123 => ⟨S2x4000x4000, .f32⟩
  | 124 => ⟨S2x4000x4000, .f32⟩
  | 125 => ⟨S2x4000x4000, .f32⟩
  | 126 => ⟨S2x4000x4000, .f32⟩
  | 127 => ⟨S4000, .i32⟩
  | _ => ⟨S2x3x100x152, .f32⟩

abbrev hbmTy0_2 (i : Nat) : BufTy := match i % 128 with
  | 0 => ⟨S_, .i32⟩
  | 1 => ⟨S_, .i32⟩
  | 2 => ⟨S2x4000x4000, .f32⟩
  | 3 => ⟨S4000, .i32⟩
  | 4 => ⟨S_, .i32⟩
  | 5 => ⟨S_, .i32⟩
  | 6 => ⟨S2x4000, .i1⟩
  | 7 => ⟨S_, .i32⟩
  | 8 => ⟨S_, .i1⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S2x1x4000, .f32⟩
  | 20 => ⟨S2x4000, .f32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S2x1, .i1⟩
  | 29 => ⟨S_, .f32⟩
  | 30 => ⟨S2x4000, .f32⟩
  | 31 => ⟨S2x4000, .i1⟩
  | 32 => ⟨S_, .i32⟩
  | 33 => ⟨S4000, .i32⟩
  | 34 => ⟨S4000, .i1⟩
  | 35 => ⟨S1x4000, .i1⟩
  | 36 => ⟨S2x4000, .i1⟩
  | 37 => ⟨S2x4000, .i1⟩
  | 38 => ⟨S2x4000, .i1⟩
  | 39 => ⟨S2x4000, .i1⟩
  | 40 => ⟨S2x4000, .i1⟩
  | 41 => ⟨S2x4000, .i1⟩
  | 42 => ⟨S_, .i32⟩
  | 43 => ⟨S_, .i32⟩
  | 44 => ⟨S_, .f32⟩
  | 45 => ⟨S_, .f32⟩
  | 46 => ⟨S2x4000, .f32⟩
  | 47 => ⟨S2x4000, .f32⟩
  | 48 => ⟨S2x1000, .f32⟩
  | 49 => ⟨S2x1000, .i32⟩
  | 50 => ⟨S2x1000x1, .i32⟩
  | 51 => ⟨S_, .i32⟩
  | 52 => ⟨S2x1000x1, .i32⟩
  | 53 => ⟨S2x1000x1, .i1⟩
  | 54 => ⟨S_, .i32⟩
  | 55 => ⟨S2x1000x1, .i32⟩
  | 56 => ⟨S2x1000x1, .i32⟩
  | 57 => ⟨S2x1000x1, .i32⟩
  | 58 => ⟨S1, .i32⟩
  | 59 => ⟨S_, .i32⟩
  | 60 => ⟨S2x1000x1, .i32⟩
  | 61 => ⟨S2x1000x1, .i1⟩
  | 62 => ⟨S1x1x1, .i32⟩
  | 63 => ⟨S2x1000x1, .i32⟩
  | 64 => ⟨S2x1000x1, .i1⟩
  | 65 => ⟨S2x1000x1, .i1⟩
  | 66 => ⟨S_, .i1⟩
  | 67 => ⟨S2x1000, .i1⟩
  | 68 => ⟨S2x1000x4, .f32⟩
  | 69 => ⟨S2x1000x4, .i1⟩
  | 70 => ⟨S_, .f32⟩
  | 71 => ⟨S2x1000x4, .f32⟩
  | 72 => ⟨S2x1000x4, .f32⟩
  | 73 => ⟨S2x1000x1, .f32⟩
  | 74 => ⟨S2x1000x5, .f32⟩
  | _ => ⟨S2x3x100x152, .f32⟩

abbrev hbmTy (i : Nat) : BufTy := match i / 128 with
  | 0 => hbmTy0_0 i
  | 1 => hbmTy0_1 i
  | 2 => hbmTy0_2 i
  | _ => ⟨S2x3x100x152, .f32⟩

abbrev bufTy : (tb : Table) → Fin (tcTables nBuf tb) → BufTy
  | .hbm, ⟨i, _⟩ => hbmTy i
  | _, _ => ⟨S2x3x100x152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_values : Ref sig .tc := ⟨.hbm, 13, rfl⟩
abbrev main_indices : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_c_2 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_c_3 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v12 : Ref sig .tc := ⟨.hbm, 40, rfl⟩
abbrev main_v13 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_c_2 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_c_3 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_cst : Ref sig .tc := ⟨.hbm, 61, rfl⟩
abbrev main_call1_v14 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_cst_1 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_cst_2 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_cst_3 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_cst_4 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_cst_5 : Ref sig .tc := ⟨.hbm, 102, rfl⟩
abbrev main_v49 : Ref sig .tc := ⟨.hbm, 103, rfl⟩
abbrev main_v50 : Ref sig .tc := ⟨.hbm, 104, rfl⟩
abbrev main_cst_6 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_cst_7 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_8 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_9 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_10 : Ref sig .tc := ⟨.hbm, 128, rfl⟩
abbrev main_v70 : Ref sig .tc := ⟨.hbm, 129, rfl⟩
abbrev main_v71 : Ref sig .tc := ⟨.hbm, 130, rfl⟩
abbrev main_cst_11 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_cst_12 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_cst_13 : Ref sig .tc := ⟨.hbm, 146, rfl⟩
abbrev main_cst_14 : Ref sig .tc := ⟨.hbm, 147, rfl⟩
abbrev main_call2_v0 : Ref sig .tc := ⟨.hbm, 148, rfl⟩
abbrev main_call2_v1 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_cst_15 : Ref sig .tc := ⟨.hbm, 156, rfl⟩
abbrev main_cst_16 : Ref sig .tc := ⟨.hbm, 157, rfl⟩
abbrev main_call3_v0 : Ref sig .tc := ⟨.hbm, 158, rfl⟩
abbrev main_call3_v1 : Ref sig .tc := ⟨.hbm, 159, rfl⟩
abbrev main_call3_v2 : Ref sig .tc := ⟨.hbm, 160, rfl⟩
abbrev main_call3_v3 : Ref sig .tc := ⟨.hbm, 161, rfl⟩
abbrev main_call3_v4 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_cst_17 : Ref sig .tc := ⟨.hbm, 166, rfl⟩
abbrev main_cst_18 : Ref sig .tc := ⟨.hbm, 167, rfl⟩
abbrev main_call4_v0 : Ref sig .tc := ⟨.hbm, 168, rfl⟩
abbrev main_call4_v1 : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_cst_19 : Ref sig .tc := ⟨.hbm, 176, rfl⟩
abbrev main_cst_20 : Ref sig .tc := ⟨.hbm, 177, rfl⟩
abbrev main_call5_v0 : Ref sig .tc := ⟨.hbm, 178, rfl⟩
abbrev main_call5_v1 : Ref sig .tc := ⟨.hbm, 179, rfl⟩
abbrev main_call5_v2 : Ref sig .tc := ⟨.hbm, 180, rfl⟩
abbrev main_call5_v3 : Ref sig .tc := ⟨.hbm, 181, rfl⟩
abbrev main_call5_v4 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_cst_21 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_cst_22 : Ref sig .tc := ⟨.hbm, 194, rfl⟩
abbrev main_v104 : Ref sig .tc := ⟨.hbm, 195, rfl⟩
abbrev main_v105 : Ref sig .tc := ⟨.hbm, 196, rfl⟩
abbrev main_cst_23 : Ref sig .tc := ⟨.hbm, 197, rfl⟩
abbrev main_v106 : Ref sig .tc := ⟨.hbm, 198, rfl⟩
abbrev main_v107 : Ref sig .tc := ⟨.hbm, 199, rfl⟩
abbrev main_cst_24 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_cst_25 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_cst_26 : Ref sig .tc := ⟨.hbm, 217, rfl⟩
abbrev main_v123 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev main_cst_27 : Ref sig .tc := ⟨.hbm, 236, rfl⟩
abbrev main_v141 : Ref sig .tc := ⟨.hbm, 237, rfl⟩
abbrev main_v142 : Ref sig .tc := ⟨.hbm, 238, rfl⟩
abbrev main_cst_28 : Ref sig .tc := ⟨.hbm, 239, rfl⟩
abbrev main_call6_v0 : Ref sig .tc := ⟨.hbm, 240, rfl⟩
abbrev main_call6_v1 : Ref sig .tc := ⟨.hbm, 241, rfl⟩
abbrev main_v143 : Ref sig .tc := ⟨.hbm, 242, rfl⟩
abbrev main_v144 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_c : Ref sig .tc := ⟨.hbm, 256, rfl⟩
abbrev main_c_29 : Ref sig .tc := ⟨.hbm, 257, rfl⟩
abbrev main_v157_0 : Ref sig .tc := ⟨.hbm, 258, rfl⟩
abbrev main_v157_1 : Ref sig .tc := ⟨.hbm, 259, rfl⟩
abbrev main_v157_2 : Ref sig .tc := ⟨.hbm, 260, rfl⟩
abbrev main_v157_3 : Ref sig .tc := ⟨.hbm, 261, rfl⟩
abbrev main_v157_4 : Ref sig .tc := ⟨.hbm, 262, rfl⟩
abbrev main_while0c_c_37 : Ref sig .tc := ⟨.hbm, 263, rfl⟩
abbrev main_while0c_v163 : Ref sig .tc := ⟨.hbm, 264, rfl⟩
abbrev main_while0b_c_37 : Ref sig .tc := ⟨.hbm, 265, rfl⟩
abbrev main_while0b_v163 : Ref sig .tc := ⟨.hbm, 266, rfl⟩
abbrev main_while0b_call7_c : Ref sig .tc := ⟨.hbm, 267, rfl⟩
abbrev main_while0b_call7_v0 : Ref sig .tc := ⟨.hbm, 268, rfl⟩
abbrev main_while0b_call7_v1 : Ref sig .tc := ⟨.hbm, 269, rfl⟩
abbrev main_while0b_call7_c_0 : Ref sig .tc := ⟨.hbm, 270, rfl⟩
abbrev main_while0b_call7_v2 : Ref sig .tc := ⟨.hbm, 271, rfl⟩
abbrev main_while0b_call7_v3 : Ref sig .tc := ⟨.hbm, 272, rfl⟩
abbrev main_while0b_call7_c_1 : Ref sig .tc := ⟨.hbm, 273, rfl⟩
abbrev main_while0b_call7_c_2 : Ref sig .tc := ⟨.hbm, 274, rfl⟩
abbrev main_while0b_call7_v4 : Ref sig .tc := ⟨.hbm, 275, rfl⟩
abbrev main_while0b_v164 : Ref sig .tc := ⟨.hbm, 276, rfl⟩
abbrev main_while0b_call8_c : Ref sig .tc := ⟨.hbm, 277, rfl⟩
abbrev main_while0b_call8_v0 : Ref sig .tc := ⟨.hbm, 278, rfl⟩
abbrev main_while0b_call8_v1 : Ref sig .tc := ⟨.hbm, 279, rfl⟩
abbrev main_while0b_call8_c_0 : Ref sig .tc := ⟨.hbm, 280, rfl⟩
abbrev main_while0b_call8_v2 : Ref sig .tc := ⟨.hbm, 281, rfl⟩
abbrev main_while0b_call8_v3 : Ref sig .tc := ⟨.hbm, 282, rfl⟩
abbrev main_while0b_call8_c_1 : Ref sig .tc := ⟨.hbm, 283, rfl⟩
abbrev main_while0b_v165 : Ref sig .tc := ⟨.hbm, 284, rfl⟩
abbrev main_while0b_cst_38 : Ref sig .tc := ⟨.hbm, 285, rfl⟩
abbrev main_while0b_v166 : Ref sig .tc := ⟨.hbm, 286, rfl⟩
abbrev main_while0b_v167 : Ref sig .tc := ⟨.hbm, 287, rfl⟩
abbrev main_while0b_v168 : Ref sig .tc := ⟨.hbm, 288, rfl⟩
abbrev main_while0b_v169 : Ref sig .tc := ⟨.hbm, 289, rfl⟩
abbrev main_while0b_v170 : Ref sig .tc := ⟨.hbm, 290, rfl⟩
abbrev main_while0b_v171 : Ref sig .tc := ⟨.hbm, 291, rfl⟩
abbrev main_while0b_v172 : Ref sig .tc := ⟨.hbm, 292, rfl⟩
abbrev main_while0b_v173 : Ref sig .tc := ⟨.hbm, 293, rfl⟩
abbrev main_while0b_v174 : Ref sig .tc := ⟨.hbm, 294, rfl⟩
abbrev main_while0b_v175 : Ref sig .tc := ⟨.hbm, 295, rfl⟩
abbrev main_while0b_v176 : Ref sig .tc := ⟨.hbm, 296, rfl⟩
abbrev main_while0b_v177 : Ref sig .tc := ⟨.hbm, 297, rfl⟩
abbrev main_while0b_c_39 : Ref sig .tc := ⟨.hbm, 298, rfl⟩
abbrev main_while0b_v178 : Ref sig .tc := ⟨.hbm, 299, rfl⟩
abbrev main_cst_30 : Ref sig .tc := ⟨.hbm, 300, rfl⟩
abbrev main_call9_v0 : Ref sig .tc := ⟨.hbm, 301, rfl⟩
abbrev main_call9_v1 : Ref sig .tc := ⟨.hbm, 302, rfl⟩
abbrev main_v158 : Ref sig .tc := ⟨.hbm, 303, rfl⟩
abbrev main_values_31 : Ref sig .tc := ⟨.hbm, 304, rfl⟩
abbrev main_indices_32 : Ref sig .tc := ⟨.hbm, 305, rfl⟩
abbrev main_v159 : Ref sig .tc := ⟨.hbm, 306, rfl⟩
abbrev main_call10_c : Ref sig .tc := ⟨.hbm, 307, rfl⟩
abbrev main_call10_v0 : Ref sig .tc := ⟨.hbm, 308, rfl⟩
abbrev main_call10_v1 : Ref sig .tc := ⟨.hbm, 309, rfl⟩
abbrev main_call10_c_0 : Ref sig .tc := ⟨.hbm, 310, rfl⟩
abbrev main_call10_v2 : Ref sig .tc := ⟨.hbm, 311, rfl⟩
abbrev main_call10_v3 : Ref sig .tc := ⟨.hbm, 312, rfl⟩
abbrev main_call10_v4 : Ref sig .tc := ⟨.hbm, 313, rfl⟩
abbrev main_call10_c_1 : Ref sig .tc := ⟨.hbm, 314, rfl⟩
abbrev main_call10_c_2 : Ref sig .tc := ⟨.hbm, 315, rfl⟩
abbrev main_call10_v5 : Ref sig .tc := ⟨.hbm, 316, rfl⟩
abbrev main_call10_v6 : Ref sig .tc := ⟨.hbm, 317, rfl⟩
abbrev main_call10_v7 : Ref sig .tc := ⟨.hbm, 318, rfl⟩
abbrev main_call10_v8 : Ref sig .tc := ⟨.hbm, 319, rfl⟩
abbrev main_call10_v9 : Ref sig .tc := ⟨.hbm, 320, rfl⟩
abbrev main_call10_v10 : Ref sig .tc := ⟨.hbm, 321, rfl⟩
abbrev main_call10_c_3 : Ref sig .tc := ⟨.hbm, 322, rfl⟩
abbrev main_call10_v11 : Ref sig .tc := ⟨.hbm, 323, rfl⟩
abbrev main_call10_v12 : Ref sig .tc := ⟨.hbm, 324, rfl⟩
abbrev main_call10_v13 : Ref sig .tc := ⟨.hbm, 325, rfl⟩
abbrev main_call10_cst : Ref sig .tc := ⟨.hbm, 326, rfl⟩
abbrev main_call10_v14 : Ref sig .tc := ⟨.hbm, 327, rfl⟩
abbrev main_v160 : Ref sig .tc := ⟨.hbm, 328, rfl⟩
abbrev main_v161 : Ref sig .tc := ⟨.hbm, 329, rfl⟩
abbrev main_v162 : Ref sig .tc := ⟨.hbm, 330, rfl⟩

abbrev nD : Nat := 1
abbrev τ : Topo := Topo.v7x

variable {F : FTy → Type} [FloatOps F]

abbrev main_while0_count : Scf.Loop 32 := ⟨0#32, 4000#32, 1#32⟩
-- ==== Proof.Nms.Block.lean ====
/-
  The non-maximum-suppression kernel's arithmetic as functions of any block size, each operation in the order the
  kernel has it: the decode of the boxes from their regression deltas and anchors (`decode`, the same for boxes along
  a row and along a column), the suppression table of some boxes along a column against some along a row (`sup`), the
  two "is any true" reductions (`anyCol`, `anyRow`), and what one pass over a block of 256 boxes computes
  (`rowStep`, `colStep`), iterated by `fix` while the column mask changes and at most 256 times.
-/
module

public import Idealize.ShloMosaic.PureOps

@[expose] public section

noncomputable section

namespace Cert.Nms

open Idealize.ShloMosaic

variable {F : FTy → Type} [FloatOps F]

/-! ## Shapes -/

/-- The shape of an `m` by `n` array. -/
abbrev M (m n : ℕ) : Shape := ⟨2, ![m, n]⟩
/-- The shape of a list of `m`. -/
abbrev V (m : ℕ) : Shape := ⟨1, ![m]⟩

theorem broadcasts_col (m n : ℕ) : (M m 1).Broadcasts (M m n) := by
  refine ⟨le_refl _, fun a => ?_⟩
  match a with
  | ⟨0, _⟩ => exact .inr fun _ => rfl
  | ⟨1, _⟩ => exact .inl rfl

theorem broadcasts_row (m n : ℕ) : (M 1 n).Broadcasts (M m n) := by
  refine ⟨le_refl _, fun a => ?_⟩
  match a with
  | ⟨0, _⟩ => exact .inl rfl
  | ⟨1, _⟩ => exact .inr fun _ => rfl

theorem reduces_cols (m n : ℕ) : (M m n).Reduces [1] (V m) :=
  ⟨rfl, Nat.one_pos, fun b => by match b with | ⟨0, _⟩ => rfl⟩

theorem reduces_rows (m n : ℕ) : (M m n).Reduces [0] (V n) :=
  ⟨rfl, Nat.one_pos, fun b => by match b with | ⟨0, _⟩ => rfl⟩

theorem casts_col (m : ℕ) : (V m).ShapeCasts (M m 1) := by
  simp [Shape.ShapeCasts, Shape.numel]

theorem casts_row (n : ℕ) : (V n).ShapeCasts (M 1 n) := by
  simp [Shape.ShapeCasts, Shape.numel]

theorem slices (m n i j p q : ℕ) (hi : i + p ≤ m) (hj : j + q ≤ n) : (M m n).Slices ![i, j] (M p q) :=
  ⟨rfl, fun a => by match a with | ⟨0, _⟩ => exact hi | ⟨1, _⟩ => exact hj⟩

theorem inb (m n i j p q : ℕ) (hi : i + p ≤ m) (hj : j + q ≤ n) :
    ∀ a, (![i, j] : Fin 2 → ℕ) a + (M p q).size a ≤ (M m n).size a :=
  fun a => by match a with | ⟨0, _⟩ => exact hi | ⟨1, _⟩ => exact hj

theorem numel_pos (m n : ℕ) (hm : 0 < m) (hn : 0 < n) : 0 < (M m n).numel := by
  simp [Shape.numel, hm, hn]

theorem lt_1_32 : 1 < 32 := by omega

theorem iotas (a : Fin 2) : (M 256 256).Iotas .tc 32 [a] := by revert a; decide

/-! ## Boxes -/

/-- Boxes over a shape: their corners, their area, and whether each has sides of length at least zero. -/
structure Boxes (F : FTy → Type) (s : Shape) where
  x1 : FVec F s .f32
  y1 : FVec F s .f32
  x2 : FVec F s .f32
  y2 : FVec F s .f32
  valid : IVec s 1
  area : FVec F s .f32

/-- The array of one float word. -/
abbrev lit (s : Shape) (w : BitVec 32) : FVec F s .f32 := broadcast s (Scalar.ofBits (F := F) .f32 w)

/-- A value clipped between two words. -/
def clip (s : Shape) (lo hi : BitVec 32) (x : FVec F s .f32) : FVec F s .f32 :=
  minimumf (lit s hi) (maximumf (lit s lo) x)

section decode
variable (s : Shape) (dx dy dw dh ax1 ay1 ax2 ay2 : FVec F s .f32)

/-- A side of an anchor. -/
def side (a1 a2 : FVec F s .f32) : FVec F s .f32 := addf (subf a2 a1) (lit s 0x3F800000#32)
/-- Its centre. -/
def centre (a1 a2 : FVec F s .f32) : FVec F s .f32 := addf a1 (mulf (lit s 0x3F000000#32) (side s a1 a2))
/-- The centre moved by the delta `d`. -/
def moved (d a1 a2 : FVec F s .f32) : FVec F s .f32 := addf (mulf d (side s a1 a2)) (centre s a1 a2)
/-- The side scaled by the delta `e`. -/
def scaled (e a1 a2 : FVec F s .f32) : FVec F s .f32 :=
  mulf (exp (minimumf e (lit s 0x40845349#32))) (side s a1 a2)
/-- The low edge of the decoded box, clipped to the picture. -/
def lowEdge (hi : BitVec 32) (d e a1 a2 : FVec F s .f32) : FVec F s .f32 :=
  clip s 0x00000000#32 hi (subf (moved s d a1 a2) (mulf (lit s 0x3F000000#32) (scaled s e a1 a2)))
/-- The high edge. -/
def highEdge (hi : BitVec 32) (d e a1 a2 : FVec F s .f32) : FVec F s .f32 :=
  clip s 0x00000000#32 hi
    (subf (addf (moved s d a1 a2) (mulf (lit s 0x3F000000#32) (scaled s e a1 a2))) (lit s 0x3F800000#32))

/-- The decoded boxes. -/
def decode : Boxes F s where
  x1 := lowEdge s 0x4497E000#32 dx dw ax1 ax2
  y1 := lowEdge s 0x4447C000#32 dy dh ay1 ay2
  x2 := highEdge s 0x4497E000#32 dx dw ax1 ax2
  y2 := highEdge s 0x4447C000#32 dy dh ay1 ay2
  valid :=
    andi (cmpf .oge (side s (lowEdge s 0x4497E000#32 dx dw ax1 ax2) (highEdge s 0x4497E000#32 dx dw ax1 ax2)) (lit s 0x00000000#32))
      (cmpf .oge (side s (lowEdge s 0x4447C000#32 dy dh ay1 ay2) (highEdge s 0x4447C000#32 dy dh ay1 ay2)) (lit s 0x00000000#32))
  area := mulf (side s (lowEdge s 0x4497E000#32 dx dw ax1 ax2) (highEdge s 0x4497E000#32 dx dw ax1 ax2))
    (side s (lowEdge s 0x4447C000#32 dy dh ay1 ay2) (highEdge s 0x4447C000#32 dy dh ay1 ay2))

end decode

/-! ## The suppression table -/

/-- The length shared by the intervals of a column and of a row, at least zero. -/
def shared (m n : ℕ) (b1 b2 : FVec F (M m 1) .f32) (r1 r2 : FVec F (M 1 n) .f32) : FVec F (M m n) .f32 :=
  maximumf (lit _ 0x00000000#32)
    (addf (subf (minimumf (broadcastTo (M m n) b2 (broadcasts_col m n)) (broadcastTo (M m n) r2 (broadcasts_row m n)))
      (maximumf (broadcastTo (M m n) b1 (broadcasts_col m n)) (broadcastTo (M m n) r1 (broadcasts_row m n))))
      (lit _ 0x3F800000#32))

/-- Whether the overlap ratio of a column's box and a row's exceeds the threshold. -/
def sup (m n : ℕ) (bx1 by1 bx2 by2 ba : FVec F (M m 1) .f32) (rx1 ry1 rx2 ry2 ra : FVec F (M 1 n) .f32) :
    IVec (M m n) 1 :=
  cmpf .ogt
    (divf (mulf (shared m n bx1 bx2 rx1 rx2) (shared m n by1 by2 ry1 ry2))
      (subf (addf (broadcastTo (M m n) ba (broadcasts_col m n)) (broadcastTo (M m n) ra (broadcasts_row m n)))
        (mulf (shared m n bx1 bx2 rx1 rx2) (shared m n by1 by2 ry1 ry2))))
    (lit _ 0x3F333333#32)

/-- Rows `i … i+p` of a column. -/
abbrev colPart {α : Type} (i p : ℕ) (h : i + p ≤ 4096) (x : (M 4096 1).Idx → α) : (M p 1).Idx → α :=
  extractStridedSlice (M p 1) ![i, 0] x (slices 4096 1 i 0 p 1 h (le_refl _))
/-- Columns `j … j+q` of a row. -/
abbrev rowPart {α : Type} (j q : ℕ) (h : j + q ≤ 4096) (x : (M 1 4096).Idx → α) : (M 1 q).Idx → α :=
  extractStridedSlice (M 1 q) ![0, j] x (slices 1 4096 0 j 1 q (le_refl _) h)

/-- Boxes `i … i+p` of a column of boxes. -/
def Boxes.colPart (i p : ℕ) (h : i + p ≤ 4096) (C : Boxes F (M 4096 1)) : Boxes F (M p 1) :=
  ⟨Nms.colPart i p h C.x1, Nms.colPart i p h C.y1, Nms.colPart i p h C.x2, Nms.colPart i p h C.y2, Nms.colPart i p h C.valid,
    Nms.colPart i p h C.area⟩
/-- Boxes `j … j+q` of a row of boxes. -/
def Boxes.rowPart (j q : ℕ) (h : j + q ≤ 4096) (R : Boxes F (M 1 4096)) : Boxes F (M 1 q) :=
  ⟨Nms.rowPart j q h R.x1, Nms.rowPart j q h R.y1, Nms.rowPart j q h R.x2, Nms.rowPart j q h R.y2, Nms.rowPart j q h R.valid,
    Nms.rowPart j q h R.area⟩

/-- The table of the boxes of a column against the boxes of a row. -/
def supOf (p q : ℕ) (C : Boxes F (M p 1)) (R : Boxes F (M 1 q)) : IVec (M p q) 1 :=
  sup p q C.x1 C.y1 C.x2 C.y2 C.area R.x1 R.y1 R.x2 R.y2 R.area

/-- All 4096 boxes of a row are the row. -/
theorem Boxes.rowPart_all (R : Boxes F (M 1 4096)) : R.rowPart 0 4096 (le_refl _) = R := by
  have h : ∀ {α : Type} (x : (M 1 4096).Idx → α), Nms.rowPart 0 4096 (le_refl _) x = x := by
    intro α x
    funext j
    refine congrArg x (funext fun a => Fin.ext ?_)
    match a with
    | ⟨0, _⟩ => exact Nat.zero_add _
    | ⟨1, _⟩ => exact Nat.zero_add _
  unfold Boxes.rowPart
  simp only [h]

/-! ## Is any true -/

/-- The floats 1 and 0 for true and false. -/
abbrev oneZero (s : Shape) (x : IVec s 1) : FVec F s .f32 := select x (lit s 0x3F800000#32) (lit s 0x00000000#32)

/-- Along the rows of a table: whether any column holds true. -/
def anyCol (m n : ℕ) (x : IVec (M m n) 1) : IVec (M m 1) 1 :=
  shapeCast (M m 1)
    (cmpf .ogt (multiReduction (F := F) .maximumf [1] (V m) (oneZero (M m n) x) 0xFF800000#32 (reduces_cols m n) (.inl rfl) rfl)
      (lit (V m) 0x00000000#32)) (casts_col m)

/-- Along the columns of a table: whether any row holds true. -/
def anyRow (m n : ℕ) (x : IVec (M m n) 1) : IVec (M 1 n) 1 :=
  shapeCast (M 1 n)
    (cmpf .ogt (multiReduction (F := F) .maximumf [0] (V n) (oneZero (M m n) x) 0xFF800000#32 (reduces_rows m n) (.inl rfl) rfl)
      (lit (V n) 0x00000000#32)) (casts_row n)

/-! ## One block -/

/-- A mask of words as a mask of bits, and back. -/
abbrev nz (s : Shape) (x : IVec s 32) : IVec s 1 := cmpi .ne x (broadcast s 0#32)
abbrev wide (s : Shape) (x : IVec s 1) : IVec s 32 := extui 32 x lt_1_32
/-- The negation of a mask. -/
abbrev neg (s : Shape) (x : IVec s 1) : IVec s 1 := xori x (constantI s 1 1#1)

/-- The row mask from a column mask: alive, and hit by no kept box of the column in the table `t`. -/
def rowStep (t : IVec (M 256 256) 1) (alive : IVec (M 1 256) 1) (a : IVec (M 256 1) 1) : IVec (M 1 256) 1 :=
  andi alive (neg (M 1 256) (anyRow (F := F) 256 256 (andi t (broadcastTo (M 256 256) a (broadcasts_col 256 256)))))

/-- The column mask from a row mask. -/
def colStep (t : IVec (M 256 256) 1) (alive : IVec (M 256 1) 1) (a : IVec (M 1 256) 1) : IVec (M 256 1) 1 :=
  andi alive (neg (M 256 1) (anyCol (F := F) 256 256 (andi t (broadcastTo (M 256 256) a (broadcasts_row 256 256)))))

/-- The block's strict order: row before column, and column before row. -/
def lowM : IVec (M 256 256) 1 := cmpi .slt (iota .tc (M 256 256) 32 [0] (iotas 0)) (iota .tc (M 256 256) 32 [1] (iotas 1))
def uppM : IVec (M 256 256) 1 := cmpi .sgt (iota .tc (M 256 256) 32 [0] (iotas 0)) (iota .tc (M 256 256) 32 [1] (iotas 1))

theorem casts_3 : (M 256 1).ShapeCasts ⟨3, ![1, 256, 1]⟩ := by decide
theorem reduces_3 : (⟨3, ![1, 256, 1]⟩ : Shape).Reduces [1, 2] (V 1) := by decide
theorem casts_111 : (V 1).ShapeCasts ⟨3, ![1, 1, 1]⟩ := by decide
theorem inpos_111 : ∀ a, (![0, 0, 0] : Fin 3 → ℕ) a < (⟨3, ![1, 1, 1]⟩ : Shape).size a := by decide

/-- The word that tells whether a column mask holds any true. -/
def anyWord (x : IVec (M 256 1) 1) : BitVec 32 :=
  Scalar.extui (Scalar.cmpf (F := F) .ogt
    (extractAt ![0, 0, 0] (shapeCast ⟨3, ![1, 1, 1]⟩
      (multiReduction (F := F) .maximumf [1, 2] (V 1) (shapeCast ⟨3, ![1, 256, 1]⟩ (oneZero (M 256 1) x) casts_3) 0xFF800000#32
        reduces_3 (.inl rfl) rfl) casts_111) inpos_111) (Scalar.ofBits .f32 0x00000000#32))

/-- The mask after one pass, from the mask before it. -/
def pass (lo : IVec (M 256 256) 1) (ar : IVec (M 1 256) 1) (up : IVec (M 256 256) 1) (ac : IVec (M 256 1) 1)
    (a : IVec (M 256 1) 32) : IVec (M 256 1) 1 :=
  colStep (F := F) up ac (rowStep (F := F) lo ar (nz (M 256 1) a))

/-- The word that tells whether the pass changed the mask. -/
def moves (lo : IVec (M 256 256) 1) (ar : IVec (M 1 256) 1) (up : IVec (M 256 256) 1) (ac : IVec (M 256 1) 1)
    (a : IVec (M 256 1) 32) : BitVec 32 :=
  anyWord (F := F) (xori (pass (F := F) lo ar up ac a) (nz (M 256 1) a))

/-- The loop's test. -/
abbrev goes (ch it : BitVec 32) : BitVec 1 := Scalar.andi (Scalar.cmpi .ne ch 0#32) (Scalar.cmpi .slt it 256#32)

/-- The loop with at most `k` passes to run. -/
def fix (lo : IVec (M 256 256) 1) (ar : IVec (M 1 256) 1) (up : IVec (M 256 256) 1) (ac : IVec (M 256 1) 1) :
    ℕ → IVec (M 256 1) 32 → BitVec 32 → BitVec 32 → IVec (M 256 1) 32 × BitVec 32 × BitVec 32
  | 0, a, ch, it => (a, ch, it)
  | k + 1, a, ch, it =>
    if goes ch it = 1#1 then
      fix lo ar up ac k (wide (M 256 1) (pass (F := F) lo ar up ac a)) (moves (F := F) lo ar up ac a) (Scalar.addi it 1#32)
    else (a, ch, it)

end Cert.Nms
-- ==== Proof.Nms.Loop.lean ====
/-
  The fixed-point loop of a block, for any label whose function tests `goes` and calls the label again on the next mask:
  the call returns `fix` with 256 passes to run.
-/
module

public import proofs.«01_k».proof.Proof.Nms.Block
public import Idealize.ShloMosaic.Lib.Pipeline.Sound
public import Idealize.ShloMosaic.Lib.Tactic

@[expose] public section

set_option maxRecDepth 16384

noncomputable section

namespace Cert.Nms

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem goes_end (ch : BitVec 32) : goes ch (BitVec.ofNat 32 256) ≠ 1#1 := by
  unfold goes Scalar.andi Scalar.cmpi IntOp.cmpi
  have : (BitVec.ofNat 32 256).slt 256#32 = false := by decide
  intro h
  simp [IntOp.andi] at h

section rules

variable {F : FTy → Type} [FloatOps F]
variable {nD : Nat} {τ : Topo} {sig : RefSig} {Ix : Type} [DecidableEq Ix]
variable {Name : Type} [DecidableEq Name] {U : Type} [URA U]
variable {Lvl : Type} [Preorder Lvl] {Λ : Labels}

local notation "𝕄" => MT nD τ sig Ix (Elt F) Name U Lvl

variable {defs : Defs nD τ sig (Elt F) Λ} (c : Thread nD τ) (E : Set Name)

/-- The label called with `k` passes to run after the first `j`. -/
theorem wp_loop (ℓ : Λ.Label) (lo : IVec (M 256 256) 1) (ar : IVec (M 1 256) 1) (up : IVec (M 256 256) 1) (ac : IVec (M 256 1) 1)
    (mk : IVec (M 256 1) 32 → BitVec 32 → BitVec 32 → Λ.Args ℓ)
    (inv : IVec (M 256 1) 32 × BitVec 32 × BitVec 32 → Λ.Result ℓ)
    (hdef : ∀ a ch it, defs c.2 ℓ (mk a ch it) =
      if goes ch it = 1#1 then
        .op (.call ℓ (mk (wide (M 256 1) (pass (F := F) lo ar up ac a)) (moves (F := F) lo ar up ac a) (Scalar.addi it 1#32))) .ret
      else .ret (inv (a, ch, it))) :
    ∀ k j, j + k = 256 → ∀ a ch (K : Λ.Result ℓ → sProp (MT nD τ sig Ix (Elt F) Name U Lvl)),
      K (inv (fix (F := F) lo ar up ac k a ch (BitVec.ofNat 32 j)))
        ⊢ wp frame (wpE defs Variants.nat c (some k)) E (defs c.2 ℓ (mk a ch (BitVec.ofNat 32 j))) K := by
  intro k
  induction k with
  | zero =>
    intro j hj a ch K
    obtain rfl : j = 256 := by omega
    rw [hdef, if_neg (goes_end ch), wp_ret, fix]
    iintro H; imodintro; iexact H
  | succ k ih =>
    intro j hj a ch K
    rw [hdef, fix]
    by_cases h : goes ch (BitVec.ofNat 32 j) = 1#1
    · rw [if_pos h, if_pos h]
      have hit : Scalar.addi (BitVec.ofNat 32 j) 1#32 = BitVec.ofNat 32 (j + 1) := by
        unfold Scalar.addi IntOp.addi
        exact (BitVec.ofNat_add ..).symm
      rw [hit]
      iintro H
      iapply (wp_call_spec Variants.nat c (some (k + 1)) E
        (pure (inv (fix (F := F) lo ar up ac k (wide (M 256 1) (pass (F := F) lo ar up ac a)) (moves (F := F) lo ar up ac a) (BitVec.ofNat 32 (j + 1))))
          : sWPT 𝕄 (Λ.Result ℓ)) k (fun u hu => by cases hu; exact Nat.lt_succ_self k)
        (fun K' => ih (j + 1) (by omega) _ _ K'))
      rw [show ∀ (v : Λ.Result ℓ) (K' : Λ.Result ℓ → sProp 𝕄), (pure v : sWPT 𝕄 (Λ.Result ℓ)) K' = K' v from fun _ _ => rfl, wp_ret]
      imodintro; iexact H
    · rw [if_neg h, if_neg h, wp_ret]
      iintro H; imodintro; iexact H

/-- The label called from outside the loop. -/
theorem wp_loop_call (ℓ : Λ.Label) (lo : IVec (M 256 256) 1) (ar : IVec (M 1 256) 1) (up : IVec (M 256 256) 1) (ac : IVec (M 256 1) 1)
    (mk : IVec (M 256 1) 32 → BitVec 32 → BitVec 32 → Λ.Args ℓ)
    (inv : IVec (M 256 1) 32 × BitVec 32 × BitVec 32 → Λ.Result ℓ)
    (hdef : ∀ a ch it, defs c.2 ℓ (mk a ch it) =
      if goes ch it = 1#1 then
        .op (.call ℓ (mk (wide (M 256 1) (pass (F := F) lo ar up ac a)) (moves (F := F) lo ar up ac a) (Scalar.addi it 1#32))) .ret
      else .ret (inv (a, ch, it)))
    (a : IVec (M 256 1) 32) (ch : BitVec 32) (K : Λ.Result ℓ → sProp (MT nD τ sig Ix (Elt F) Name U Lvl)) :
      K (inv (fix (F := F) lo ar up ac 256 a ch 0#32))
        ⊢ wp frame (wpE defs Variants.nat c none) E (.op (.call ℓ (mk a ch 0#32)) .ret) K := by
  iintro H
  iapply (wp_call_spec Variants.nat c none E (pure (inv (fix (F := F) lo ar up ac 256 a ch 0#32)) : sWPT 𝕄 (Λ.Result ℓ)) 256
    (fun u hu => nomatch hu) (fun K' => wp_loop c E ℓ lo ar up ac mk inv hdef 256 0 rfl a ch K'))
  rw [show ∀ (v : Λ.Result ℓ) (K' : Λ.Result ℓ → sProp 𝕄), (pure v : sWPT 𝕄 (Λ.Result ℓ)) K' = K' v from fun _ _ => rfl, wp_ret]
  imodintro; iexact H

end rules

end Cert.Nms

end
-- ==== Proof.Nms.Owns.lean ====
/-
  Loads and stores of a memref owned whole, told of the contents read through it: a load gives the contents at the
  rectangle's places, a store through a rectangle leaves `put`: the stored value on the rectangle and the old contents
  off it.
-/
module

public import Idealize.ShloMosaic.Lib.Pipeline.Sound
public import Idealize.ShloMosaic.Lib.Tactic

@[expose] public section

set_option maxRecDepth 16384

noncomputable section

namespace Cert.Nms

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Contents `X` with `w` written on a rectangle. -/
def put {α : Type} {s : Shape} (r : Rect s) (w : r.shape.Idx → α) (X : s.Idx → α) : s.Idx → α :=
  fun i => match preimage? r.emb i with
    | some x => w x
    | none => X i

theorem put_emb {α : Type} {s : Shape} (r : Rect s) (w : r.shape.Idx → α) (X : s.Idx → α) (x : r.shape.Idx) :
    put r w X (r.emb x) = w x := by
  unfold put; rw [preimage?_emb]

theorem put_off {α : Type} {s : Shape} (r : Rect s) (w : r.shape.Idx → α) (X : s.Idx → α) (i : s.Idx)
    (h : ∀ x, r.emb x ≠ i) : put r w X i = X i := by
  unfold put; rw [preimage?_eq_none h]

section rules

variable {nD : Nat} {τ : Topo} {sig : RefSig} {Ix : Type} [DecidableEq Ix]
variable {Val : EltTy → Type} {Name : Type} [DecidableEq Name] {U : Type} [URA U]
variable {Lvl : Type} [Preorder Lvl] {Λ : Labels}

local notation "𝕄" => MT nD τ sig Ix Val Name U Lvl

variable {defs : Defs nD τ sig Val Λ} (𝒱 : Variants) (c : Thread nD τ) (bd : Option 𝒱.V) (E : Set Name)
variable {s : Shape} {e : EltTy} {α : Type} {Q : α → sProp (MT nD τ sig Ix Val Name U Lvl)}

theorem wp_load_owns {cs : CoreSpace} {m : Memref sig c.2.kind cs s e} {r : LoadRect s} {hl : m.view.LoadsAt r}
    {k : (r.shape.Idx → Val e) → Prog (TpuEff nD τ sig Val Λ c.2) α} {X : s.Idx → Val e} :
    (owns c m fullShare X : sProp 𝕄)
      ⊢ iprop(((owns c m fullShare X : sProp 𝕄) -∗ wp frame (wpE defs 𝒱 c bd) E (k fun x => X (r.idx x)) Q)
        -∗ wp frame (wpE defs 𝒱 c bd) E (.op (.load m r hl) k) Q) := by
  unfold owns
  iintro ⟨%f, %hf, H⟩ Hk
  subst hf
  iapply (wp_load 𝒱 c bd E (m := m) (S := m.view.set) (Finset.map_subset_map.mpr (Finset.subset_univ _))) $$ H
  iintro H
  iapply Hk
  iexists f
  isplitr; · ipureintro; rfl
  iexact H

theorem wp_store_owns {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop(((owns c m fullShare (put r w X) : sProp 𝕄) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  have hsub : (m.access r).setOn Finset.univ ⊆ m.view.set := by
    intro i hi
    obtain ⟨x, -, rfl⟩ := Finset.mem_map.mp hi
    exact Finset.mem_map.mpr ⟨r.emb x, Finset.mem_univ _, rfl⟩
  iapply (wp_store 𝒱 c bd E (m := m) (r := r) (Mk := Finset.univ) (S := m.view.set) hsub) $$ H
  iintro H
  iapply Hk
  iexists ((m.access r).write Val f w Finset.univ)
  isplitr
  · ipureintro
    funext i
    by_cases h : ∃ x, r.emb x = i
    · obtain ⟨x, rfl⟩ := h
      rw [put_emb]
      exact View.read_slice_write_emb r f w (Finset.mem_univ x)
    · rw [put_off r w _ i (fun x hx => h ⟨x, hx⟩)]
      refine View.read_slice_write_of_not_mem r f w Finset.univ (fun hm => h ?_)
      obtain ⟨x, -, hx⟩ := Finset.mem_map.mp hm
      exact ⟨x, hx⟩
  iexact H

end rules

end Cert.Nms

end
-- ==== Proof.Nms.State.lean ====
/-
  What the blocks do to the two masks kept between them, as functions: the row mask and the column mask, before and after
  each block, and the result's block of eight rows.
-/
module

public import proofs.«01_k».proof.Proof.Nms.Block
public import proofs.«01_k».proof.Proof.Nms.Owns

@[expose] public section

set_option maxRecDepth 16384

noncomputable section

namespace Cert.Nms

open Idealize.ShloMosaic Idealize.SL.Sem

variable {F : FTy → Type} [FloatOps F]

/-- The words of the row mask and of the column mask. -/
abbrev Masks : Type := IVec (M 1 4096) 32 × IVec (M 4096 1) 32

/-- Columns `j … j+q` of a row of 4096, as a rectangle. -/
abbrev rowRect (j q : ℕ) (h : j + q ≤ 4096) : Rect (M 1 4096) :=
  Rect.unit (s := M 1 4096) ![0, j] (M 1 q).size (inb 1 4096 0 j 1 q (le_refl _) h)
/-- Rows `i … i+p` of a column of 4096, as a rectangle. -/
abbrev colRect (i p : ℕ) (h : i + p ≤ 4096) : Rect (M 4096 1) :=
  Rect.unit (s := M 4096 1) ![i, 0] (M p 1).size (inb 4096 1 i 0 p 1 h (le_refl _))

/-- The loop's result for a block, as words. -/
def fixed (t : IVec (M 256 256) 1) (ac : IVec (M 256 1) 1) (ar : IVec (M 1 256) 1) : IVec (M 256 1) 32 :=
  (fix (F := F) (andi t lowM) ar (andi t uppM) ac 256 (wide _ ac) 1#32 0#32).1

/-- The masks after the end of a block. -/
def endS (lo : ℕ) (hlo : lo + 256 ≤ 4096) (t : IVec (M 256 256) 1) (ac : IVec (M 256 1) 1) (ar : IVec (M 1 256) 1) (s : Masks) :
    Masks :=
  (put (rowRect lo 256 hlo) (shapeCast (M 1 256) (wide _ (rowStep (F := F) (andi t lowM) ar (nz (M 256 1) (fixed (F := F) t ac ar)))) rfl) s.1,
   put (colRect lo 256 hlo) (shapeCast (M 256 1) (wide _ (nz (M 256 1) (fixed (F := F) t ac ar))) rfl) s.2)

variable (C : Boxes F (M 4096 1)) (R : Boxes F (M 1 4096))

/-- The masks after the first block. -/
def blk0S (s : Masks) : Masks :=
  endS (F := F) 0 (by omega) (supOf 256 256 (C.colPart 0 256 (by omega)) (R.rowPart 0 256 (by omega)))
    (andi (colPart 0 256 (by omega) C.valid)
      (neg _ (anyCol (F := F) 256 256 (andi (supOf 256 256 (C.colPart 0 256 (by omega)) (R.rowPart 0 256 (by omega)))
        (broadcastTo (M 256 256) (nz _ fun x => s.1 ((rowRect 0 256 (by omega)).toLoadRect.idx x)) (broadcasts_row 256 256))))))
    (andi (rowPart 0 256 (by omega) R.valid) (neg _ (broadcast (M 1 256) 0#1))) s

/-- The masks after the block `lo … hi`. -/
def blkS (lo hi : ℕ) (h : lo + 256 = hi) (hhi : hi ≤ 4096) (Rh : Boxes F (M 1 hi)) (s : Masks) : Masks :=
  endS (F := F) lo (by omega)
    (extractStridedSlice (M 256 256) ![0, lo] (supOf 256 hi (C.colPart lo 256 (by omega)) Rh) (slices 256 hi 0 lo 256 256 (by omega) (by omega)))
    (andi (colPart lo 256 (by omega) C.valid)
      (neg _ (anyCol (F := F) 256 hi (andi (supOf 256 hi (C.colPart lo 256 (by omega)) Rh)
        (broadcastTo (M 256 hi) (nz _ fun x => s.1 ((rowRect 0 hi (by omega)).toLoadRect.idx x)) (broadcasts_row 256 hi))))))
    (andi (rowPart lo 256 (by omega) R.valid)
      (neg _ (anyRow (F := F) lo 256 (andi (supOf lo 256 (C.colPart 0 lo (by omega)) (R.rowPart lo 256 (by omega)))
        (broadcastTo (M lo 256) (nz _ fun x => s.2 ((colRect 0 lo (by omega)).toLoadRect.idx x)) (broadcasts_col lo 256)))))) s

/-- The masks zeroed. -/
def zeroS (s : Masks) : Masks :=
  (put (rowRect 0 4096 (by omega)) (shapeCast (M 1 4096) (broadcast (M 1 4096) 0#32) rfl) s.1,
   put (colRect 0 4096 (by omega)) (shapeCast (M 4096 1) (broadcast (M 4096 1) 0#32) rfl) s.2)

/-- The masks after all sixteen blocks. -/
def blocksS (s : Masks) : Masks :=
  let s := blk0S C R s
  let s := blkS C R 256 512 (by omega) (by omega) (R.rowPart 0 512 (by omega)) s
  let s := blkS C R 512 768 (by omega) (by omega) (R.rowPart 0 768 (by omega)) s
  let s := blkS C R 768 1024 (by omega) (by omega) (R.rowPart 0 1024 (by omega)) s
  let s := blkS C R 1024 1280 (by omega) (by omega) (R.rowPart 0 1280 (by omega)) s
  let s := blkS C R 1280 1536 (by omega) (by omega) (R.rowPart 0 1536 (by omega)) s
  let s := blkS C R 1536 1792 (by omega) (by omega) (R.rowPart 0 1792 (by omega)) s
  let s := blkS C R 1792 2048 (by omega) (by omega) (R.rowPart 0 2048 (by omega)) s
  let s := blkS C R 2048 2304 (by omega) (by omega) (R.rowPart 0 2304 (by omega)) s
  let s := blkS C R 2304 2560 (by omega) (by omega) (R.rowPart 0 2560 (by omega)) s
  let s := blkS C R 2560 2816 (by omega) (by omega) (R.rowPart 0 2816 (by omega)) s
  let s := blkS C R 2816 3072 (by omega) (by omega) (R.rowPart 0 3072 (by omega)) s
  let s := blkS C R 3072 3328 (by omega) (by omega) (R.rowPart 0 3328 (by omega)) s
  let s := blkS C R 3328 3584 (by omega) (by omega) (R.rowPart 0 3584 (by omega)) s
  let s := blkS C R 3584 3840 (by omega) (by omega) (R.rowPart 0 3840 (by omega)) s
  blkS C R 3840 4096 (by omega) (by omega) R s

/-! ## The windows' blocks -/

/-- A block of eight rows, of eight columns, and of one row. -/
abbrev R8 : Shape := ⟨3, ![1, 8, 4096]⟩
abbrev C8 : Shape := ⟨3, ![1, 4096, 8]⟩
abbrev R1 : Shape := ⟨3, ![1, 1, 4096]⟩
abbrev C1 : Shape := ⟨3, ![1, 4096, 1]⟩

theorem inbR (k : ℕ) (hk : k < 8) : ∀ a, (![0, k, 0] : Fin 3 → ℕ) a + R1.size a ≤ R8.size a :=
  fun a => by match a with | ⟨0, _⟩ => exact le_refl _ | ⟨1, _⟩ => exact hk | ⟨2, _⟩ => exact le_refl _
theorem inbC (k : ℕ) (hk : k < 8) : ∀ a, (![0, 0, k] : Fin 3 → ℕ) a + C1.size a ≤ C8.size a :=
  fun a => by match a with | ⟨0, _⟩ => exact le_refl _ | ⟨1, _⟩ => exact le_refl _ | ⟨2, _⟩ => exact hk
theorem inbW : ∀ a, (![0, 0, 0] : Fin 3 → ℕ) a + R1.size a ≤ R1.size a := fun a => by
  match a with | ⟨0, _⟩ => exact le_refl _ | ⟨1, _⟩ => exact le_refl _ | ⟨2, _⟩ => exact le_refl _

abbrev rect8 (k : ℕ) (hk : k < 8) : Rect R8 := Rect.unit (s := R8) ![0, k, 0] R1.size (inbR k hk)
abbrev rectC8 (k : ℕ) (hk : k < 8) : Rect C8 := Rect.unit (s := C8) ![0, 0, k] C1.size (inbC k hk)
abbrev rectR1 : Rect R1 := Rect.unit (s := R1) ![0, 0, 0] R1.size inbW

theorem casts_R1 : R1.ShapeCasts (M 1 4096) := by decide
theorem casts_C1 : C1.ShapeCasts (M 4096 1) := by decide
theorem casts_toR1 : (M 1 4096).ShapeCasts R1 := by decide

/-- Row `k` of a block of eight rows, and column `k` of a block of eight columns. -/
def rowAt (X : FVec F R8 .f32) (k : ℕ) (hk : k < 8) : FVec F (M 1 4096) .f32 :=
  shapeCast (M 1 4096) (fun x => X ((rect8 k hk).toLoadRect.idx x)) casts_R1
def colAt (X : FVec F C8 .f32) (k : ℕ) (hk : k < 8) : FVec F (M 4096 1) .f32 :=
  shapeCast (M 4096 1) (fun x => X ((rectC8 k hk).toLoadRect.idx x)) casts_C1

/-- The boxes decoded from a block of eight rows, and from a block of eight columns. -/
def rowBoxes (X : FVec F R8 .f32) : Boxes F (M 1 4096) :=
  decode (M 1 4096) (rowAt X 0 (by omega)) (rowAt X 1 (by omega)) (rowAt X 2 (by omega)) (rowAt X 3 (by omega))
    (rowAt X 4 (by omega)) (rowAt X 5 (by omega)) (rowAt X 6 (by omega)) (rowAt X 7 (by omega))
def colBoxes (X : FVec F C8 .f32) : Boxes F (M 4096 1) :=
  decode (M 4096 1) (colAt X 0 (by omega)) (colAt X 1 (by omega)) (colAt X 2 (by omega)) (colAt X 3 (by omega))
    (colAt X 4 (by omega)) (colAt X 5 (by omega)) (colAt X 6 (by omega)) (colAt X 7 (by omega))

/-- Row `k` written. -/
def putRow (k : ℕ) (hk : k < 8) (w : FVec F (M 1 4096) .f32) (X : FVec F R8 .f32) : FVec F R8 .f32 :=
  put (rect8 k hk) (shapeCast R1 w casts_toR1) X

/-- The score where the row mask holds, and the low word elsewhere. -/
def masked (s : Masks) (S : FVec F R1 .f32) : FVec F (M 1 4096) .f32 :=
  select (nz _ fun x => s.1 ((rowRect 0 4096 (by omega)).toLoadRect.idx x))
    (shapeCast (M 1 4096) (fun x => S (rectR1.toLoadRect.idx x)) casts_R1) (lit (M 1 4096) 0xD01502F9#32)

/-- The result's block from the boxes, the scores, what the masks end as, and what the block held. -/
def outOf (R : Boxes F (M 1 4096)) (s : Masks) (S : FVec F R1 .f32) (X : FVec F R8 .f32) : FVec F R8 .f32 :=
  putRow 7 (by omega) (lit (M 1 4096) 0x00000000#32) <| putRow 6 (by omega) (lit (M 1 4096) 0x00000000#32) <|
  putRow 5 (by omega) (lit (M 1 4096) 0x00000000#32) <| putRow 4 (by omega) (masked s S) <|
  putRow 3 (by omega) R.y2 <| putRow 2 (by omega) R.x2 <| putRow 1 (by omega) R.y1 <| putRow 0 (by omega) R.x1 X

end Cert.Nms

end
-- ==== Proof.Nms.Put.lean ====
/-
  Reading what was put on a rectangle: on it the put value, off it the old one. The result's block does not depend on what it
  held, and the zeroed masks do not depend on what they held.
-/
module

public import proofs.«01_k».proof.Proof.Nms.State

@[expose] public section

set_option maxRecDepth 16384

noncomputable section

namespace Cert.Nms

open Idealize.ShloMosaic Idealize.SL.Sem

section
variable {α : Type} {s : Shape} {off size : Fin s.rank → ℕ} {h : ∀ a, off a + size a ≤ s.size a}

theorem put_in (w : (Rect.unit off size h).shape.Idx → α) (X : s.Idx → α) (i : s.Idx) (x : (Rect.unit off size h).shape.Idx)
    (hx : ∀ a, (i a).val = off a + (x a).val) : put (Rect.unit off size h) w X i = w x := by
  have e : (Rect.unit off size h).emb x = i := by
    funext a; apply Fin.ext; rw [Rect.emb_apply, hx a]; simp
  rw [← e, put_emb]

theorem put_out (w : (Rect.unit off size h).shape.Idx → α) (X : s.Idx → α) (i : s.Idx) (a : Fin s.rank)
    (ha : (i a).val < off a ∨ off a + size a ≤ (i a).val) : put (Rect.unit off size h) w X i = X i := by
  refine put_off _ _ _ _ fun x hx => ?_
  have e := congrArg (fun j : s.Idx => (j a).val) hx
  have e' : (i a).val = off a + (x a).val := by rw [← e]; simp
  have hb : (x a).val < size a := (x a).isLt
  omega

end

variable {F : FTy → Type} [FloatOps F]

/-- The place `(0, 0, j)` of one row. -/
abbrev r1 (j : Fin 4096) : R1.Idx := fun a =>
  match a with | ⟨0, _⟩ => ⟨0, Nat.zero_lt_one⟩ | ⟨1, _⟩ => ⟨0, Nat.zero_lt_one⟩ | ⟨2, _⟩ => j

theorem putRow_at (k : ℕ) (hk : k < 8) (w : FVec F (M 1 4096) .f32) (X : FVec F R8 .f32) (i : R8.Idx) (h : (i 1).val = k) :
    putRow k hk w X i = shapeCast R1 w casts_toR1 (r1 (i 2)) := by
  unfold putRow
  refine put_in _ _ i (r1 (i 2)) fun a => ?_
  match a with
  | ⟨0, h0⟩ => exact (Nat.lt_one_iff.mp (i ⟨0, h0⟩).isLt).trans rfl
  | ⟨1, _⟩ => exact h
  | ⟨2, _⟩ => exact (Nat.zero_add _).symm

theorem putRow_ne (k : ℕ) (hk : k < 8) (w : FVec F (M 1 4096) .f32) (X : FVec F R8 .f32) (i : R8.Idx) (h : (i 1).val ≠ k) :
    putRow k hk w X i = X i := by
  unfold putRow
  refine put_out _ _ i 1 ?_
  show (i 1).val < k ∨ k + 1 ≤ (i 1).val
  omega

/-- Two blocks the same off row `k` are the same once row `k` is put. -/
theorem putRow_below (k : ℕ) (hk : k < 8) (w : FVec F (M 1 4096) .f32) {X Y : FVec F R8 .f32}
    (h : ∀ i : R8.Idx, (i 1).val < k → X i = Y i) (i : R8.Idx) (hi : (i 1).val < k + 1) :
    putRow k hk w X i = putRow k hk w Y i := by
  by_cases e : (i 1).val = k
  · rw [putRow_at k hk w X i e, putRow_at k hk w Y i e]
  · rw [putRow_ne k hk w X i e, putRow_ne k hk w Y i e, h i (by omega)]

/-- The result's block does not depend on what it held. -/
theorem outOf_indep (R : Boxes F (M 1 4096)) (s : Masks) (S : FVec F R1 .f32) (X Y : FVec F R8 .f32) :
    outOf R s S X = outOf R s S Y := by
  funext i
  unfold outOf
  refine putRow_below _ _ _ ?_ i (i 1).isLt
  refine putRow_below _ _ _ ?_
  refine putRow_below _ _ _ ?_
  refine putRow_below _ _ _ ?_
  refine putRow_below _ _ _ ?_
  refine putRow_below _ _ _ ?_
  refine putRow_below _ _ _ ?_
  refine putRow_below _ _ _ ?_
  exact fun i hi => absurd hi (Nat.not_lt_zero _)

/-- The masks with no box kept. -/
def noneS : Masks := (fun _ => 0#32, fun _ => 0#32)

theorem zeroS_eq (s : Masks) : zeroS s = noneS := by
  unfold zeroS noneS
  refine Prod.ext (funext fun i => ?_) (funext fun i => ?_)
  · exact (put_in _ _ i i fun a => by match a with | ⟨0, _⟩ => exact (Nat.zero_add _).symm | ⟨1, _⟩ => exact (Nat.zero_add _).symm).trans rfl
  · exact (put_in _ _ i i fun a => by match a with | ⟨0, _⟩ => exact (Nat.zero_add _).symm | ⟨1, _⟩ => exact (Nat.zero_add _).symm).trans rfl

/-- The result's block as a function of the boxes' rows, their columns and the scores. -/
def result (X1 : FVec F R8 .f32) (X2 : FVec F C8 .f32) (X3 : FVec F R1 .f32) : FVec F R8 .f32 :=
  outOf (rowBoxes X1) (blocksS (colBoxes X2) (rowBoxes X1) noneS) X3 X1

end Cert.Nms

end
-- ==== Proof.KI.Body.lean ====
/-
  The non-maximum-suppression kernel's body as a short program: the decode of the boxes, then sixteen times the one
  block program `blk` (the first block's, `blk0`, has no earlier boxes), then the masked scores. `body_eq` says the
  printed body is this program.
-/
module

public import proofs.«01_k».proof.Proof.Nms.Block
public import proofs.«01_k».proof.Proof.Gen.KernelIdeal
public import proofs.«01_k».proof.Proof.Gen.KernelIdeal.Skeleton

@[expose] public section

set_option maxRecDepth 16384

noncomputable section

namespace Cert.Proof.KI

open Cert.KernelIdeal Cert.KernelIdeal.Gen Cert.Nms
open Idealize.ShloMosaic Idealize.SL.Sem

variable {F : FTy → Type} [FloatOps F]

/-- The programs of the kernel's bodies. -/
abbrev Pr (F : FTy → Type) [FloatOps F] (α : Type) := Prog (TpuEff nD τ sig (Elt F) (Λ₀ F) .tc) α

/-- The loop of one block: from the two tables, the two alive masks and the first column mask. -/
abbrev Loop (F : FTy → Type) [FloatOps F] :=
  IVec (M 256 256) 1 → IVec (M 1 256) 1 → IVec (M 256 256) 1 → IVec (M 256 1) 1 → IVec (M 256 1) 32 → BitVec 32 → BitVec 32 →
    Pr F (IVec (M 256 1) 32 × BitVec 32 × BitVec 32)

section prog
variable (a5 : Memref sig .tc .vmem (M 1 4096) .i32) (a6 : Memref sig .tc .vmem (M 4096 1) .i32)

/-- Load columns `j … j+q` of the row mask's words. -/
abbrev loadRow (j q : ℕ) (h : j + q ≤ 4096) (hq : 0 < q) : Pr F (Vec F (M 1 q) .i32) :=
  Prog.lift (.load a5 (Rect.unit (s := M 1 4096) ![0, j] (M 1 q).size (inb 1 4096 0 j 1 q (le_refl _) h)).toLoadRect
    (View.loadsAt_vmem (numel_pos 1 q Nat.one_pos hq)))
abbrev storeRow (j q : ℕ) (h : j + q ≤ 4096) (hq : 0 < q) (w : Vec F (M 1 q) .i32) : Pr F PUnit :=
  Prog.lift (.store a5 (Rect.unit (s := M 1 4096) ![0, j] (M 1 q).size (inb 1 4096 0 j 1 q (le_refl _) h)) w Finset.univ
    (View.stores_vmem_bits_univ (numel_pos 1 q Nat.one_pos hq) rfl) (.inl rfl))
/-- Load rows `i … i+p` of the column mask's words. -/
abbrev loadCol (i p : ℕ) (h : i + p ≤ 4096) (hp : 0 < p) : Pr F (Vec F (M p 1) .i32) :=
  Prog.lift (.load a6 (Rect.unit (s := M 4096 1) ![i, 0] (M p 1).size (inb 4096 1 i 0 p 1 h (le_refl _))).toLoadRect
    (View.loadsAt_vmem (numel_pos p 1 hp Nat.one_pos)))
abbrev storeCol (i p : ℕ) (h : i + p ≤ 4096) (hp : 0 < p) (w : Vec F (M p 1) .i32) : Pr F PUnit :=
  Prog.lift (.store a6 (Rect.unit (s := M 4096 1) ![i, 0] (M p 1).size (inb 4096 1 i 0 p 1 h (le_refl _))) w Finset.univ
    (View.stores_vmem_bits_univ (numel_pos p 1 hp Nat.one_pos) rfl) (.inl rfl))

variable (C : Boxes F (M 4096 1)) (R : Boxes F (M 1 4096))

/-- The end of a block: the loop, then both masks of the block written. -/
def blkEnd (lo : ℕ) (hlo : lo + 256 ≤ 4096) (call : Loop F) (t : IVec (M 256 256) 1) (ac : IVec (M 256 1) 1) (ar : IVec (M 1 256) 1) :
    Pr F PUnit := do
  let (r0, r1, r2) ← call (andi t lowM) ar (andi t uppM) ac (wide _ ac) 1#32 0#32
  let _ ← loadRow (F := F) a5 lo 256 hlo (by omega)
  storeRow (F := F) a5 lo 256 hlo (by omega)
    (shapeCast (M 1 256) (wide _ (rowStep (F := F) (andi t lowM) ar (nz (M 256 1) r0))) rfl)
  let _ ← loadCol (F := F) a6 lo 256 hlo (by omega)
  storeCol (F := F) a6 lo 256 hlo (by omega) (shapeCast (M 256 1) (wide _ (nz (M 256 1) r0)) rfl)

/-- The first block's program. -/
def blk0 (call : Loop F) : Pr F PUnit := do
  let kr ← loadRow (F := F) a5 0 256 (by omega) (by omega)
  blkEnd a5 a6 0 (by omega) call (supOf 256 256 (C.colPart 0 256 (by omega)) (R.rowPart 0 256 (by omega)))
    (andi (colPart 0 256 (by omega) C.valid)
      (neg _ (anyCol (F := F) 256 256 (andi (supOf 256 256 (C.colPart 0 256 (by omega)) (R.rowPart 0 256 (by omega)))
        (broadcastTo (M 256 256) (nz _ kr) (broadcasts_row 256 256))))))
    (andi (rowPart 0 256 (by omega) R.valid) (neg _ (broadcast (M 1 256) 0#1)))

/-- The program of the block of boxes `lo … lo+256`, with `hi = lo + 256` and
    `Rh` the boxes of the row before `hi`. -/
def blk (lo hi : ℕ) (hlo : 0 < lo) (h : lo + 256 = hi) (hhi : hi ≤ 4096) (Rh : Boxes F (M 1 hi)) (call : Loop F) : Pr F PUnit := do
  let kr ← loadRow (F := F) a5 0 hi (by omega) (by omega)
  let kc ← loadCol (F := F) a6 0 lo (by omega) hlo
  blkEnd a5 a6 lo (by omega) call
    (extractStridedSlice (M 256 256) ![0, lo] (supOf 256 hi (C.colPart lo 256 (by omega)) Rh) (slices 256 hi 0 lo 256 256 (by omega) (by omega)))
    (andi (colPart lo 256 (by omega) C.valid)
      (neg _ (anyCol (F := F) 256 hi (andi (supOf 256 hi (C.colPart lo 256 (by omega)) Rh)
        (broadcastTo (M 256 hi) (nz _ kr) (broadcasts_row 256 hi))))))
    (andi (rowPart lo 256 (by omega) R.valid)
      (neg _ (anyRow (F := F) lo 256 (andi (supOf lo 256 (C.colPart 0 lo (by omega)) (R.rowPart lo 256 (by omega)))
        (broadcastTo (M lo 256) (nz _ kc) (broadcasts_col lo 256))))))

end prog

section whole
variable (i : grid1.Coords) (a1 : Memref sig .tc .vmem S1x8x4096 .f32) (a2 : Memref sig .tc .vmem S1x4096x8 .f32)
  (a3 : Memref sig .tc .vmem S1x1x4096 .f32) (a4 : Memref sig .tc .vmem S1x8x4096 .f32)
  (a5 : Memref sig .tc .vmem (M 1 4096) .i32) (a6 : Memref sig .tc .vmem (M 4096 1) .i32)

theorem inb1 (k : ℕ) (hk : k < 8) : ∀ a, (![0, k, 0] : Fin 3 → ℕ) a + S1x1x4096.size a ≤ S1x8x4096.size a :=
  fun a => by match a with | ⟨0, _⟩ => exact le_refl _ | ⟨1, _⟩ => exact hk | ⟨2, _⟩ => exact le_refl _
theorem inb2 (k : ℕ) (hk : k < 8) : ∀ a, (![0, 0, k] : Fin 3 → ℕ) a + S1x4096x1.size a ≤ S1x4096x8.size a :=
  fun a => by match a with | ⟨0, _⟩ => exact le_refl _ | ⟨1, _⟩ => exact le_refl _ | ⟨2, _⟩ => exact hk

/-- Row `k` of a block of eight rows. -/
abbrev loadK (m : Memref sig .tc .vmem S1x8x4096 .f32) (k : ℕ) (hk : k < 8) : Pr F (Vec F S1x1x4096 .f32) :=
  Prog.lift (.load m (Rect.unit (s := S1x8x4096) ![0, k, 0] S1x1x4096.size (inb1 k hk)).toLoadRect (View.loadsAt_vmem h_S1x1x4096))
/-- Column `k` of a block of eight columns. -/
abbrev loadC (m : Memref sig .tc .vmem S1x4096x8 .f32) (k : ℕ) (hk : k < 8) : Pr F (Vec F S1x4096x1 .f32) :=
  Prog.lift (.load m (Rect.unit (s := S1x4096x8) ![0, 0, k] S1x4096x1.size (inb2 k hk)).toLoadRect (View.loadsAt_vmem h_S1x4096x1))
/-- Row `k` of the result written (after a read of it that is not used). -/
def putK (k : ℕ) (hk : k < 8) (w : FVec F (M 1 4096) .f32) : Pr F PUnit := do
  let _ ← loadK (F := F) a4 k hk
  Prog.lift (.store a4 (Rect.unit (s := S1x8x4096) ![0, k, 0] S1x1x4096.size (inb1 k hk))
    (shapeCast S1x1x4096 w shapeCasts_S1x4096_S1x1x4096) Finset.univ (View.stores_vmem_bits_univ h_S1x1x4096 rfl) (.inl rfl))

abbrev asRow (v : Vec F S1x1x4096 .f32) : FVec F (M 1 4096) .f32 := shapeCast S1x4096 v shapeCasts_S1x1x4096_S1x4096
abbrev asCol (v : Vec F S1x4096x1 .f32) : FVec F (M 4096 1) .f32 := shapeCast S4096x1 v shapeCasts_S1x4096x1_S4096x1

/-- The boxes decoded along a row. -/
def rowsOf (v0 v2 v4 v6 v8 v10 v12 v14 : Vec F S1x1x4096 .f32) : Boxes F (M 1 4096) :=
  decode (M 1 4096) (asRow v0) (asRow v2) (asRow v4) (asRow v6) (asRow v8) (asRow v10) (asRow v12) (asRow v14)
/-- The boxes decoded along a column. -/
def colsOf (v0 v2 v4 v6 v8 v10 v12 v14 : Vec F S1x4096x1 .f32) : Boxes F (M 4096 1) :=
  decode (M 4096 1) (asCol v0) (asCol v2) (asCol v4) (asCol v6) (asCol v8) (asCol v10) (asCol v12) (asCol v14)

/-- The sixteen blocks. -/
def blocks (C : Boxes F (M 4096 1)) (R : Boxes F (M 1 4096)) : Pr F PUnit := do
  blk0 a5 a6 C R (fun lo ar up ac a ch it => Prog.lift (.call (2 : (Λ₀ F).Label) ⟨i, lo, ar, up, ac, a, ch, it⟩))
  blk a5 a6 C R 256 512 (by omega) (by omega) (by omega) (R.rowPart 0 512 (by omega))
    (fun lo ar up ac a ch it => Prog.lift (.call (3 : (Λ₀ F).Label) ⟨i, lo, ar, up, ac, a, ch, it⟩))
  blk a5 a6 C R 512 768 (by omega) (by omega) (by omega) (R.rowPart 0 768 (by omega))
    (fun lo ar up ac a ch it => Prog.lift (.call (4 : (Λ₀ F).Label) ⟨i, lo, ar, up, ac, a, ch, it⟩))
  blk a5 a6 C R 768 1024 (by omega) (by omega) (by omega) (R.rowPart 0 1024 (by omega))
    (fun lo ar up ac a ch it => Prog.lift (.call (5 : (Λ₀ F).Label) ⟨i, lo, ar, up, ac, a, ch, it⟩))
  blk a5 a6 C R 1024 1280 (by omega) (by omega) (by omega) (R.rowPart 0 1280 (by omega))
    (fun lo ar up ac a ch it => Prog.lift (.call (6 : (Λ₀ F).Label) ⟨i, lo, ar, up, ac, a, ch, it⟩))
  blk a5 a6 C R 1280 1536 (by omega) (by omega) (by omega) (R.rowPart 0 1536 (by omega))
    (fun lo ar up ac a ch it => Prog.lift (.call (7 : (Λ₀ F).Label) ⟨i, lo, ar, up, ac, a, ch, it⟩))
  blk a5 a6 C R 1536 1792 (by omega) (by omega) (by omega) (R.rowPart 0 1792 (by omega))
    (fun lo ar up ac a ch it => Prog.lift (.call (8 : (Λ₀ F).Label) ⟨i, lo, ar, up, ac, a, ch, it⟩))
  blk a5 a6 C R 1792 2048 (by omega) (by omega) (by omega) (R.rowPart 0 2048 (by omega))
    (fun lo ar up ac a ch it => Prog.lift (.call (9 : (Λ₀ F).Label) ⟨i, lo, ar, up, ac, a, ch, it⟩))
  blk a5 a6 C R 2048 2304 (by omega) (by omega) (by omega) (R.rowPart 0 2304 (by omega))
    (fun lo ar up ac a ch it => Prog.lift (.call (10 : (Λ₀ F).Label) ⟨i, lo, ar, up, ac, a, ch, it⟩))
  blk a5 a6 C R 2304 2560 (by omega) (by omega) (by omega) (R.rowPart 0 2560 (by omega))
    (fun lo ar up ac a ch it => Prog.lift (.call (11 : (Λ₀ F).Label) ⟨i, lo, ar, up, ac, a, ch, it⟩))
  blk a5 a6 C R 2560 2816 (by omega) (by omega) (by omega) (R.rowPart 0 2816 (by omega))
    (fun lo ar up ac a ch it => Prog.lift (.call (12 : (Λ₀ F).Label) ⟨i, lo, ar, up, ac, a, ch, it⟩))
  blk a5 a6 C R 2816 3072 (by omega) (by omega) (by omega) (R.rowPart 0 3072 (by omega))
    (fun lo ar up ac a ch it => Prog.lift (.call (13 : (Λ₀ F).Label) ⟨i, lo, ar, up, ac, a, ch, it⟩))
  blk a5 a6 C R 3072 3328 (by omega) (by omega) (by omega) (R.rowPart 0 3328 (by omega))
    (fun lo ar up ac a ch it => Prog.lift (.call (14 : (Λ₀ F).Label) ⟨i, lo, ar, up, ac, a, ch, it⟩))
  blk a5 a6 C R 3328 3584 (by omega) (by omega) (by omega) (R.rowPart 0 3584 (by omega))
    (fun lo ar up ac a ch it => Prog.lift (.call (15 : (Λ₀ F).Label) ⟨i, lo, ar, up, ac, a, ch, it⟩))
  blk a5 a6 C R 3584 3840 (by omega) (by omega) (by omega) (R.rowPart 0 3840 (by omega))
    (fun lo ar up ac a ch it => Prog.lift (.call (16 : (Λ₀ F).Label) ⟨i, lo, ar, up, ac, a, ch, it⟩))
  blk a5 a6 C R 3840 4096 (by omega) (by omega) (by omega) R
    (fun lo ar up ac a ch it => Prog.lift (.call (17 : (Λ₀ F).Label) ⟨i, lo, ar, up, ac, a, ch, it⟩))

/-- The end of the body: the scores masked by the row mask, and three rows of zeros. -/
def scores : Pr F PUnit := do
  let kr ← loadRow (F := F) a5 0 4096 (by omega) (by omega)
  let sc ← Prog.lift (.load a3 (Rect.unit (s := S1x1x4096) ![0, 0, 0] S1x1x4096.size inb_S1x1x4096_S1x1x4096_0_0_0).toLoadRect (View.loadsAt_vmem h_S1x1x4096))
  putK (F := F) a4 4 (by omega) (select (nz _ kr) (asRow (F := F) sc) (lit (M 1 4096) 0xD01502F9#32))
  putK (F := F) a4 5 (by omega) (lit (M 1 4096) 0x00000000#32)
  putK (F := F) a4 6 (by omega) (lit (M 1 4096) 0x00000000#32)
  putK (F := F) a4 7 (by omega) (lit (M 1 4096) 0x00000000#32)

/-- The masks zeroed. -/
def zeros : Pr F PUnit := do
  let _ ← loadRow (F := F) a5 0 4096 (by omega) (by omega)
  storeRow (F := F) a5 0 4096 (by omega) (by omega) (shapeCast (M 1 4096) (broadcast (M 1 4096) 0#32) rfl)
  let _ ← loadCol (F := F) a6 0 4096 (by omega) (by omega)
  storeCol (F := F) a6 0 4096 (by omega) (by omega) (shapeCast (M 4096 1) (broadcast (M 4096 1) 0#32) rfl)

/-- The body once the boxes are decoded. -/
def rest (C : Boxes F (M 4096 1)) (R : Boxes F (M 1 4096)) : Pr F PUnit := do
  putK (F := F) a4 0 (by omega) R.x1
  putK (F := F) a4 1 (by omega) R.y1
  putK (F := F) a4 2 (by omega) R.x2
  putK (F := F) a4 3 (by omega) R.y2
  zeros a5 a6
  blocks i a5 a6 C R
  scores a3 a4 a5

/-- The body. -/
def body : Pr F PUnit := do
  let v0 ← loadK (F := F) a1 0 (by omega)
  let v2 ← loadK (F := F) a1 1 (by omega)
  let v4 ← loadK (F := F) a1 2 (by omega)
  let v6 ← loadK (F := F) a1 3 (by omega)
  let v8 ← loadK (F := F) a1 4 (by omega)
  let v10 ← loadK (F := F) a1 5 (by omega)
  let v12 ← loadK (F := F) a1 6 (by omega)
  let v14 ← loadK (F := F) a1 7 (by omega)
  let c0 ← loadC (F := F) a2 0 (by omega)
  let c1 ← loadC (F := F) a2 1 (by omega)
  let c2 ← loadC (F := F) a2 2 (by omega)
  let c3 ← loadC (F := F) a2 3 (by omega)
  let c4 ← loadC (F := F) a2 4 (by omega)
  let c5 ← loadC (F := F) a2 5 (by omega)
  let c6 ← loadC (F := F) a2 6 (by omega)
  let c7 ← loadC (F := F) a2 7 (by omega)
  rest i a3 a4 a5 a6 (colsOf c0 c1 c2 c3 c4 c5 c6 c7) (rowsOf v0 v2 v4 v6 v8 v10 v12 v14)

/-- Two programs beginning with the same request are equal if they go on equally. -/
theorem op_congr {α β : Type} (e : TpuEff nD τ sig (Elt F) (Λ₀ F) .tc β) (k k' : β → Pr F α) (h : ∀ v, k v = k' v) :
    (Prog.op e k : Pr F α) = Prog.op e k' := by rw [funext h]

set_option maxHeartbeats 4000000 in
/-- The printed body is the program above. -/
theorem body_eq (h1 : a1.IsWhole) (h2 : a2.IsWhole) (h3 : a3.IsWhole) (h4 : a4.IsWhole) (h5 : a5.IsWhole) (h6 : a6.IsWhole) :
    cc1__nms_body (F := F) i a1 h1 a2 h2 a3 h3 a4 h4 a5 h5 a6 h6 = body i a1 a2 a3 a4 a5 a6 := by
  iterate 149 (refine op_congr _ _ _ fun v => ?_)
  rfl

end whole

end Cert.Proof.KI
-- ==== Proof.KI.Blocks.lean ====
/-
  The body of the non-maximum-suppression kernel run: holding its windows' blocks and the two masks, it leaves the result's
  block and the masks as the functions of `State` say.
-/
module

public import proofs.«01_k».proof.Proof.Nms.Loop
public import proofs.«01_k».proof.Proof.Nms.State
public import proofs.«01_k».proof.Proof.KI.Body

@[expose] public section

set_option maxRecDepth 16384

noncomputable section

namespace Cert.Proof.KI

open Cert.KernelIdeal Cert.KernelIdeal.Gen Cert.Nms
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost algebra of the pipelines' staging cells. -/
abbrev UR (nD : Nat) (τ : Topo) : Type := URounds (GSem nD τ sig) Unit

local notation "𝕄" => MT nD τ sig Unit (Elt F) ℕ (UR nD τ) ℕ

/-- A loop that returns `fix`. -/
def Runs (c : Dev nD) (call : Loop F) : Prop :=
  ∀ lo ar up ac a (K : IVec (M 256 1) 32 × BitVec 32 × BitVec 32 → sProp (MT nD τ sig Unit (Elt F) ℕ (UR nD τ) ℕ)),
    K (fix (F := F) lo ar up ac 256 a 1#32 0#32)
      ⊢ wp frame (wpE (defs₀ (F := F)) Variants.nat (c : Thread nD τ) none) Set.univ (call lo ar up ac a 1#32 0#32) K

section block
variable (c : Dev nD) (a5 : Memref sig .tc .vmem (M 1 4096) .i32) (a6 : Memref sig .tc .vmem (M 4096 1) .i32)

/-- The two masks held. -/
def masks (s : Masks) : sProp (MT nD τ sig Unit (Elt F) ℕ (UR nD τ) ℕ) :=
  iprop(owns (c : Thread nD τ) a5 fullShare s.1 ∗ owns (c : Thread nD τ) a6 fullShare s.2)

variable {c a5 a6}

theorem wp_blkEnd {lo : ℕ} {hlo : lo + 256 ≤ 4096} {call : Loop F} (hc : Runs c call) {t : IVec (M 256 256) 1} {ac : IVec (M 256 1) 1}
    {ar : IVec (M 1 256) 1} {s : Masks} {K : PUnit → sProp (MT nD τ sig Unit (Elt F) ℕ (UR nD τ) ℕ)} :
    (masks (F := F) c a5 a6 s : sProp 𝕄)
      ⊢ iprop((masks (F := F) c a5 a6 (endS (F := F) lo hlo t ac ar s) -∗ K ⟨⟩)
        -∗ wp frame (wpE (defs₀ (F := F)) Variants.nat (c : Thread nD τ) none) Set.univ (blkEnd a5 a6 lo hlo call t ac ar) K) := by
  unfold blkEnd
  rw [wp_bind]
  iintro H Hk
  iapply (hc (andi t lowM) ar (andi t uppM) ac (wide _ ac))
  rw [show fix (F := F) (andi t lowM) ar (andi t uppM) ac 256 (wide _ ac) 1#32 0#32
    = (fixed (F := F) t ac ar, (fix (F := F) (andi t lowM) ar (andi t uppM) ac 256 (wide _ ac) 1#32 0#32).2.1,
      (fix (F := F) (andi t lowM) ar (andi t uppM) ac 256 (wide _ ac) 1#32 0#32).2.2) from rfl]
  simp only [Prog.lift, Prog.bind_op, Prog.bind_ret]
  unfold masks endS
  icases H with ⟨H5, H6⟩
  iapply (wp_load_owns Variants.nat (c : Thread nD τ) none Set.univ) $$ H5; iintro H5
  iapply (wp_store_owns Variants.nat (c : Thread nD τ) none Set.univ) $$ H5; iintro H5
  iapply (wp_load_owns Variants.nat (c : Thread nD τ) none Set.univ) $$ H6; iintro H6
  iapply (wp_store_owns Variants.nat (c : Thread nD τ) none Set.univ) $$ H6; iintro H6
  rw [wp_ret]; imodintro
  iapply Hk
  isplitl [H5]; · iexact H5
  iexact H6

variable {C : Boxes F (M 4096 1)} {R : Boxes F (M 1 4096)}

theorem wp_blk0 {call : Loop F} (hc : Runs c call) {s : Masks} {K : PUnit → sProp (MT nD τ sig Unit (Elt F) ℕ (UR nD τ) ℕ)} :
    (masks (F := F) c a5 a6 s : sProp 𝕄)
      ⊢ iprop((masks (F := F) c a5 a6 (blk0S C R s) -∗ K ⟨⟩)
        -∗ wp frame (wpE (defs₀ (F := F)) Variants.nat (c : Thread nD τ) none) Set.univ (blk0 a5 a6 C R call) K) := by
  unfold blk0 blk0S
  simp only [Prog.lift, Prog.bind_op, Prog.bind_ret]
  iintro H Hk
  unfold masks
  icases H with ⟨H5, H6⟩
  iapply (wp_load_owns Variants.nat (c : Thread nD τ) none Set.univ) $$ H5; iintro H5
  iapply (wp_blkEnd (s := s) hc) $$ [H5 H6]
  · unfold masks
    isplitl [H5]; · iexact H5
    iexact H6
  unfold masks
  iexact Hk

theorem wp_blk {lo hi : ℕ} {hlo : 0 < lo} {h : lo + 256 = hi} {hhi : hi ≤ 4096} {Rh : Boxes F (M 1 hi)} {call : Loop F}
    (hc : Runs c call) {s : Masks} {K : PUnit → sProp (MT nD τ sig Unit (Elt F) ℕ (UR nD τ) ℕ)} :
    (masks (F := F) c a5 a6 s : sProp 𝕄)
      ⊢ iprop((masks (F := F) c a5 a6 (blkS C R lo hi h hhi Rh s) -∗ K ⟨⟩)
        -∗ wp frame (wpE (defs₀ (F := F)) Variants.nat (c : Thread nD τ) none) Set.univ (blk a5 a6 C R lo hi hlo h hhi Rh call) K) := by
  unfold blk blkS
  simp only [Prog.lift, Prog.bind_op, Prog.bind_ret]
  iintro H Hk
  unfold masks
  icases H with ⟨H5, H6⟩
  iapply (wp_load_owns Variants.nat (c : Thread nD τ) none Set.univ) $$ H5; iintro H5
  iapply (wp_load_owns Variants.nat (c : Thread nD τ) none Set.univ) $$ H6; iintro H6
  iapply (wp_blkEnd (s := s) hc) $$ [H5 H6]
  · unfold masks
    isplitl [H5]; · iexact H5
    iexact H6
  unfold masks
  iexact Hk

theorem wp_blocks (i : grid1.Coords) {s : Masks} {K : PUnit → sProp (MT nD τ sig Unit (Elt F) ℕ (UR nD τ) ℕ)} :
    (masks (F := F) c a5 a6 s : sProp 𝕄)
      ⊢ iprop((masks (F := F) c a5 a6 (blocksS C R s) -∗ K ⟨⟩)
        -∗ wp frame (wpE (defs₀ (F := F)) Variants.nat (c : Thread nD τ) none) Set.univ (blocks i a5 a6 C R) K) := by
  unfold blocks blocksS
  have r2 : Runs (F := F) c (fun lo ar up ac a ch it => Prog.lift (.call (2 : (Λ₀ F).Label) ⟨i, lo, ar, up, ac, a, ch, it⟩)) :=
    fun lo ar up ac a K => wp_loop_call (F := F) (defs := defs₀) (c : Thread nD τ) Set.univ (2 : (Λ₀ F).Label) lo ar up ac
      (fun a ch it => ⟨i, lo, ar, up, ac, a, ch, it⟩) (fun v => v) (fun _ _ _ => rfl) a 1#32 K
  have r3 : Runs (F := F) c (fun lo ar up ac a ch it => Prog.lift (.call (3 : (Λ₀ F).Label) ⟨i, lo, ar, up, ac, a, ch, it⟩)) :=
    fun lo ar up ac a K => wp_loop_call (F := F) (defs := defs₀) (c : Thread nD τ) Set.univ (3 : (Λ₀ F).Label) lo ar up ac
      (fun a ch it => ⟨i, lo, ar, up, ac, a, ch, it⟩) (fun v => v) (fun _ _ _ => rfl) a 1#32 K
  have r4 : Runs (F := F) c (fun lo ar up ac a ch it => Prog.lift (.call (4 : (Λ₀ F).Label) ⟨i, lo, ar, up, ac, a, ch, it⟩)) :=
    fun lo ar up ac a K => wp_loop_call (F := F) (defs := defs₀) (c : Thread nD τ) Set.univ (4 : (Λ₀ F).Label) lo ar up ac
      (fun a ch it => ⟨i, lo, ar, up, ac, a, ch, it⟩) (fun v => v) (fun _ _ _ => rfl) a 1#32 K
  have r5 : Runs (F := F) c (fun lo ar up ac a ch it => Prog.lift (.call (5 : (Λ₀ F).Label) ⟨i, lo, ar, up, ac, a, ch, it⟩)) :=
    fun lo ar up ac a K => wp_loop_call (F := F) (defs := defs₀) (c : Thread nD τ) Set.univ (5 : (Λ₀ F).Label) lo ar up ac
      (fun a ch it => ⟨i, lo, ar, up, ac, a, ch, it⟩) (fun v => v) (fun _ _ _ => rfl) a 1#32 K
  have r6 : Runs (F := F) c (fun lo ar up ac a ch it => Prog.lift (.call (6 : (Λ₀ F).Label) ⟨i, lo, ar, up, ac, a, ch, it⟩)) :=
    fun lo ar up ac a K => wp_loop_call (F := F) (defs := defs₀) (c : Thread nD τ) Set.univ (6 : (Λ₀ F).Label) lo ar up ac
      (fun a ch it => ⟨i, lo, ar, up, ac, a, ch, it⟩) (fun v => v) (fun _ _ _ => rfl) a 1#32 K
  have r7 : Runs (F := F) c (fun lo ar up ac a ch it => Prog.lift (.call (7 : (Λ₀ F).Label) ⟨i, lo, ar, up, ac, a, ch, it⟩)) :=
    fun lo ar up ac a K => wp_loop_call (F := F) (defs := defs₀) (c : Thread nD τ) Set.univ (7 : (Λ₀ F).Label) lo ar up ac
      (fun a ch it => ⟨i, lo, ar, up, ac, a, ch, it⟩) (fun v => v) (fun _ _ _ => rfl) a 1#32 K
  have r8 : Runs (F := F) c (fun lo ar up ac a ch it => Prog.lift (.call (8 : (Λ₀ F).Label) ⟨i, lo, ar, up, ac, a, ch, it⟩)) :=
    fun lo ar up ac a K => wp_loop_call (F := F) (defs := defs₀) (c : Thread nD τ) Set.univ (8 : (Λ₀ F).Label) lo ar up ac
      (fun a ch it => ⟨i, lo, ar, up, ac, a, ch, it⟩) (fun v => v) (fun _ _ _ => rfl) a 1#32 K
  have r9 : Runs (F := F) c (fun lo ar up ac a ch it => Prog.lift (.call (9 : (Λ₀ F).Label) ⟨i, lo, ar, up, ac, a, ch, it⟩)) :=
    fun lo ar up ac a K => wp_loop_call (F := F) (defs := defs₀) (c : Thread nD τ) Set.univ (9 : (Λ₀ F).Label) lo ar up ac
      (fun a ch it => ⟨i, lo, ar, up, ac, a, ch, it⟩) (fun v => v) (fun _ _ _ => rfl) a 1#32 K
  have r10 : Runs (F := F) c (fun lo ar up ac a ch it => Prog.lift (.call (10 : (Λ₀ F).Label) ⟨i, lo, ar, up, ac, a, ch, it⟩)) :=
    fun lo ar up ac a K => wp_loop_call (F := F) (defs := defs₀) (c : Thread nD τ) Set.univ (10 : (Λ₀ F).Label) lo ar up ac
      (fun a ch it => ⟨i, lo, ar, up, ac, a, ch, it⟩) (fun v => v) (fun _ _ _ => rfl) a 1#32 K
  have r11 : Runs (F := F) c (fun lo ar up ac a ch it => Prog.lift (.call (11 : (Λ₀ F).Label) ⟨i, lo, ar, up, ac, a, ch, it⟩)) :=
    fun lo ar up ac a K => wp_loop_call (F := F) (defs := defs₀) (c : Thread nD τ) Set.univ (11 : (Λ₀ F).Label) lo ar up ac
      (fun a ch it => ⟨i, lo, ar, up, ac, a, ch, it⟩) (fun v => v) (fun _ _ _ => rfl) a 1#32 K
  have r12 : Runs (F := F) c (fun lo ar up ac a ch it => Prog.lift (.call (12 : (Λ₀ F).Label) ⟨i, lo, ar, up, ac, a, ch, it⟩)) :=
    fun lo ar up ac a K => wp_loop_call (F := F) (defs := defs₀) (c : Thread nD τ) Set.univ (12 : (Λ₀ F).Label) lo ar up ac
      (fun a ch it => ⟨i, lo, ar, up, ac, a, ch, it⟩) (fun v => v) (fun _ _ _ => rfl) a 1#32 K
  have r13 : Runs (F := F) c (fun lo ar up ac a ch it => Prog.lift (.call (13 : (Λ₀ F).Label) ⟨i, lo, ar, up, ac, a, ch, it⟩)) :=
    fun lo ar up ac a K => wp_loop_call (F := F) (defs := defs₀) (c : Thread nD τ) Set.univ (13 : (Λ₀ F).Label) lo ar up ac
      (fun a ch it => ⟨i, lo, ar, up, ac, a, ch, it⟩) (fun v => v) (fun _ _ _ => rfl) a 1#32 K
  have r14 : Runs (F := F) c (fun lo ar up ac a ch it => Prog.lift (.call (14 : (Λ₀ F).Label) ⟨i, lo, ar, up, ac, a, ch, it⟩)) :=
    fun lo ar up ac a K => wp_loop_call (F := F) (defs := defs₀) (c : Thread nD τ) Set.univ (14 : (Λ₀ F).Label) lo ar up ac
      (fun a ch it => ⟨i, lo, ar, up, ac, a, ch, it⟩) (fun v => v) (fun _ _ _ => rfl) a 1#32 K
  have r15 : Runs (F := F) c (fun lo ar up ac a ch it => Prog.lift (.call (15 : (Λ₀ F).Label) ⟨i, lo, ar, up, ac, a, ch, it⟩)) :=
    fun lo ar up ac a K => wp_loop_call (F := F) (defs := defs₀) (c : Thread nD τ) Set.univ (15 : (Λ₀ F).Label) lo ar up ac
      (fun a ch it => ⟨i, lo, ar, up, ac, a, ch, it⟩) (fun v => v) (fun _ _ _ => rfl) a 1#32 K
  have r16 : Runs (F := F) c (fun lo ar up ac a ch it => Prog.lift (.call (16 : (Λ₀ F).Label) ⟨i, lo, ar, up, ac, a, ch, it⟩)) :=
    fun lo ar up ac a K => wp_loop_call (F := F) (defs := defs₀) (c : Thread nD τ) Set.univ (16 : (Λ₀ F).Label) lo ar up ac
      (fun a ch it => ⟨i, lo, ar, up, ac, a, ch, it⟩) (fun v => v) (fun _ _ _ => rfl) a 1#32 K
  have r17 : Runs (F := F) c (fun lo ar up ac a ch it => Prog.lift (.call (17 : (Λ₀ F).Label) ⟨i, lo, ar, up, ac, a, ch, it⟩)) :=
    fun lo ar up ac a K => wp_loop_call (F := F) (defs := defs₀) (c : Thread nD τ) Set.univ (17 : (Λ₀ F).Label) lo ar up ac
      (fun a ch it => ⟨i, lo, ar, up, ac, a, ch, it⟩) (fun v => v) (fun _ _ _ => rfl) a 1#32 K
  iintro H Hk
  rw [wp_bind]
  iapply (wp_blk0 r2) $$ H
  iintro H
  rw [wp_bind]
  iapply (wp_blk r3) $$ H
  iintro H
  rw [wp_bind]
  iapply (wp_blk r4) $$ H
  iintro H
  rw [wp_bind]
  iapply (wp_blk r5) $$ H
  iintro H
  rw [wp_bind]
  iapply (wp_blk r6) $$ H
  iintro H
  rw [wp_bind]
  iapply (wp_blk r7) $$ H
  iintro H
  rw [wp_bind]
  iapply (wp_blk r8) $$ H
  iintro H
  rw [wp_bind]
  iapply (wp_blk r9) $$ H
  iintro H
  rw [wp_bind]
  iapply (wp_blk r10) $$ H
  iintro H
  rw [wp_bind]
  iapply (wp_blk r11) $$ H
  iintro H
  rw [wp_bind]
  iapply (wp_blk r12) $$ H
  iintro H
  rw [wp_bind]
  iapply (wp_blk r13) $$ H
  iintro H
  rw [wp_bind]
  iapply (wp_blk r14) $$ H
  iintro H
  rw [wp_bind]
  iapply (wp_blk r15) $$ H
  iintro H
  rw [wp_bind]
  iapply (wp_blk r16) $$ H
  iintro H
  iapply (wp_blk r17) $$ H
  iexact Hk

end block

/-! ## The whole body -/

section whole
variable {c : Dev nD} {a1 : Memref sig .tc .vmem S1x8x4096 .f32} {a2 : Memref sig .tc .vmem S1x4096x8 .f32}
  {a3 : Memref sig .tc .vmem S1x1x4096 .f32} {a4 : Memref sig .tc .vmem S1x8x4096 .f32}
  {a5 : Memref sig .tc .vmem (M 1 4096) .i32} {a6 : Memref sig .tc .vmem (M 4096 1) .i32}

theorem wp_putK {k : ℕ} {hk : k < 8} {w : FVec F (M 1 4096) .f32} {X : FVec F R8 .f32}
    {K : PUnit → sProp (MT nD τ sig Unit (Elt F) ℕ (UR nD τ) ℕ)} :
    (owns (c : Thread nD τ) a4 fullShare X : sProp 𝕄)
      ⊢ iprop((owns (c : Thread nD τ) a4 fullShare (putRow k hk w X) -∗ K ⟨⟩)
        -∗ wp frame (wpE (defs₀ (F := F)) Variants.nat (c : Thread nD τ) none) Set.univ (putK a4 k hk w) K) := by
  unfold putK putRow
  simp only [Prog.lift, Prog.bind_op, Prog.bind_ret]
  iintro H Hk
  iapply (wp_load_owns Variants.nat (c : Thread nD τ) none Set.univ) $$ H; iintro H
  iapply (wp_store_owns Variants.nat (c : Thread nD τ) none Set.univ) $$ H; iintro H
  rw [wp_ret]; imodintro
  iapply Hk
  iexact H

theorem wp_zeros {s : Masks} {K : PUnit → sProp (MT nD τ sig Unit (Elt F) ℕ (UR nD τ) ℕ)} :
    (masks (F := F) c a5 a6 s : sProp 𝕄)
      ⊢ iprop((masks (F := F) c a5 a6 (zeroS s) -∗ K ⟨⟩)
        -∗ wp frame (wpE (defs₀ (F := F)) Variants.nat (c : Thread nD τ) none) Set.univ (zeros a5 a6) K) := by
  unfold zeros zeroS masks
  simp only [Prog.lift, Prog.bind_op, Prog.bind_ret]
  iintro ⟨H5, H6⟩ Hk
  iapply (wp_load_owns Variants.nat (c : Thread nD τ) none Set.univ) $$ H5; iintro H5
  iapply (wp_store_owns Variants.nat (c : Thread nD τ) none Set.univ) $$ H5; iintro H5
  iapply (wp_load_owns Variants.nat (c : Thread nD τ) none Set.univ) $$ H6; iintro H6
  iapply (wp_store_owns Variants.nat (c : Thread nD τ) none Set.univ) $$ H6; iintro H6
  rw [wp_ret]; imodintro
  iapply Hk
  isplitl [H5]; · iexact H5
  iexact H6

theorem wp_rest (i : grid1.Coords) {C : Boxes F (M 4096 1)} {R : Boxes F (M 1 4096)} {X3 : FVec F R1 .f32} {X4 : FVec F R8 .f32} {s : Masks}
    {K : PUnit → sProp (MT nD τ sig Unit (Elt F) ℕ (UR nD τ) ℕ)} :
    (iprop(owns (c : Thread nD τ) a3 fullShare X3 ∗ owns (c : Thread nD τ) a4 fullShare X4 ∗ masks (F := F) c a5 a6 s) : sProp 𝕄)
      ⊢ iprop((iprop(owns (c : Thread nD τ) a3 fullShare X3
          ∗ owns (c : Thread nD τ) a4 fullShare (outOf R (blocksS C R (zeroS s)) X3 X4) ∗ masks (F := F) c a5 a6 (blocksS C R (zeroS s))) -∗ K ⟨⟩)
        -∗ wp frame (wpE (defs₀ (F := F)) Variants.nat (c : Thread nD τ) none) Set.univ (rest i a3 a4 a5 a6 C R) K) := by
  iintro ⟨H3, H4, H⟩ Hk
  unfold rest
  rw [wp_bind]; iapply wp_putK $$ H4; iintro H4
  rw [wp_bind]; iapply wp_putK $$ H4; iintro H4
  rw [wp_bind]; iapply wp_putK $$ H4; iintro H4
  rw [wp_bind]; iapply wp_putK $$ H4; iintro H4
  rw [wp_bind]; iapply wp_zeros $$ H; iintro H
  rw [wp_bind]; iapply (wp_blocks i) $$ H; iintro H
  unfold scores
  simp only [Prog.lift, Prog.bind_op, Prog.bind_ret]
  unfold masks
  icases H with ⟨H5, H6⟩
  iapply (wp_load_owns Variants.nat (c : Thread nD τ) none Set.univ) $$ H5; iintro H5
  iapply (wp_load_owns Variants.nat (c : Thread nD τ) none Set.univ) $$ H3; iintro H3
  rw [wp_bind]; iapply wp_putK $$ H4; iintro H4
  rw [wp_bind]; iapply wp_putK $$ H4; iintro H4
  rw [wp_bind]; iapply wp_putK $$ H4; iintro H4
  iapply wp_putK $$ H4; iintro H4
  iapply Hk
  isplitl [H3]; · iexact H3
  isplitl [H4]; · iexact H4
  isplitl [H5]; · iexact H5
  iexact H6

/-- The masks after the body, from what they held. -/
def endMasks (X1 : FVec F R8 .f32) (X2 : FVec F C8 .f32) (s : Masks) : Masks :=
  blocksS (colBoxes X2) (rowBoxes X1) (zeroS s)

theorem wp_body (i : grid1.Coords) {X1 : FVec F R8 .f32} {X2 : FVec F C8 .f32} {X3 : FVec F R1 .f32} {X4 : FVec F R8 .f32} {s : Masks}
    {K : PUnit → sProp (MT nD τ sig Unit (Elt F) ℕ (UR nD τ) ℕ)} :
    (iprop(owns (c : Thread nD τ) a1 fullShare X1 ∗ owns (c : Thread nD τ) a2 fullShare X2 ∗ owns (c : Thread nD τ) a3 fullShare X3
        ∗ owns (c : Thread nD τ) a4 fullShare X4 ∗ masks (F := F) c a5 a6 s) : sProp 𝕄)
      ⊢ iprop((iprop(owns (c : Thread nD τ) a1 fullShare X1 ∗ owns (c : Thread nD τ) a2 fullShare X2 ∗ owns (c : Thread nD τ) a3 fullShare X3
          ∗ owns (c : Thread nD τ) a4 fullShare (outOf (rowBoxes X1) (endMasks X1 X2 s) X3 X4) ∗ masks (F := F) c a5 a6 (endMasks X1 X2 s)) -∗ K ⟨⟩)
        -∗ wp frame (wpE (defs₀ (F := F)) Variants.nat (c : Thread nD τ) none) Set.univ (body i a1 a2 a3 a4 a5 a6) K) := by
  unfold body
  simp only [Prog.lift, Prog.bind_op, Prog.bind_ret]
  iintro ⟨H1, H2, H3, H4, H⟩ Hk
  iapply (wp_load_owns Variants.nat (c : Thread nD τ) none Set.univ) $$ H1; iintro H1
  iapply (wp_load_owns Variants.nat (c : Thread nD τ) none Set.univ) $$ H1; iintro H1
  iapply (wp_load_owns Variants.nat (c : Thread nD τ) none Set.univ) $$ H1; iintro H1
  iapply (wp_load_owns Variants.nat (c : Thread nD τ) none Set.univ) $$ H1; iintro H1
  iapply (wp_load_owns Variants.nat (c : Thread nD τ) none Set.univ) $$ H1; iintro H1
  iapply (wp_load_owns Variants.nat (c : Thread nD τ) none Set.univ) $$ H1; iintro H1
  iapply (wp_load_owns Variants.nat (c : Thread nD τ) none Set.univ) $$ H1; iintro H1
  iapply (wp_load_owns Variants.nat (c : Thread nD τ) none Set.univ) $$ H1; iintro H1
  iapply (wp_load_owns Variants.nat (c : Thread nD τ) none Set.univ) $$ H2; iintro H2
  iapply (wp_load_owns Variants.nat (c : Thread nD τ) none Set.univ) $$ H2; iintro H2
  iapply (wp_load_owns Variants.nat (c : Thread nD τ) none Set.univ) $$ H2; iintro H2
  iapply (wp_load_owns Variants.nat (c : Thread nD τ) none Set.univ) $$ H2; iintro H2
  iapply (wp_load_owns Variants.nat (c : Thread nD τ) none Set.univ) $$ H2; iintro H2
  iapply (wp_load_owns Variants.nat (c : Thread nD τ) none Set.univ) $$ H2; iintro H2
  iapply (wp_load_owns Variants.nat (c : Thread nD τ) none Set.univ) $$ H2; iintro H2
  iapply (wp_load_owns Variants.nat (c : Thread nD τ) none Set.univ) $$ H2; iintro H2
  iapply (wp_rest (C := colBoxes X2) (R := rowBoxes X1) i) $$ [H3 H4 H]
  · isplitl [H3]; · iexact H3
    isplitl [H4]; · iexact H4
    iexact H
  iintro ⟨H3, H4, H⟩
  iapply Hk
  isplitl [H1]; · iexact H1
  isplitl [H2]; · iexact H2
  isplitl [H3]; · iexact H3
  isplitl [H4]; · iexact H4
  iexact H

end whole

end Cert.Proof.KI

end
-- ==== Proof.KI.Regions.lean ====
/-
  The two kernel regions of the program: what each leaves in its windows, and each as a region of the run between stretches of
  host operations, entered and left with every buffer of the program held.
-/
module

public import proofs.«01_k».proof.Proof.KI.Blocks
public import proofs.«01_k».proof.Proof.Nms.Put
public import proofs.«01_k».proof.Proof.Gen.KernelIdeal.Points
public import proofs.«01_k».proof.Proof.Gen.KernelIdeal.Regions
public import Idealize.ShloMosaic.Lib.Pipeline.RegionArrays
public import Idealize.ShloMosaic.Lib.Memref
public import Idealize.ShloMosaic.Lib.Pipeline.Value

@[expose] public section

set_option maxRecDepth 16384

noncomputable section

namespace Cert.Proof.KI

open Cert.KernelIdeal Cert.KernelIdeal.Gen Cert.Nms
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation arrRef RegionSeg LevelCut)

variable {F : FTy → Type} [FloatOps F]

local notation "𝕄" => MT nD τ sig Unit (Elt F) ℕ (UR nD τ) ℕ

/-- The buffers of a core. -/
abbrev Held (F : FTy → Type) : Type := (c : Dev nD) → Valuation τ sig (Elt F)

/-- What is held through a region beside its windows: the scoped buffers no window stages. -/
abbrev inv0 (c : Dev nD) : sProp 𝕄 :=
  Pipeline.scopedRest (Ix := Unit) (Name := ℕ) (U := UR nD τ) (Lvl := ℕ) (Val := Elt F) spec0 c
abbrev inv1 (c : Dev nD) : sProp 𝕄 :=
  Pipeline.scopedRest (Ix := Unit) (Name := ℕ) (U := UR nD τ) (Lvl := ℕ) (Val := Elt F) spec1 c

/-! ## The sigmoid region -/

section sigmoid
variable (V : Held F)

/-- The block fetched. -/
abbrev obj (c : Dev nD) (t : Fin (cfg0 (F := F)).N) : FVec F S2x45600 .f32 :=
  (((cfg0 (F := F)).win 0).blk t).view.read (Elt F) (V c (Proc.devRef .tc (arrRef spec0 0)))

/-- The first region's data, from the buffers at its entry. -/
def dat0 (c : Dev nD) : Dat τ (Elt F) Unit ℕ (UR nD τ) ℕ (cfg0 (F := F)) c where
  A w := V c (Proc.devRef .tc (arrRef spec0 w))
  after w t := match w with
    | ⟨0, _⟩ => obj V c t
    | ⟨1, _⟩ => logistic (obj V c t)
  Φ _ := inv0 c
  q _ := fullShare
  owed _ := 0

theorem before0 (c : Dev nD) (t : Fin (cfg0 (F := F)).N) (d) : (dat0 V c).before 0 t d = obj V c t := by
  unfold Dat.before; rw [if_pos (fetch0_0 t)]; rfl

/-- A whole array put is the array. -/
theorem put_whole {α : Type} (w : S2x45600.Idx → α) (X : S2x45600.Idx → α) :
    put (Rect.unit (s := S2x45600) ![0, 0] S2x45600.size inb_S2x45600_S2x45600_0_0) w X = w := by
  funext i
  exact put_in _ _ i i fun a => by match a with | ⟨0, _⟩ => exact (Nat.zero_add _).symm | ⟨1, _⟩ => exact (Nat.zero_add _).symm

theorem idx_whole (i : S2x45600.Idx) :
    (Rect.unit (s := S2x45600) ![0, 0] S2x45600.size inb_S2x45600_S2x45600_0_0).toLoadRect.idx i = i := by
  funext a; apply Fin.ext
  match a with
  | ⟨0, h⟩ => show 0 + 1 * (i ⟨0, h⟩).val = _; omega
  | ⟨1, h⟩ => show 0 + 1 * (i ⟨1, h⟩).val = _; omega

theorem cast_whole (X : FVec F S2x45600 .f32) : shapeCast S2x45600 X shapeCasts_S2x45600_S2x45600 = X :=
  funext fun i => congrArg X (Shape.reshapeEquiv_self _ i)

theorem stored_whole (X Y : FVec F S2x45600 .f32) :
    put (Rect.unit (s := S2x45600) ![0, 0] S2x45600.size inb_S2x45600_S2x45600_0_0)
      (logistic (shapeCast S2x45600 (fun x => X ((Rect.unit (s := S2x45600) ![0, 0] S2x45600.size inb_S2x45600_S2x45600_0_0).toLoadRect.idx x))
        shapeCasts_S2x45600_S2x45600)) Y = logistic X := by
  rw [put_whole]
  exact congrArg (logistic (F := F) (s := S2x45600)) ((cast_whole _).trans (funext fun i => congrArg X (idx_whole i)))

/-- The sigmoid's body: it leaves the logistic of what it read. -/
theorem wp_sigmoid (c : Dev nD) {a1 a2 : Memref sig .tc .vmem S2x45600 .f32} (h1 : a1.IsWhole) (h2 : a2.IsWhole)
    {X Y : FVec F S2x45600 .f32} {K : PUnit → sProp (MT nD τ sig Unit (Elt F) ℕ (UR nD τ) ℕ)} :
    (iprop(owns (c : Thread nD τ) a1 fullShare X ∗ owns (c : Thread nD τ) a2 fullShare Y) : sProp 𝕄)
      ⊢ iprop((iprop(owns (c : Thread nD τ) a1 fullShare X ∗ owns (c : Thread nD τ) a2 fullShare (logistic X)) -∗ K ⟨⟩)
        -∗ wp frame (wpE (defs₀ (F := F)) Variants.nat (c : Thread nD τ) none) Set.univ (cc0__sigmoid_body a1 h1 a2 h2) K) := by
  unfold cc0__sigmoid_body
  simp only [Prog.lift, Prog.bind_op, Prog.bind_ret]
  iintro ⟨H1, H2⟩ Hk
  iapply (wp_load_owns Variants.nat (c : Thread nD τ) none Set.univ) $$ H1; iintro H1
  iapply (wp_load_owns Variants.nat (c : Thread nD τ) none Set.univ) $$ H2; iintro H2
  iapply (wp_store_owns Variants.nat (c : Thread nD τ) none Set.univ) $$ H2; iintro H2
  sl_step
  iapply Hk
  isplitl [H1]; · iexact H1
  iapply (Entails.of_eq (congrArg (owns (c : Thread nD τ) a2 fullShare) (stored_whole X Y))) $$ H2

theorem sound0 (c : Dev nD) {A B : Type} {m0 m1 : Memref sig .tc .vmem S2x45600 .f32} (h0 : m0.IsWhole) (h1 : m1.IsWhole)
    {X : FVec F S2x45600 .f32} (b0 : A → FVec F S2x45600 .f32) (b1 : B → FVec F S2x45600 .f32) (hb : ∀ d, b0 d = X)
    (P Q : sProp (MT nD τ sig Unit (Elt F) ℕ (UR nD τ) ℕ)) :
    (iprop(P ∗ Q ∗ (∃ d, owns (c : Thread nD τ) m0 fullShare (b0 d)) ∗ (∃ d, owns (c : Thread nD τ) m1 fullShare (b1 d))) : sProp 𝕄)
      ⊢ wp frame (wpE (defs₀ (F := F)) Variants.nat (c : Thread nD τ) none) Set.univ (cc0__sigmoid_body m0 h0 m1 h1) fun _ =>
        iprop(P ∗ Q ∗ owns (c : Thread nD τ) m0 fullShare X ∗ owns (c : Thread nD τ) m1 fullShare (logistic X)) := by
  iintro ⟨HP, HQ, ⟨%d0, H0⟩, ⟨%d1, H1⟩⟩
  rw [hb d0]
  iapply (wp_sigmoid c h0 h1) $$ [H0 H1]
  · isplitl [H0] <;> iassumption
  iintro ⟨H0, H1⟩
  isplitl [HP]; · iexact HP
  isplitl [HQ]; · iexact HQ
  isplitl [H0] <;> iassumption

theorem obligation0 (c : Dev nD) : BodyObligation (dat0 V c) (defs₀ (F := F)) Variants.nat () Set.univ := fun t => by
  rw [bigSep_W0, bigSep_W0]
  exact sound0 c (hstage0_0 0) (hstage0_1 0) _ _ (before0 V c t) (inv0 c) ((dat0 V c).owesAt () t.castSucc)

end sigmoid

/-! ## The suppression region -/

section nms
variable (V : Held F)

abbrev rows (c : Dev nD) (t : Fin (cfg1 (F := F)).N) : FVec F R8 .f32 :=
  (((cfg1 (F := F)).win 0).blk t).view.read (Elt F) (V c (Proc.devRef .tc (arrRef spec1 0)))
abbrev cols (c : Dev nD) (t : Fin (cfg1 (F := F)).N) : FVec F C8 .f32 :=
  (((cfg1 (F := F)).win 1).blk t).view.read (Elt F) (V c (Proc.devRef .tc (arrRef spec1 1)))
abbrev scoreRow (c : Dev nD) (t : Fin (cfg1 (F := F)).N) : FVec F R1 .f32 :=
  (((cfg1 (F := F)).win 2).blk t).view.read (Elt F) (V c (Proc.devRef .tc (arrRef spec1 2)))

/-- The second region's data, from the buffers at its entry. -/
def dat1 (c : Dev nD) : Dat τ (Elt F) Unit ℕ (UR nD τ) ℕ (cfg1 (F := F)) c where
  A w := V c (Proc.devRef .tc (arrRef spec1 w))
  after w t := match w with
    | ⟨0, _⟩ => rows V c t
    | ⟨1, _⟩ => cols V c t
    | ⟨2, _⟩ => scoreRow V c t
    | ⟨3, _⟩ => result (rows V c t) (cols V c t) (scoreRow V c t)
  Φ _ := inv1 c
  q _ := fullShare
  owed _ := 0

theorem before1_0 (c : Dev nD) (t : Fin (cfg1 (F := F)).N) (d) : (dat1 V c).before 0 t d = rows V c t := by
  unfold Dat.before; rw [if_pos (fetch1_0 t)]; rfl
theorem before1_1 (c : Dev nD) (t : Fin (cfg1 (F := F)).N) (d) : (dat1 V c).before 1 t d = cols V c t := by
  unfold Dat.before; rw [if_pos (fetch1_1 t)]; rfl
theorem before1_2 (c : Dev nD) (t : Fin (cfg1 (F := F)).N) (d) : (dat1 V c).before 2 t d = scoreRow V c t := by
  unfold Dat.before; rw [if_pos (fetch1_2 t)]; rfl

theorem wp_nms (c : Dev nD) (i : grid1.Coords) {a1 : Memref sig .tc .vmem S1x8x4096 .f32} {a2 : Memref sig .tc .vmem S1x4096x8 .f32}
    {a3 : Memref sig .tc .vmem S1x1x4096 .f32} {a4 : Memref sig .tc .vmem S1x8x4096 .f32} {a5 : Memref sig .tc .vmem S1x4096 .i32}
    {a6 : Memref sig .tc .vmem S4096x1 .i32}
    (h1 : a1.IsWhole) (h2 : a2.IsWhole) (h3 : a3.IsWhole) (h4 : a4.IsWhole) (h5 : a5.IsWhole) (h6 : a6.IsWhole)
    {X1 : FVec F R8 .f32} {X2 : FVec F C8 .f32} {X3 : FVec F R1 .f32} {X4 : FVec F R8 .f32} {s : Masks}
    {K : PUnit → sProp (MT nD τ sig Unit (Elt F) ℕ (UR nD τ) ℕ)} :
    (iprop(owns (c : Thread nD τ) a1 fullShare X1 ∗ owns (c : Thread nD τ) a2 fullShare X2 ∗ owns (c : Thread nD τ) a3 fullShare X3
        ∗ owns (c : Thread nD τ) a4 fullShare X4 ∗ masks (F := F) c a5 a6 s) : sProp 𝕄)
      ⊢ iprop((iprop(owns (c : Thread nD τ) a1 fullShare X1 ∗ owns (c : Thread nD τ) a2 fullShare X2 ∗ owns (c : Thread nD τ) a3 fullShare X3
          ∗ owns (c : Thread nD τ) a4 fullShare (result X1 X2 X3) ∗ masks (F := F) c a5 a6 (endMasks X1 X2 s)) -∗ K ⟨⟩)
        -∗ wp frame (wpE (defs₀ (F := F)) Variants.nat (c : Thread nD τ) none) Set.univ (cc1__nms_body i a1 h1 a2 h2 a3 h3 a4 h4 a5 h5 a6 h6) K) := by
  have e : outOf (rowBoxes X1) (endMasks X1 X2 s) X3 X4 = result X1 X2 X3 := by
    unfold result endMasks; rw [zeroS_eq]; exact outOf_indep _ _ _ _ _
  rw [body_eq, ← e]
  exact wp_body i

theorem sound1 (c : Dev nD) (i : grid1.Coords) {A B C D : Type} {a1 : Memref sig .tc .vmem S1x8x4096 .f32} {a2 : Memref sig .tc .vmem S1x4096x8 .f32}
    {a3 : Memref sig .tc .vmem S1x1x4096 .f32} {a4 : Memref sig .tc .vmem S1x8x4096 .f32}
    (h1 : a1.IsWhole) (h2 : a2.IsWhole) (h3 : a3.IsWhole) (h4 : a4.IsWhole)
    {X1 : FVec F R8 .f32} {X2 : FVec F C8 .f32} {X3 : FVec F R1 .f32}
    (b1 : A → FVec F R8 .f32) (b2 : B → FVec F C8 .f32) (b3 : C → FVec F R1 .f32) (b4 : D → FVec F R8 .f32)
    (e1 : ∀ d, b1 d = X1) (e2 : ∀ d, b2 d = X2) (e3 : ∀ d, b3 d = X3) (Q : sProp (MT nD τ sig Unit (Elt F) ℕ (UR nD τ) ℕ)) :
    (iprop(inv1 c ∗ Q ∗ (∃ d, owns (c : Thread nD τ) a1 fullShare (b1 d)) ∗ (∃ d, owns (c : Thread nD τ) a2 fullShare (b2 d))
        ∗ (∃ d, owns (c : Thread nD τ) a3 fullShare (b3 d)) ∗ (∃ d, owns (c : Thread nD τ) a4 fullShare (b4 d))) : sProp 𝕄)
      ⊢ wp frame (wpE (defs₀ (F := F)) Variants.nat (c : Thread nD τ) none) Set.univ
          (cc1__nms_body i a1 h1 a2 h2 a3 h3 a4 h4 (Memref.whole cc1_scratch0) (Memref.isWhole_whole _) (Memref.whole cc1_scratch1) (Memref.isWhole_whole _)) fun _ =>
        iprop(inv1 c ∗ Q ∗ owns (c : Thread nD τ) a1 fullShare X1 ∗ owns (c : Thread nD τ) a2 fullShare X2
          ∗ owns (c : Thread nD τ) a3 fullShare X3 ∗ owns (c : Thread nD τ) a4 fullShare (result X1 X2 X3)) := by
  rw [show inv1 (F := F) c = _ from scopedRest1_eq c]
  iintro ⟨⟨HA, HB, ⟨%f5, H5⟩, ⟨%f6, H6⟩⟩, HQ, ⟨%d1, H1⟩, ⟨%d2, H2⟩, ⟨%d3, H3⟩, ⟨%d4, H4⟩⟩
  rw [e1 d1, e2 d2, e3 d3]
  iapply (wp_nms (s := (f5, f6)) c i h1 h2 h3 h4 (Memref.isWhole_whole cc1_scratch0) (Memref.isWhole_whole cc1_scratch1)) $$ [H1 H2 H3 H4 H5 H6]
  · isplitl [H1]; · iexact H1
    isplitl [H2]; · iexact H2
    isplitl [H3]; · iexact H3
    isplitl [H4]; · iexact H4
    unfold masks
    rw [owns_whole, owns_whole]
    isplitl [H5] <;> iassumption
  unfold masks
  rw [owns_whole, owns_whole]
  iintro ⟨H1, H2, H3, H4, H5, H6⟩
  isplitl [HA HB H5 H6]
  · isplitl [HA]; · iexact HA
    isplitl [HB]; · iexact HB
    isplitl [H5]
    · iexists _; iexact H5
    · iexists _; iexact H6
  isplitl [HQ]; · iexact HQ
  isplitl [H1]; · iexact H1
  isplitl [H2]; · iexact H2
  isplitl [H3] <;> iassumption

theorem obligation1 (c : Dev nD) : BodyObligation (dat1 V c) (defs₀ (F := F)) Variants.nat () Set.univ := fun t => by
  rw [bigSep_W1, bigSep_W1]
  exact sound1 c (grid1.coords t) (hstage1_0 _) (hstage1_1 _) (hstage1_2 _) (hstage1_3 _) _ _ _ _ (before1_0 V c t) (before1_1 V c t)
    (before1_2 V c t) ((dat1 V c).owesAt () t.castSucc)

end nms

end Cert.Proof.KI

end
-- ==== Proof.KI.Run.lean ====
/-
  The run of the program: the two kernel regions between stretches of host operations. Every buffer ends at the fold of the
  program's operations with the two results the kernels leave, and every counter at zero.
-/
module

public import proofs.«01_k».proof.Proof.KI.Regions

@[expose] public section

set_option maxRecDepth 16384

noncomputable section

namespace Cert.Proof.KI

open Cert.KernelIdeal Cert.KernelIdeal.Gen Cert.Nms
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation arrRef arrRefs RegionSeg LevelCut Seg)

variable {F : FTy → Type} [FloatOps F]

local notation "𝕄" => MT nD τ sig Unit (Elt F) ℕ (UR nD τ) ℕ

/-- The cells' algebra in the run's. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

/-- The pipelines' cells at launch. -/
abbrev u₀ : UR nD τ := initOf (Pipeline.cells (cfgs (F := F)) cellOf_inj) (Pipeline.launchToks (cfgs (F := F)) cellOf_inj)

/-- Every counter of a TensorCore at one level. -/
abbrev lev : GSem nD τ sig → Finset Unit := fun g => if g.1.2 = .tc then {()} else ∅
abbrev lvl : GSem nD τ sig → Unit → ℕ := fun _ _ => 0

/-! ## What the kernels leave -/

variable (m : (ℓ : Loc nD τ sig) → Buf (Elt F) ℓ) (ρ : Dev nD → PrngReg)

/-- The two kernels' results, as what the regions write. -/
def leave (a : (c : Dev nD) → Buf (Elt F) ((c : Thread nD τ).loc main_v2)) (b : (c : Dev nD) → Buf (Elt F) ((c : Thread nD τ).loc main_v15)) :
    Outs (F := F) := fun _ r c =>
  Function.update (Function.update (V0 m c) (Proc.devRef .tc main_v2) (a c)) (Proc.devRef .tc main_v15) (b c) (Proc.devRef .tc r)

theorem leave_v2 (a b) (k : ℕ) (c : Dev nD) : leave m a b k main_v2 c = a c := by
  unfold leave
  rw [Function.update_of_ne (show (Proc.devRef .tc main_v2 : DevRef τ sig) ≠ Proc.devRef .tc main_v15 by decide), Function.update_self]
theorem leave_v15 (a b) (k : ℕ) (c : Dev nD) : leave m a b k main_v15 c = b c := by
  unfold leave; rw [Function.update_self]

/-- The scores the first kernel leaves. -/
def sig1 (c : Dev nD) : Buf (Elt F) ((c : Thread nD τ).loc main_v2) := (dat0 (V1 m) c).arrAt 1 (cfg0 (F := F)).N

/-- The buffers at the second kernel's entry. -/
def mid : Held F := V11 m (leave m (sig1 m) fun c => V0 m c (Proc.devRef .tc main_v15))

/-- The block of rows the second kernel leaves. -/
def nms1 (c : Dev nD) : Buf (Elt F) ((c : Thread nD τ).loc main_v15) := (dat1 (mid m) c).arrAt 3 (cfg1 (F := F)).N

/-- What the regions leave. -/
def outs : Outs (F := F) := leave m (sig1 m) (nms1 m)

theorem V2_eq (c : Dev nD) (b b') : V2 m (leave m (sig1 m) b) c = V2 m (leave m (sig1 m) b') c := by
  unfold V2; rw [leave_v2, leave_v2]

theorem mid_eq (c : Dev nD) : V11 m (outs m) c = mid m c := by
  unfold mid outs
  simp only [V11, V10, V9, V8, V7, V6, V5, V4, V3]
  rw [V2_eq m c (nms1 m)]

/-! ## The regions -/

/-- The regions' data. -/
def pdats : (p : Fin 2) → (c : Dev nD) → Dat τ (Elt F) Unit ℕ (UR nD τ) ℕ ((cfgs (F := F)) p) c
  | ⟨0, _⟩ => fun c => dat0 (V1 m) c
  | ⟨1, _⟩ => fun c => dat1 (mid m) c

/-- What a core owes: nothing. -/
abbrev free (c : Dev nD) : sProp 𝕄 := iprop(∃ W, owes (c : Thread nD τ) (0 : CellTallies nD τ sig Unit) W)

theorem cut (p : Fin 2) : LevelCut (pcfgs (F := F)) adm () lev lvl p (fun _ => 0) (fun _ => 0) where
  hι c w s := by
    show () ∈ (if ((c : Thread nD τ)).2 = .tc then ({()} : Finset Unit) else ∅)
    rw [if_pos rfl]; exact Finset.mem_singleton_self ()
  hιb _ _ _ := le_refl _
  hD _ _ _ h := absurd h (lt_irrefl 0)

/-- A region whose windows' arrays are `A` among the held buffers: the others ride along. -/
abbrev others (win : Finset (DevRef τ sig)) (V : Held F) (c : Dev nD) : sProp 𝕄 :=
  StableHlo.held (c : Thread nD τ) (Pipeline.ucRefs τ sig \ win) (V c)

theorem idle (c : Dev nD) (P : sProp 𝕄) : iprop(P ∗ emp) ⊢ P := by iintro ⟨H, -⟩; iexact H
theorem idle' (c : Dev nD) (P : sProp 𝕄) : P ⊢ iprop(P ∗ emp) := by
  iintro H; isplitl [H]; · iexact H
  iempintro

/-- The first kernel's region. -/
def reg0 : RegionSeg (pcfgs (F := F)) adm (pdats m) () defs₀ Variants.nat lev lvl 0 :=
  RegionSeg.ofHeld (pcfgs (F := F)) adm (pdats m) () defs₀ Variants.nat lev lvl 0 (fun _ => 0)
    (fun _ => iprop(emp)) (fun _ => iprop(emp)) launch0.toP rfl (fun c => (obligation0 (V1 m) c).loose) (fun _ _ => rfl) (fun _ => rfl)
    (fun c w => by unfold Dat.share; split <;> rfl)
    (fun c => idle c (inv0 c)) (fun c => idle' c (inv0 c))
    (fun _ => 0) (cut 0) (others (arrRefs spec0) (V1 m)) (V1 m) (V2 m (outs m))
    (fun c w => rfl)
    (fun c w => by
      match w with
      | ⟨0, _⟩ =>
        exact ((dat0 (V1 m) c).arrAt_in 0 rfl _).trans (V2_of m (outs m) c (arrRef spec0 0) (by decide)).symm
      | ⟨1, _⟩ =>
        show sig1 m c = V2 m (outs m) c (Proc.devRef .tc main_v2)
        unfold V2; rw [Function.update_self]; exact (leave_v2 m _ _ _ c).symm)

theorem kept1 (c : Dev nD) (r : Ref sig .tc) (h : r ∉ ([main_v15] : List (Ref sig .tc))) :
    mid m c (Proc.devRef .tc r) = V12 m (outs m) c (Proc.devRef .tc r) :=
  (congrFun (mid_eq m c) (Proc.devRef .tc r)).symm.trans (V12_of m (outs m) c r h).symm

/-- The second kernel's region. -/
def reg1 : RegionSeg (pcfgs (F := F)) adm (pdats m) () defs₀ Variants.nat lev lvl 1 :=
  RegionSeg.ofHeld (pcfgs (F := F)) adm (pdats m) () defs₀ Variants.nat lev lvl 1 (fun _ => 0)
    (fun _ => iprop(emp)) (fun _ => iprop(emp)) launch1.toP rfl (fun c => (obligation1 (mid m) c).loose) (fun _ _ => rfl) (fun _ => rfl)
    (fun c w => by unfold Dat.share; split <;> rfl)
    (fun c => idle c (inv1 c)) (fun c => idle' c (inv1 c))
    (fun _ => 0) (cut 1) (others (arrRefs spec1) (mid m)) (mid m) (V12 m (outs m))
    (fun c w => rfl)
    (fun c w => by
      match w with
      | ⟨0, _⟩ => exact ((dat1 (mid m) c).arrAt_in 0 rfl _).trans (kept1 m c (arrRef spec1 0) (by decide))
      | ⟨1, _⟩ => exact ((dat1 (mid m) c).arrAt_in 1 rfl _).trans (kept1 m c (arrRef spec1 1) (by decide))
      | ⟨2, _⟩ => exact ((dat1 (mid m) c).arrAt_in 2 rfl _).trans (kept1 m c (arrRef spec1 2) (by decide))
      | ⟨3, _⟩ =>
        show nms1 m c = V12 m (outs m) c (Proc.devRef .tc main_v15)
        unfold V12; rw [Function.update_self]; exact (leave_v15 m _ _ _ c).symm)

/-! ## Entering and leaving the regions -/

/-- The held buffers split into the windows' arrays and the others. -/
theorem enter (c : Dev nD) {S : Finset (DevRef τ sig)} (hS : S ⊆ Pipeline.ucRefs τ sig) (V : Held F) :
    (iprop(StableHlo.held (c : Thread nD τ) (Pipeline.ucRefs τ sig) (V c) ∗ free c) : sProp 𝕄)
      ⊢ iprop(StableHlo.held (c : Thread nD τ) S (V c) ∗ emp ∗ others S V c ∗ free c) := by
  rw [StableHlo.held_sub_split (c : Thread nD τ) hS (V c)]
  iintro ⟨⟨H1, H2⟩, H3⟩
  isplitl [H1]; · iexact H1
  isplitr; · iempintro
  isplitl [H2] <;> iassumption

/-- They come together again at contents that differ in the windows' arrays only. -/
theorem exit (c : Dev nD) {S : Finset (DevRef τ sig)} (hS : S ⊆ Pipeline.ucRefs τ sig) (V V' : Held F)
    (h : ∀ b ∈ Pipeline.ucRefs τ sig \ S, V' c b = V c b) :
    (iprop(StableHlo.held (c : Thread nD τ) S (V' c) ∗ emp ∗ others S V c ∗ free c) : sProp 𝕄)
      ⊢ iprop(StableHlo.held (c : Thread nD τ) (Pipeline.ucRefs τ sig) (V' c) ∗ free c) := by
  rw [StableHlo.held_sub_split (c : Thread nD τ) hS (V' c),
    StableHlo.held_congr (c : Thread nD τ) (S := Pipeline.ucRefs τ sig \ S) (V := V' c) (V' := V c) h]
  iintro ⟨H1, -, H2, H3⟩
  isplitl [H1 H2]
  · isplitl [H1] <;> iassumption
  iexact H3

theorem sub0 : arrRefs (τ := τ) spec0 ⊆ Pipeline.ucRefs τ sig := Pipeline.arrRefs_sub_ucRefs spec0 (by decide)
theorem sub1 : arrRefs (τ := τ) spec1 ⊆ Pipeline.ucRefs τ sig := Pipeline.arrRefs_sub_ucRefs spec1 (by decide)

theorem mem0 : (Proc.devRef .tc main_v2 : DevRef τ sig) ∈ arrRefs (τ := τ) spec0 :=
  Finset.mem_map_of_mem _ (show main_v2 ∈ Finset.univ.image (arrRef spec0) from
    Finset.mem_image.mpr ⟨1, Finset.mem_univ _, rfl⟩)
theorem mem1 : (Proc.devRef .tc main_v15 : DevRef τ sig) ∈ arrRefs (τ := τ) spec1 :=
  Finset.mem_map_of_mem _ (show main_v15 ∈ Finset.univ.image (arrRef spec1) from
    Finset.mem_image.mpr ⟨3, Finset.mem_univ _, rfl⟩)

theorem off0 (c : Dev nD) (b : DevRef τ sig) (h : b ∈ Pipeline.ucRefs τ sig \ arrRefs (τ := τ) spec0) :
    V2 m (outs m) c b = V1 m c b := by
  have hb : b ≠ Proc.devRef .tc main_v2 := fun e => by subst e; exact (Finset.mem_sdiff.mp h).2 mem0
  unfold V2
  exact Function.update_of_ne hb _ _
theorem off1 (c : Dev nD) (b : DevRef τ sig) (h : b ∈ Pipeline.ucRefs τ sig \ arrRefs (τ := τ) spec1) :
    V12 m (outs m) c b = mid m c b := by
  have hb : b ≠ Proc.devRef .tc main_v15 := fun e => by subst e; exact (Finset.mem_sdiff.mp h).2 mem1
  unfold V12
  rw [mid_eq]
  exact Function.update_of_ne hb _ _

-- the implicit arguments of the adequacy theorem are found by unifying its conclusion with this one
set_option backward.isDefEq.respectTransparency.types false in
set_option maxHeartbeats 2000000 in
/-- Every run ends with every buffer at the fold of the program's operations and every counter at zero. -/
theorem run :
    θ_run defs (onTc (τ := τ) (main (F := F))) ⟨m, fun _ => 0, ρ⟩ (fun r =>
      (∀ c : Dev nD, ∀ b ∈ Pipeline.ucRefs τ sig, r.2.mem ((c : Thread nD τ).1, b) = V15 m (outs m) c b)
      ∧ r.2.sem = fun _ => 0) := by
  refine Pipeline.θ_run_regions_kit_dev_sems (pcfgs (F := F)) adm (pdats m) () cellOf_inj EP defs₀ Variants.nat lev lvl m ρ main
    (segs m (outs m) Variants.nat lev lvl (fun _ c => free c) () (pdats m) (reg0 m) (reg1 m))
    (fun c Q => by
      rewrite [main_chain c, Seg.run_eq_chain,
        show (segs m (outs m) Variants.nat lev lvl (fun _ c => free c) () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2,
          StableHlo.seq hostOps2_1,
          StableHlo.seq hostOps2_2 ] from rfl]
      dsimp (config := { failIfUnchanged := false }) only
      exact .rfl)
    (fun c => by simp only [segs, Seg.pipes_host, Seg.pipes_region, Seg.pipes_nil]; decide) (O₀ := fun _ => 0) (hL := fun g h => if_neg h)
    (G := fun _ => iprop(emp)) (u₀ := u₀ (F := F)) (hu₀ := ?_)
    (T₀ := fun c => iprop(StableHlo.held (c : Thread nD τ) (Pipeline.ucRefs τ sig) (V0 m c) ∗ free c))
    (Tₙ := fun c => StableHlo.held (c : Thread nD τ) (Pipeline.ucRefs τ sig) (V15 m (outs m) c))
    (hch := fun c => ⟨.rfl, enter c sub0 (V1 m), exit c sub0 (V1 m) (V2 m (outs m)) (off0 m c), .rfl, .rfl, .rfl, .rfl, .rfl, .rfl, .rfl, .rfl,
      (show iprop(StableHlo.held (c : Thread nD τ) (Pipeline.ucRefs τ sig) (V11 m (outs m) c) ∗ free c) ⊢ _ from by
        rw [mid_eq]; exact enter c sub1 (mid m)),
      exit c sub1 (mid m) (V12 m (outs m)) (off1 m c), .rfl, .rfl, .rfl⟩)
    (hinit := ?_) (QY := fun c s => ∀ b ∈ Pipeline.ucRefs τ sig, s.mem ((c : Thread nD τ).1, b) = V15 m (outs m) c b)
    (hfin := fun c s' => ?_) (hQ := fun _ h hz => ⟨h, funext fun g => hz g (.inr (regions_no_unscoped g.2))⟩)
  · rw [show (ownU (u₀ (F := F)) : sProp 𝕄) = BI.own (EP (u₀ (F := F))) from rfl]
    iintro H
    imodintro
    isplitl [H]; · iexact H
    iapply (show (BI.emp : sProp 𝕄) ⊢ bigSep Finset.univ (fun _ : Dev nD => (BI.emp : sProp 𝕄)) from by rw [BI.bigSep_emp_const])
    iempintro
  · refine Pipeline.initEach lev lvl fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V15 m (outs m) c) s') $$ [Hh HSI]
    · isplitl [Hh] <;> iassumption
    icases Hr with ⟨%h, HSI⟩
    imodintro
    isplitr
    · ipureintro; exact h
    · iexact HSI

/-- The program ends, leaves its arguments as launched and every counter at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ?_, h.2⟩) (run m ρ)
  exact ⟨(h.1 c (Proc.devRef .tc main_arg0) (Finset.mem_filter.mpr ⟨StableHlo.devRef_mem_tcRefs main_arg0, by decide⟩)).trans (V15_main_arg0 m (outs m) c),
    (h.1 c (Proc.devRef .tc main_arg1) (Finset.mem_filter.mpr ⟨StableHlo.devRef_mem_tcRefs main_arg1, by decide⟩)).trans (V15_main_arg1 m (outs m) c),
    (h.1 c (Proc.devRef .tc main_arg2) (Finset.mem_filter.mpr ⟨StableHlo.devRef_mem_tcRefs main_arg2, by decide⟩)).trans (V15_main_arg2 m (outs m) c)⟩

end Cert.Proof.KI

end
-- ==== Proof.RI.Run.lean ====
/-
  The run of the reference program: it ends with every buffer at its fold and every counter at zero, and never writes its
  arguments.
-/
module

public import proofs.«01_k».proof.Proof.Gen.ReferenceIdeal.Run

@[expose] public section

set_option maxRecDepth 8192

noncomputable section

namespace Cert.Proof.RI

open Cert.ReferenceIdeal Cert.ReferenceIdeal.Gen Cert.ReferenceIdeal.Value
open Idealize.ShloMosaic Idealize.ShloMosaic.TcCoe Idealize.ShloMosaic.StableHlo
open Idealize.ShloMosaic.Pipeline
open Idealize.SL Idealize.SL.RA Idealize.SL.BI
open scoped Idealize.SL.BI
open Idealize.SL.BI.BIBase Idealize.SL.Sem Idealize.SL.ProofMode

variable {F : FTy → Type} [FloatOps F]

local notation "𝕄" => MT nD τ sig Unit (Elt F) ℕ (Option PUnit) ℕ

/-! ## The arguments are never written -/

/-- The three arguments. -/
abbrev argRefs : List (Ref sig .tc) := [main_arg0, main_arg1, main_arg2]

/-- A stretch whose written buffers are none of the arguments keeps an argument. -/
theorem kept {ops : List (HloOp τ sig (Elt F))} {Wr : List (Ref sig .tc)} {r : Ref sig .tc}
    (hw : ops.Forall fun op => op.writes ⊆ (Wr.map (Proc.devRef (τ := τ) .tc)).toFinset)
    (hd : ∀ a ∈ argRefs, a ∉ Wr) (h : r ∈ argRefs) (V : Valuation τ sig (Elt F)) :
    after ops V (Proc.devRef .tc r) = V (Proc.devRef .tc r) :=
  after_of_writes_sub ops V hw (hd r h)

/-- Stretches each of which keeps a buffer keep it together. -/
theorem afterL_kept (r : Ref sig .tc) : ∀ (items : List (List (HloOp τ sig (Elt F)))),
    (∀ ops ∈ items, ∀ V, after ops V (Proc.devRef .tc r) = V (Proc.devRef .tc r)) →
    ∀ V, afterL items V (Proc.devRef .tc r) = V (Proc.devRef .tc r)
  | [], _, _ => rfl
  | ops :: rest, h, V =>
    (afterL_kept r rest (fun o ho => h o (List.mem_cons_of_mem _ ho)) (after ops V)).trans (h ops List.mem_cons_self V)

/-! What the stretches after the loop write. -/

abbrev hostOps0_15_W : List (Ref sig .tc) := [main_cst_30]
theorem hostOps0_15_writes : (hostOps0_15 : List (HloOp τ sig (Elt F))).Forall fun op => op.writes ⊆ (hostOps0_15_W.map (Proc.devRef (τ := τ) .tc)).toFinset :=
  StableHlo.forall_writes_sub_of_map rfl
abbrev hostOps0_16_W : List (Ref sig .tc) := [main_call9_v0, main_call9_v1, main_v158]
theorem hostOps0_16_writes : (hostOps0_16 : List (HloOp τ sig (Elt F))).Forall fun op => op.writes ⊆ (hostOps0_16_W.map (Proc.devRef (τ := τ) .tc)).toFinset :=
  StableHlo.forall_writes_sub_of_map rfl
abbrev hostOps0_17_W : List (Ref sig .tc) := [main_values_31, main_indices_32, main_v159]
theorem hostOps0_17_writes : (hostOps0_17 : List (HloOp τ sig (Elt F))).Forall fun op => op.writes ⊆ (hostOps0_17_W.map (Proc.devRef (τ := τ) .tc)).toFinset :=
  StableHlo.forall_writes_sub_of_map rfl
abbrev hostOps0_18_W : List (Ref sig .tc) := [main_call10_c, main_call10_v0, main_call10_v1, main_call10_c_0, main_call10_v2, main_call10_v3, main_call10_v4, main_call10_c_1, main_call10_c_2, main_call10_v5, main_call10_v6, main_call10_v7, main_call10_v8, main_call10_v9, main_call10_v10, main_call10_c_3, main_call10_v11, main_call10_v12, main_call10_v13, main_call10_cst, main_call10_v14, main_v160]
theorem hostOps0_18_writes : (hostOps0_18 : List (HloOp τ sig (Elt F))).Forall fun op => op.writes ⊆ (hostOps0_18_W.map (Proc.devRef (τ := τ) .tc)).toFinset :=
  StableHlo.forall_writes_sub_of_map rfl
abbrev hostOps0_19_W : List (Ref sig .tc) := [main_v161, main_v162]
theorem hostOps0_19_writes : (hostOps0_19 : List (HloOp τ sig (Elt F))).Forall fun op => op.writes ⊆ (hostOps0_19_W.map (Proc.devRef (τ := τ) .tc)).toFinset :=
  StableHlo.forall_writes_sub_of_map rfl

theorem pre_kept {r : Ref sig .tc} (h : r ∈ argRefs) : ∀ ops ∈ preI (F := F), ∀ V, after ops V (Proc.devRef .tc r) = V (Proc.devRef .tc r) := by
  simp only [preI, List.forall_mem_cons]
  exact ⟨kept hostOps0_writes (by decide) h,
    kept hostOps0_1_writes (by decide) h,
    kept hostOps0_2_writes (by decide) h,
    kept hostOps0_3_writes (by decide) h,
    kept hostOps0_4_writes (by decide) h,
    kept hostOps0_5_writes (by decide) h,
    kept hostOps0_6_writes (by decide) h,
    kept hostOps0_7_writes (by decide) h,
    kept hostOps0_8_writes (by decide) h,
    kept hostOps0_9_writes (by decide) h,
    kept hostOps0_10_writes (by decide) h,
    kept hostOps0_11_writes (by decide) h,
    kept hostOps0_12_writes (by decide) h,
    kept hostOps0_13_writes (by decide) h,
    kept hostOps0_14_writes (by decide) h, nofun⟩

theorem trip_kept {r : Ref sig .tc} (h : r ∈ argRefs) : ∀ ops ∈ bodyI (F := F), ∀ V, after ops V (Proc.devRef .tc r) = V (Proc.devRef .tc r) := by
  simp only [bodyI, List.forall_mem_cons]
  exact ⟨kept while0Ops0_writes (by decide) h,
    kept while0Ops0_1_writes (by decide) h,
    kept while0Ops0_2_writes (by decide) h,
    kept while0Ops0_3_writes (by decide) h, nofun⟩

theorem post_kept {r : Ref sig .tc} (h : r ∈ argRefs) : ∀ ops ∈ postI (F := F), ∀ V, after ops V (Proc.devRef .tc r) = V (Proc.devRef .tc r) := by
  simp only [postI, List.forall_mem_cons]
  exact ⟨kept hostOps0_15_writes (by decide) h,
    kept hostOps0_16_writes (by decide) h,
    kept hostOps0_17_writes (by decide) h,
    kept hostOps0_18_writes (by decide) h,
    kept hostOps0_19_writes (by decide) h, nofun⟩

theorem cond_kept {r : Ref sig .tc} (h : r ∈ argRefs) (V : Valuation τ sig (Elt F)) :
    after condOps V (Proc.devRef .tc r) = V (Proc.devRef .tc r) := kept condOps_writes (by decide) h V

variable (m : (ℓ : Loc nD τ sig) → Buf (Elt F) ℓ) (ρ : Dev nD → PrngReg)

/-- The loop's trips keep an argument. -/
theorem atTrip_kept {r : Ref sig .tc} (h : r ∈ argRefs) (c : Dev nD) : ∀ k,
    atTrip condOps bodyI (entryContents preI m) k c (Proc.devRef .tc r) = launchContents m c (Proc.devRef .tc r)
  | 0 => afterL_kept r preI (pre_kept h) (launchContents m c)
  | k + 1 => (afterL_kept r bodyI (trip_kept h) _).trans ((cond_kept h _).trans (atTrip_kept h c k))

/-- The whole run keeps an argument. -/
theorem final_kept {r : Ref sig .tc} (h : r ∈ argRefs) (c : Dev nD) :
    finalContents condOps preI bodyI postI 4000 m c (Proc.devRef .tc r) = m ((c.tc : Thread nD τ).loc r) :=
  (afterL_kept r postI (post_kept h) _).trans ((cond_kept h _).trans (atTrip_kept m h c 4000))

/-! ## The run with its counters -/

abbrev adm₀ : (p : Fin 0) → (pcfgs (F := F) p).Adm := fun p => p.elim0
abbrev tk₀ : Fin 0 → Ticket (Ix := Unit) (Name := ℕ) (U := Option PUnit) (Lvl := ℕ) (nD := nD) (τ := τ) (pcfgs (F := F)) adm₀ := fun j => j.elim0
abbrev lev₀ : GSem nD τ sig → Finset Unit := fun _ => ∅
abbrev lv₀ : GSem nD τ sig → Unit → ℕ := fun _ _ => 0

/-- What rides along: the core owes nothing. -/
abbrev Rest (c : Dev nD) : sProp 𝕄 := iprop(∃ W, owes (c : Thread nD τ) (0 : CellTallies nD τ sig Unit) W)

/-- The condition of the loop with the core's debts beside it. -/
theorem loopCond : LoopCond (pcfgs (F := F)) defs₀ Variants.none loops Rest main_while0_cond condOps bodyI (entryContents preI m) 4000 := fun k hk c bd => by
  refine BIBase.Entails.trans ?_ (((Laws.sep_mono_left (Q := Rest c) (cond_spec m k hk c bd)).trans (wp_frame_r _ _ _)).trans (wp_mono _ _ _ fun v => ?_))
  · iintro ⟨Hb, Hh, HR⟩
    isplitl [Hb Hh]
    · isplitl [Hb] <;> iassumption
    iexact HR
  · iintro ⟨⟨%hv, Hb, Hh⟩, HR⟩
    isplitr; · ipureintro; exact hv
    isplitl [Hb]; · iexact Hb
    isplitl [Hh] <;> iassumption

/-- The program's segments: the stretches before the loop, the loop and those after it. -/
def parts : List (CSeg (pcfgs (F := F)) adm₀ defs₀ Variants.none lev₀ lv₀ loops tk₀) :=
  segsOf _ _ _ _ _ _ _ _ Rest preI hpre (launchContents m)
    ++ loopSeg _ _ _ _ _ _ _ _ 0 main_while0_cond main_while0_body rfl condOps bodyI hbodyI (by rw [while0_body_chain]; rfl) 4000
        (entryContents preI m) Rest (loopCond m)
      :: segsOf _ _ _ _ _ _ _ _ Rest postI hpost (fun c => after condOps (atTrip condOps bodyI (entryContents preI m) 4000 c))

theorem parts_prog : (parts m).map CSeg.prog
    = ((preI (F := F)).map fun ops => (seq ops : Prog _ PUnit)) ++ HostLoop.enter 0 :: postI.map fun ops => (seq ops : Prog _ PUnit) := by
  unfold parts
  rw [List.map_append, List.map_cons, segsOf_prog, segsOf_prog]
  rfl

theorem parts_chains : CSeg.Chains (fun c => iprop(held (c : Thread nD τ) (ucRefs τ sig) (launchContents m c) ∗ Rest c)) (parts m)
    (fun c => iprop(iprop(held (c : Thread nD τ) (ucRefs τ sig) (finalContents condOps preI bodyI postI 4000 m c)) ∗ ∃ W, owes (c : Thread nD τ) (0 : CellTallies nD τ sig Unit) W)) := by
  unfold parts
  exact CSeg.Chains.append (segsOf_chains _ _ _ _ _ _ _ _ Rest preI hpre _)
    ⟨fun _ => .rfl, segsOf_chains _ _ _ _ _ _ _ _ Rest postI hpost _⟩

theorem parts_runL : CSeg.runL (parts m)
    = Pipeline.chain (((preI (F := F)).map fun ops => (seq ops : Prog _ PUnit)) ++ HostLoop.enter 0 :: postI.map fun ops => (seq ops : Prog _ PUnit)) := by
  unfold CSeg.runL
  exact congrArg Pipeline.chain (parts_prog m)

theorem main_parts (c : Dev nD) : main (F := F) c
    = Pipeline.chain ((preI.map fun ops => (seq ops : Prog _ PUnit)) ++ HostLoop.enter 0 :: postI.map fun ops => (seq ops : Prog _ PUnit)) := by
  rw [main_chain]; rfl

/-- Every semaphore of the program lives in a kernel's scope: it has none outside. -/
theorem sems_scoped : ∀ s : SemLoc sig, s.isScoped .tc = true := by decide

/-- The run: every buffer ends at the fold and every counter at zero. -/
theorem run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = finalContents condOps preI bodyI postI 4000 m c (Proc.devRef .tc b)) ∧ r.2.sem = fun _ => 0) :=
  θ_run_regions_loop_kit_sems (Ix := Unit) (Name := ℕ) (U := Option PUnit) (Lvl := ℕ) (J := Fin 0) (P := Fin 0) (Val := Elt F)
    pcfgs adm₀ (fun k => k.1.elim0) defs₀ Variants.none lev₀ lv₀ loops tk₀ m ρ main (parts m)
    (fun c Q => .of_eq (congrArg (fun p => wp _ _ _ p Q) ((parts_runL m).trans (main_parts c).symm)))
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rest c))
    (Tₙ := fun c => iprop(held (c : Thread nD τ) (ucRefs τ sig) (finalContents condOps preI bodyI postI 4000 m c)))
    (hch := parts_chains m)
    (hinit := by
      refine Pipeline.initEach lev₀ lv₀ fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = finalContents condOps preI bodyI postI 4000 m c b)
    (hfin := fun c s' => by
      unfold held
      iintro ⟨Hh, HSI⟩
      ihave Hr := (pointsTo_read_all (ucRefs τ sig) (fun b => ((c : Dev nD), b)) (fun b => finalContents condOps preI bodyI postI 4000 m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (sems_scoped g.2))⟩)

/-- The frame: the arguments are kept and every counter ends at zero. -/
theorem frame_run : θ_run (defs (F := F)) (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c main_arg0 rfl).trans (final_kept m (by decide) c), (h.1 c main_arg1 rfl).trans (final_kept m (by decide) c),
      (h.1 c main_arg2 rfl).trans (final_kept m (by decide) c)⟩, h.2⟩) (run m ρ)

end Cert.Proof.RI

end
-- ==== Proof.Nms.Greedy.lean ====
/-
  The greedy choice: an item is kept when it is valid and no kept item before it suppresses it. A mask that satisfies this
  rule on a prefix is the choice there, and repeating the rule on any mask corrects one more place each time.
-/
module

public import Mathlib.Data.Fin.Basic
public import Mathlib.Tactic.Common

@[expose] public section

namespace Cert.Nms

/-- Whether item `i` is kept: it is valid, and no kept item before it suppresses it. -/
def keep (val : ℕ → Prop) (H : ℕ → ℕ → Prop) (i : ℕ) : Prop :=
  val i ∧ ∀ j, (_h : j < i) → keep val H j → ¬ H j i
termination_by i

theorem keep_iff (val : ℕ → Prop) (H : ℕ → ℕ → Prop) (i : ℕ) :
    keep val H i ↔ val i ∧ ∀ j, j < i → keep val H j → ¬ H j i := by
  rw [keep]

/-- The choice depends on the items up to the place only. -/
theorem keep_congr {val val' : ℕ → Prop} {H H' : ℕ → ℕ → Prop} {n : ℕ} (hv : ∀ i < n, val i ↔ val' i)
    (hH : ∀ i < n, ∀ j < i, H j i ↔ H' j i) : ∀ i < n, keep val H i ↔ keep val' H' i := by
  intro i
  induction i using Nat.strong_induction_on with
  | _ i ih =>
    intro hi
    rw [keep_iff, keep_iff, hv i hi]
    refine and_congr_right fun _ => forall_congr' fun j => ?_
    refine forall_congr' fun hj => ?_
    rw [ih j hj (hj.trans hi), hH i hi j hj]

section block
variable (val : ℕ → Prop) (H : ℕ → ℕ → Prop) (lo : ℕ)

/-- The rule inside a block whose first item is `lo`, from a mask of the block. -/
def rule (a : ℕ → Prop) (r : ℕ) : Prop :=
  (val (lo + r) ∧ ¬ ∃ j, j < lo ∧ H j (lo + r) ∧ keep val H j) ∧ ¬ ∃ i, i < r ∧ H (lo + i) (lo + r) ∧ a i

theorem rule_keep (r : ℕ) : rule val H lo (fun i => keep val H (lo + i)) r ↔ keep val H (lo + r) := by
  rw [keep_iff]
  unfold rule
  constructor
  · rintro ⟨⟨hv, h1⟩, h2⟩
    refine ⟨hv, fun j hj hk hh => ?_⟩
    by_cases h : j < lo
    · exact h1 ⟨j, h, hh, hk⟩
    · obtain ⟨i, rfl⟩ : ∃ i, j = lo + i := ⟨j - lo, by omega⟩
      exact h2 ⟨i, by omega, hh, hk⟩
  · rintro ⟨hv, h⟩
    exact ⟨⟨hv, fun ⟨j, hj, hh, hk⟩ => h j (by omega) hk hh⟩, fun ⟨i, hi, hh, hk⟩ => h (lo + i) (by omega) hk hh⟩

/-- A mask that is the choice below `p` becomes, by the rule, the choice up to `p`. -/
theorem rule_step {a : ℕ → Prop} {p : ℕ} (h : ∀ r < p, a r ↔ keep val H (lo + r)) :
    ∀ r < p + 1, rule val H lo a r ↔ keep val H (lo + r) := by
  intro r hr
  rw [← rule_keep]
  unfold rule
  refine and_congr_right fun _ => not_congr (exists_congr fun i => and_congr_right fun hi => and_congr_right fun _ => h i (by omega))

end block

end Cert.Nms
-- ==== Proof.Nms.Read.lean ====
/-
  The suppression kernel's arithmetic read at an index over the ideal numbers: the table entry of two boxes, the two
  "is any true" reductions as existence, the block's two steps, and the strict orders of the block.
-/
module

public import proofs.«01_k».proof.Proof.Nms.Block
public import Idealize.ShloMosaic.Lib.ValueLayout
public import Idealize.ShloMosaic.Lib.ValueLayoutCasts
public import Idealize.ShloMosaic.Lib.ValueIdx
public import Idealize.ShloMosaic.Lib.IdealHost
public import Idealize.ShloMosaic.PureOps.Ideal.Laws

@[expose] public section

set_option maxRecDepth 16384

noncomputable section

namespace Cert.Nms

open Idealize.ShloMosaic Idealize.ShloMosaic.ValueIdx

/-! ## Two boxes -/

/-- One box. -/
structure Box where
  x1 : Ideal .f32
  y1 : Ideal .f32
  x2 : Ideal .f32
  y2 : Ideal .f32
  valid : BitVec 1
  area : Ideal .f32

/-- The length two intervals share, at least zero. -/
def overlap (a1 a2 b1 b2 : Ideal .f32) : Ideal .f32 :=
  max (Ideal.ofBits .f32 0x00000000#32) (min a2 b2 - max a1 b1 + Ideal.ofBits .f32 0x3F800000#32)

/-- Whether the overlap ratio of two boxes exceeds the threshold. -/
def hits (a b : Box) : Prop :=
  Ideal.ofBits .f32 0x3F333333#32 < Ideal.div (overlap a.x1 a.x2 b.x1 b.x2 * overlap a.y1 a.y2 b.y1 b.y2)
    (a.area + b.area - overlap a.x1 a.x2 b.x1 b.x2 * overlap a.y1 a.y2 b.y1 b.y2)

theorem overlap_comm (a1 a2 b1 b2 : Ideal .f32) : overlap a1 a2 b1 b2 = overlap b1 b2 a1 a2 := by
  unfold overlap; rw [min_comm, max_comm a1 b1]

theorem hits_comm (a b : Box) : hits a b ↔ hits b a := by
  unfold hits
  rw [overlap_comm a.x1, overlap_comm a.y1, add_comm a.area]

/-- Box `r` of a column, and of a row. -/
def colBox {p : ℕ} (C : Boxes Ideal (M p 1)) (r : Fin p) : Box :=
  ⟨C.x1 (ix2 r 0), C.y1 (ix2 r 0), C.x2 (ix2 r 0), C.y2 (ix2 r 0), C.valid (ix2 r 0), C.area (ix2 r 0)⟩
def rowBox {q : ℕ} (R : Boxes Ideal (M 1 q)) (c : Fin q) : Box :=
  ⟨R.x1 (ix2 0 c), R.y1 (ix2 0 c), R.x2 (ix2 0 c), R.y2 (ix2 0 c), R.valid (ix2 0 c), R.area (ix2 0 c)⟩

theorem col_apply {α : Type} {p q : ℕ} (x : (M p 1).Idx → α) (r : Fin p) (c : Fin q) :
    broadcastTo (M p q) x (broadcasts_col p q) (ix2 r c) = x (ix2 r 0) := by
  refine broadcastTo_apply x _ (ix2 r c) (ix2 r 0) fun ax => ?_
  match ax with
  | ⟨0, _⟩ =>
    show r.val = if p = 1 then 0 else r.val
    split
    · have := r.isLt; omega
    · rfl
  | ⟨1, _⟩ => rfl

theorem row_apply {α : Type} {p q : ℕ} (x : (M 1 q).Idx → α) (r : Fin p) (c : Fin q) :
    broadcastTo (M p q) x (broadcasts_row p q) (ix2 r c) = x (ix2 0 c) := broadcastTo_1b_ab_apply x _ r c

theorem shared_apply {p q : ℕ} (b1 b2 : FVec Ideal (M p 1) .f32) (r1 r2 : FVec Ideal (M 1 q) .f32) (r : Fin p) (c : Fin q) :
    shared p q b1 b2 r1 r2 (ix2 r c) = overlap (b1 (ix2 r 0)) (b2 (ix2 r 0)) (r1 (ix2 0 c)) (r2 (ix2 0 c)) := by
  rw [← col_apply (q := q) b1 r c, ← col_apply (q := q) b2 r c, ← row_apply (p := p) r1 r c, ← row_apply (p := p) r2 r c]
  rfl

theorem ofBool_on (p : Prop) [Decidable p] : BitVec.ofBool (decide p) = 1#1 ↔ p := by
  by_cases h : p <;> simp [h]

theorem supOf_on {p q : ℕ} (C : Boxes Ideal (M p 1)) (R : Boxes Ideal (M 1 q)) (r : Fin p) (c : Fin q) :
    supOf p q C R (ix2 r c) = 1#1 ↔ hits (colBox C r) (rowBox R c) := by
  have e : supOf p q C R (ix2 r c) = BitVec.ofBool (decide (Ideal.ofBits .f32 0x3F333333#32 <
      Ideal.div (shared p q C.x1 C.x2 R.x1 R.x2 (ix2 r c) * shared p q C.y1 C.y2 R.y1 R.y2 (ix2 r c))
        (broadcastTo (M p q) C.area (broadcasts_col p q) (ix2 r c) + broadcastTo (M p q) R.area (broadcasts_row p q) (ix2 r c)
          - shared p q C.x1 C.x2 R.x1 R.x2 (ix2 r c) * shared p q C.y1 C.y2 R.y1 R.y2 (ix2 r c)))) := rfl
  rw [e, ofBool_on, shared_apply, shared_apply, col_apply, row_apply]
  rfl

theorem colBox_part (C : Boxes Ideal (M 4096 1)) (i p : ℕ) (h : i + p ≤ 4096) (r : Fin p) :
    colBox (C.colPart i p h) r = colBox C ⟨i + r.val, by omega⟩ := by
  have e : ∀ {α : Type} (x : (M 4096 1).Idx → α), colPart i p h x (ix2 r 0) = x (ix2 ⟨i + r.val, by omega⟩ 0) :=
    fun x => slice2_axis0_eq i x _ r 0
  unfold colBox Boxes.colPart
  simp only [e]

theorem rowBox_part (R : Boxes Ideal (M 1 4096)) (j q : ℕ) (h : j + q ≤ 4096) (c : Fin q) :
    rowBox (R.rowPart j q h) c = rowBox R ⟨j + c.val, by omega⟩ := by
  have e : ∀ {α : Type} (x : (M 1 4096).Idx → α), rowPart j q h x (ix2 0 c) = x (ix2 0 ⟨j + c.val, by omega⟩) :=
    fun x => slice2_axis1_eq j x _ 0 c
  unfold rowBox Boxes.rowPart
  simp only [e]

/-! ## Is any true -/

theorem bot_word : Ideal.ofBits .f32 0xFF800000#32 = ⊥ := by simp [Ideal.ofBits, Ideal.ieee]

/-- The greatest of a family of ones and zeros is over zero when one of them is a one. -/
theorem any_fold {ι : Type} (S : Finset ι) (x : ι → BitVec 1) :
    Ideal.ofBits .f32 0x00000000#32 < S.fold max (Ideal.ofBits .f32 0xFF800000#32)
        (fun i => if x i = 1#1 then Ideal.ofBits .f32 0x3F800000#32 else Ideal.ofBits .f32 0x00000000#32)
      ↔ ∃ i ∈ S, x i = 1#1 := by
  rw [Finset.lt_fold_max, bot_word, Ideal.ofBits_zero_f32, Ideal.ofBits_one_f32]
  constructor
  · rintro (h | ⟨i, hi, h⟩)
    · exact absurd h (by simp)
    · refine ⟨i, hi, ?_⟩
      by_contra hx
      rw [if_neg hx] at h
      exact lt_irrefl _ h
  · rintro ⟨i, hi, h⟩
    refine .inr ⟨i, hi, ?_⟩
    rw [if_pos h]
    exact zero_lt_one

theorem oneZero_apply (s : Shape) (x : IVec s 1) (i : s.Idx) :
    oneZero (F := Ideal) s x i = if x i = 1#1 then Ideal.ofBits .f32 0x3F800000#32 else Ideal.ofBits .f32 0x00000000#32 := rfl

theorem lift_cols {m n : ℕ} (r : Fin m) (c : Fin n) : (reduces_cols m n).lift (ix1 r) c = ix2 r c := by
  funext a; apply Fin.ext
  match a with
  | ⟨0, _⟩ => rfl
  | ⟨1, _⟩ => rfl

theorem lift_rows {m n : ℕ} (r : Fin m) (c : Fin n) : (reduces_rows m n).lift (ix1 c) r = ix2 r c := by
  funext a; apply Fin.ext
  match a with
  | ⟨0, _⟩ => rfl
  | ⟨1, _⟩ => rfl

theorem anyCol_on {m n : ℕ} (x : IVec (M m n) 1) (r : Fin m) (u : Fin 1) :
    anyCol (F := Ideal) m n x (ix2 r u) = 1#1 ↔ ∃ c : Fin n, x (ix2 r c) = 1#1 := by
  unfold anyCol
  rw [shapeCast_a_a1_apply]
  show BitVec.ofBool (decide (Ideal.ofBits .f32 0x00000000#32 < multiReduction (F := Ideal) .maximumf [1] (V m) (oneZero (M m n) x) 0xFF800000#32 (reduces_cols m n) (.inl rfl) rfl (ix1 r))) = 1#1 ↔ _
  rw [ofBool_on]
  refine (iff_of_eq (congrArg (fun z => Ideal.ofBits .f32 0x00000000#32 < z)
    (Ideal.multiReduction_maximumf_single (φ := .f32) _ _ _ _ _ _))).trans ?_
  refine (any_fold Finset.univ (fun c : Fin n => x ((reduces_cols m n).lift (ix1 r) c))).trans ?_
  simp only [lift_cols]
  exact ⟨fun ⟨c, _, h⟩ => ⟨c, h⟩, fun ⟨c, h⟩ => ⟨c, Finset.mem_univ _, h⟩⟩

theorem anyRow_on {m n : ℕ} (x : IVec (M m n) 1) (u : Fin 1) (c : Fin n) :
    anyRow (F := Ideal) m n x (ix2 u c) = 1#1 ↔ ∃ r : Fin m, x (ix2 r c) = 1#1 := by
  unfold anyRow
  rw [shapeCast_a_1a_apply]
  show BitVec.ofBool (decide (Ideal.ofBits .f32 0x00000000#32 < multiReduction (F := Ideal) .maximumf [0] (V n) (oneZero (M m n) x) 0xFF800000#32 (reduces_rows m n) (.inl rfl) rfl (ix1 c))) = 1#1 ↔ _
  rw [ofBool_on]
  refine (iff_of_eq (congrArg (fun z => Ideal.ofBits .f32 0x00000000#32 < z)
    (Ideal.multiReduction_maximumf_single (φ := .f32) _ _ _ _ _ _))).trans ?_
  refine (any_fold Finset.univ (fun r : Fin m => x ((reduces_rows m n).lift (ix1 c) r))).trans ?_
  simp only [lift_rows]
  exact ⟨fun ⟨c, _, h⟩ => ⟨c, h⟩, fun ⟨c, h⟩ => ⟨c, Finset.mem_univ _, h⟩⟩

/-- No place of a column mask holds true when its word is zero. -/
theorem anyWord_off (x : IVec (M 256 1) 1) (h : anyWord (F := Ideal) x = 0#32) (r : Fin 256) : x (ix2 r 0) ≠ 1#1 := by
  intro hx
  unfold anyWord at h
  have e : extractAt ![0, 0, 0] (shapeCast ⟨3, ![1, 1, 1]⟩
      (multiReduction (F := Ideal) .maximumf [1, 2] (V 1) (shapeCast ⟨3, ![1, 256, 1]⟩ (oneZero (M 256 1) x) casts_3) 0xFF800000#32
        reduces_3 (.inl rfl) rfl) casts_111) inpos_111
      = (Finset.univ.filter fun i => reduces_3.drop i = ix1 0).fold max (Ideal.ofBits .f32 0xFF800000#32)
          (shapeCast ⟨3, ![1, 256, 1]⟩ (oneZero (F := Ideal) (M 256 1) x) casts_3) := by
    refine (show _ = multiReduction (F := Ideal) .maximumf [1, 2] (V 1) (shapeCast ⟨3, ![1, 256, 1]⟩ (oneZero (M 256 1) x) casts_3)
      0xFF800000#32 reduces_3 (.inl rfl) rfl (ix1 0) from shapeCast_apply _ casts_111 (ix3 0 0 0) (ix1 0) rfl).trans ?_
    exact multiReduction_maximumf_eq_fold _ _ _ _ _ _
  rw [e] at h
  have pos : Ideal.ofBits .f32 0x00000000#32 < (Finset.univ.filter fun i => reduces_3.drop i = ix1 0).fold max (Ideal.ofBits .f32 0xFF800000#32)
          (shapeCast ⟨3, ![1, 256, 1]⟩ (oneZero (F := Ideal) (M 256 1) x) casts_3) := by
    refine (any_fold _ (shapeCast ⟨3, ![1, 256, 1]⟩ x casts_3)).mpr ⟨ix3 0 r 0, ?_, ?_⟩
    · exact Finset.mem_filter.mpr ⟨Finset.mem_univ _, funext fun a => match a with | ⟨0, _⟩ => Subsingleton.elim (α := Fin 1) _ _⟩
    · rw [shapeCast_apply x casts_3 (ix3 0 r 0) (ix2 r 0) (by
        rw [Shape.rowMajor_val_two, Shape.rowMajor_val_three]
        show r.val * 1 + 0 = (0 * 256 + r.val) * 1 + 0
        omega)]
      exact hx
  have : Scalar.cmpf (F := Ideal) (φ := .f32) .ogt ((Finset.univ.filter fun i => reduces_3.drop i = ix1 0).fold max (Ideal.ofBits .f32 0xFF800000#32)
          (shapeCast ⟨3, ![1, 256, 1]⟩ (oneZero (F := Ideal) (M 256 1) x) casts_3)) (Scalar.ofBits .f32 0x00000000#32) = 1#1 := by
    show BitVec.ofBool (decide _) = 1#1
    exact (ofBool_on _).mpr pos
  rw [this] at h
  exact absurd h (by decide)

/-! ## The block's steps -/

theorem bit_cases (b : BitVec 1) : b = 0#1 ∨ b = 1#1 := by
  revert b; decide

theorem neg_on {s : Shape} (x : IVec s 1) (i : s.Idx) : neg s x i = 1#1 ↔ ¬ x i = 1#1 := by
  show x i ^^^ 1#1 = 1#1 ↔ _
  rcases bit_cases (x i) with h | h <;> rw [h] <;> decide

theorem andi_on {s : Shape} (x y : IVec s 1) (i : s.Idx) : andi x y i = 1#1 ↔ x i = 1#1 ∧ y i = 1#1 := by
  show x i &&& y i = 1#1 ↔ _
  rcases bit_cases (x i) with h | h <;> rcases bit_cases (y i) with h' | h' <;> rw [h, h'] <;> decide

theorem nz_on {s : Shape} (x : IVec s 32) (i : s.Idx) : nz s x i = 1#1 ↔ x i ≠ 0#32 := by
  show BitVec.ofBool (x i != 0#32) = 1#1 ↔ _
  by_cases h : x i = 0#32
  · simp [h]
  · have e : (x i != 0#32) = true := by simpa using h
    simp [e, h]

theorem wide_on {s : Shape} (x : IVec s 1) (i : s.Idx) : wide s x i ≠ 0#32 ↔ x i = 1#1 := by
  show (x i).zeroExtend 32 ≠ 0#32 ↔ _
  rcases bit_cases (x i) with h | h <;> rw [h] <;> decide

theorem nz_wide {s : Shape} (x : IVec s 1) : nz s (wide s x) = x := by
  funext i
  rcases bit_cases (x i) with h | h
  · rw [h]
    rcases bit_cases (nz s (wide s x) i) with h' | h'
    · exact h'
    · rw [nz_on, wide_on, h] at h'; exact absurd h' (by decide)
  · rw [h, nz_on, wide_on, h]

theorem rowStep_on (t : IVec (M 256 256) 1) (al : IVec (M 1 256) 1) (a : IVec (M 256 1) 1) (c : Fin 256) :
    rowStep (F := Ideal) t al a (ix2 0 c) = 1#1
      ↔ al (ix2 0 c) = 1#1 ∧ ¬ ∃ r : Fin 256, t (ix2 r c) = 1#1 ∧ a (ix2 r 0) = 1#1 := by
  unfold rowStep
  rw [andi_on, neg_on, anyRow_on]
  simp only [andi_on, col_apply]

theorem colStep_on (t : IVec (M 256 256) 1) (al : IVec (M 256 1) 1) (a : IVec (M 1 256) 1) (r : Fin 256) :
    colStep (F := Ideal) t al a (ix2 r 0) = 1#1
      ↔ al (ix2 r 0) = 1#1 ∧ ¬ ∃ c : Fin 256, t (ix2 r c) = 1#1 ∧ a (ix2 0 c) = 1#1 := by
  unfold colStep
  rw [andi_on, neg_on, anyCol_on]
  simp only [andi_on, row_apply]

theorem slt_small (a b : ℕ) (ha : a < 256) (hb : b < 256) : (BitVec.ofNat 32 a).slt (BitVec.ofNat 32 b) = decide (a < b) := by
  rw [BitVec.slt_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

theorem lowM_on (r c : Fin 256) : lowM (ix2 r c) = 1#1 ↔ r.val < c.val := by
  have e : lowM (ix2 r c) = BitVec.ofBool ((BitVec.ofNat 32 (0 * 256 + r.val)).slt (BitVec.ofNat 32 (0 * 256 + c.val))) := rfl
  rw [e, Nat.zero_mul, Nat.zero_add, Nat.zero_add, slt_small _ _ r.isLt c.isLt, ofBool_on]

theorem uppM_on (r c : Fin 256) : uppM (ix2 r c) = 1#1 ↔ c.val < r.val := by
  have e : uppM (ix2 r c) = BitVec.ofBool ((BitVec.ofNat 32 (0 * 256 + c.val)).slt (BitVec.ofNat 32 (0 * 256 + r.val))) := rfl
  rw [e, Nat.zero_mul, Nat.zero_add, Nat.zero_add, slt_small _ _ c.isLt r.isLt, ofBool_on]

end Cert.Nms

end
-- ==== Proof.Nms.Masks.lean ====
/-
  The sixteen blocks compute the greedy choice: the loop of a block ends at the choice inside the block, and a block takes
  masks that hold the choice below it to masks that hold the choice up to its end.
-/
module

public import proofs.«01_k».proof.Proof.Nms.Greedy
public import proofs.«01_k».proof.Proof.Nms.Read
public import proofs.«01_k».proof.Proof.Nms.Put

@[expose] public section

set_option maxRecDepth 16384

noncomputable section

namespace Cert.Nms

open Idealize.ShloMosaic Idealize.ShloMosaic.ValueIdx

/-- The choice among the boxes `B 0, B 1, …`. -/
abbrev kept (B : ℕ → Box) : ℕ → Prop := keep (fun n => (B n).valid = 1#1) (fun j i => hits (B j) (B i))

/-- Valid, and suppressed by no kept box below `lo`. -/
def alive (B : ℕ → Box) (lo n : ℕ) : Prop := (B n).valid = 1#1 ∧ ¬ ∃ j, j < lo ∧ hits (B j) (B n) ∧ kept B j

theorem rule_eq (B : ℕ → Box) (lo : ℕ) (a : ℕ → Prop) (r : ℕ) :
    rule (fun n => (B n).valid = 1#1) (fun j i => hits (B j) (B i)) lo a r
      ↔ alive B lo (lo + r) ∧ ¬ ∃ i, i < r ∧ hits (B (lo + i)) (B (lo + r)) ∧ a i := Iff.rfl

theorem goes_on (ch : BitVec 32) (j : ℕ) (hj : j ≤ 256) : goes ch (BitVec.ofNat 32 j) = 1#1 ↔ ch ≠ 0#32 ∧ j < 256 := by
  have e : goes ch (BitVec.ofNat 32 j) = BitVec.ofBool (ch != 0#32) &&& BitVec.ofBool ((BitVec.ofNat 32 j).slt 256#32) := rfl
  have e' : (BitVec.ofNat 32 j).slt 256#32 = decide (j < 256) := by
    rw [BitVec.slt_eq_decide, BitVec.toInt_eq_toNat_of_lt (by rw [BitVec.toNat_ofNat]; omega), BitVec.toNat_ofNat,
      Nat.mod_eq_of_lt (by omega)]
    simp
  rw [e, e']
  by_cases h : ch = 0#32
  · subst h; simp
  · have e2 : (ch != 0#32) = true := by simpa using h
    rw [e2]
    by_cases h' : j < 256 <;> simp [h, h']

section loop
variable (B : ℕ → Box) (lo : ℕ) (t : IVec (M 256 256) 1) (ac : IVec (M 256 1) 1) (ar : IVec (M 1 256) 1)
  (ht : ∀ r c : Fin 256, t (ix2 r c) = 1#1 ↔ hits (B (lo + r)) (B (lo + c)))
  (hac : ∀ r : Fin 256, ac (ix2 r 0) = 1#1 ↔ alive B lo (lo + r))
  (har : ∀ c : Fin 256, ar (ix2 0 c) = 1#1 ↔ alive B lo (lo + c))

/-- A column mask holds the choice below place `p` of the block. -/
def Good (x : IVec (M 256 1) 1) (p : ℕ) : Prop := ∀ r : Fin 256, r.val < p → (x (ix2 r 0) = 1#1 ↔ kept B (lo + r))

include ht har in
theorem row_good {x : IVec (M 256 1) 1} {p : ℕ} (hx : Good B lo x p) (c : Fin 256) (hc : c.val < p + 1) :
    rowStep (F := Ideal) (andi t lowM) ar x (ix2 0 c) = 1#1 ↔ kept B (lo + c) := by
  have h := rule_step (fun n => (B n).valid = 1#1) (fun j i => hits (B j) (B i)) lo
    (a := fun i => ∃ h : i < 256, x (ix2 ⟨i, h⟩ 0) = 1#1) (p := min p 256)
    (fun r hr => ⟨fun ⟨h, hh⟩ => (hx ⟨r, h⟩ (by show r < p; omega)).mp hh, fun hk => ⟨by omega, (hx ⟨r, by omega⟩ (by show r < p; omega)).mpr hk⟩⟩)
    c.val (by have := c.isLt; omega)
  refine Iff.trans ?_ h
  rw [rule_eq, rowStep_on, har]
  refine and_congr_right fun _ => not_congr ⟨?_, ?_⟩
  · rintro ⟨r, h1, h2⟩
    rw [andi_on, ht, lowM_on] at h1
    exact ⟨r.val, h1.2, h1.1, r.isLt, h2⟩
  · rintro ⟨i, hi, hh, hi', hx'⟩
    exact ⟨⟨i, hi'⟩, by rw [andi_on, ht, lowM_on]; exact ⟨hh, hi⟩, hx'⟩

include ht hac har in
theorem pass_good {x : IVec (M 256 1) 1} {p : ℕ} (hx : Good B lo x p) :
    Good B lo (pass (F := Ideal) (andi t lowM) ar (andi t uppM) ac (wide _ x)) (p + 1) := by
  intro r hr
  unfold pass
  rw [nz_wide]
  have h := rule_step (fun n => (B n).valid = 1#1) (fun j i => hits (B j) (B i)) lo
    (a := fun i => ∃ h : i < 256, rowStep (F := Ideal) (andi t lowM) ar x (ix2 0 ⟨i, h⟩) = 1#1) (p := min p 256)
    (fun r hr => ⟨fun ⟨h, hh⟩ => (row_good B lo t ar ht har hx ⟨r, h⟩ (by show r < p + 1; omega)).mp hh,
      fun hk => ⟨by omega, (row_good B lo t ar ht har hx ⟨r, by omega⟩ (by show r < p + 1; omega)).mpr hk⟩⟩)
    r.val (by have := r.isLt; omega)
  refine Iff.trans ?_ h
  rw [rule_eq, colStep_on, hac]
  refine and_congr_right fun _ => not_congr ⟨?_, ?_⟩
  · rintro ⟨c, h1, h2⟩
    rw [andi_on, ht, uppM_on, hits_comm] at h1
    exact ⟨c.val, h1.2, h1.1, c.isLt, h2⟩
  · rintro ⟨i, hi, hh, hi', hx'⟩
    exact ⟨⟨i, hi'⟩, by rw [andi_on, ht, uppM_on, hits_comm]; exact ⟨hh, hi⟩, hx'⟩

include ht hac har in
theorem still_good {x : IVec (M 256 1) 1} (h : pass (F := Ideal) (andi t lowM) ar (andi t uppM) ac (wide _ x) = x) (p : ℕ) :
    Good B lo x p := by
  induction p with
  | zero => exact fun r hr => absurd hr (Nat.not_lt_zero _)
  | succ p ih => have g := pass_good B lo t ac ar ht hac har ih; rwa [h] at g

theorem eq_of_off (x y : IVec (M 256 1) 1) (h : anyWord (F := Ideal) (xori x y) = 0#32) : x = y := by
  funext i
  have e : i = ix2 (i 0) 0 := by
    rw [eq_ix2 i]
    exact congrArg (ix2 (i 0)) (Subsingleton.elim (α := Fin 1) _ _)
  have hi := anyWord_off _ h (i 0)
  have hi' : x i ^^^ y i ≠ 1#1 := by rw [e]; exact hi
  rcases bit_cases (x i) with h | h <;> rcases bit_cases (y i) with h' | h' <;> rw [h, h'] at hi' ⊢ <;>
    exact absurd (by decide) hi'

include ht hac har in
theorem fix_good : ∀ (k j : ℕ) (x : IVec (M 256 1) 1) (ch : BitVec 32), k + j = 256 → Good B lo x j →
    (ch = 0#32 → pass (F := Ideal) (andi t lowM) ar (andi t uppM) ac (wide _ x) = x) →
    ∃ y : IVec (M 256 1) 1, (fix (F := Ideal) (andi t lowM) ar (andi t uppM) ac k (wide _ x) ch (BitVec.ofNat 32 j)).1 = wide _ y ∧ Good B lo y 256
  | 0, j, x, ch, hk, hx, _ => ⟨x, rfl, by rw [show j = 256 by omega] at hx; exact hx⟩
  | k + 1, j, x, ch, hk, hx, hch => by
    unfold fix
    by_cases hg : goes ch (BitVec.ofNat 32 j) = 1#1
    · rw [if_pos hg]
      have e : Scalar.addi (BitVec.ofNat 32 j) 1#32 = BitVec.ofNat 32 (j + 1) := by
        show BitVec.ofNat 32 j + BitVec.ofNat 32 1 = _
        rw [BitVec.ofNat_add]
      rw [e]
      refine fix_good k (j + 1) _ _ (by omega) (pass_good B lo t ac ar ht hac har hx) fun h0 => ?_
      unfold moves at h0
      rw [nz_wide] at h0
      have := eq_of_off _ _ h0
      rw [this, this]
    · rw [if_neg hg]
      refine ⟨x, rfl, still_good B lo t ac ar ht hac har (hch ?_) 256⟩
      by_contra hne
      exact hg ((goes_on ch j (by omega)).mpr ⟨hne, by omega⟩)

include ht hac har in
theorem fixed_good : ∃ y : IVec (M 256 1) 1, fixed (F := Ideal) t ac ar = wide _ y ∧ Good B lo y 256 :=
  fix_good B lo t ac ar ht hac har 256 0 ac 1#32 (by omega) (fun r hr => absurd hr (Nat.not_lt_zero _)) (fun h => absurd h (by decide))

end loop

/-! ## The blocks -/

/-- The masks hold the choice below `lo`, and the row mask holds nothing from there. -/
structure Inv (B : ℕ → Box) (lo : ℕ) (s : Masks) : Prop where
  row : ∀ j : Fin 4096, j.val < lo → (s.1 (ix2 0 j) ≠ 0#32 ↔ kept B j)
  rest : ∀ j : Fin 4096, lo ≤ j.val → s.1 (ix2 0 j) = 0#32
  col : ∀ j : Fin 4096, j.val < lo → (s.2 (ix2 j 0) ≠ 0#32 ↔ kept B j)

theorem inv_none (B : ℕ → Box) : Inv B 0 noneS :=
  ⟨fun j h => absurd h (Nat.not_lt_zero _), fun _ _ => rfl, fun j h => absurd h (Nat.not_lt_zero _)⟩

theorem put_row_in (lo : ℕ) (h : lo + 256 ≤ 4096) (w : IVec (M 1 256) 32) (X : IVec (M 1 4096) 32) (r : Fin 256) :
    put (rowRect lo 256 h) (shapeCast (M 1 256) w rfl) X (ix2 0 ⟨lo + r.val, by omega⟩) = w (ix2 0 r) := by
  rw [shapeCast_self]
  refine put_in (s := M 1 4096) (off := ![0, lo]) (size := (M 1 256).size) _ _ _ (ix2 0 r) fun a => ?_
  match a with
  | ⟨0, _⟩ => rfl
  | ⟨1, _⟩ => rfl

theorem put_row_out (lo : ℕ) (h : lo + 256 ≤ 4096) (w : IVec (M 1 256) 32) (X : IVec (M 1 4096) 32) (j : Fin 4096)
    (hj : j.val < lo ∨ lo + 256 ≤ j.val) : put (rowRect lo 256 h) (shapeCast (M 1 256) w rfl) X (ix2 0 j) = X (ix2 0 j) := by
  refine put_out _ _ _ 1 ?_
  exact hj

theorem put_col_in (lo : ℕ) (h : lo + 256 ≤ 4096) (w : IVec (M 256 1) 32) (X : IVec (M 4096 1) 32) (r : Fin 256) :
    put (colRect lo 256 h) (shapeCast (M 256 1) w rfl) X (ix2 ⟨lo + r.val, by omega⟩ 0) = w (ix2 r 0) := by
  rw [shapeCast_self]
  refine put_in (s := M 4096 1) (off := ![lo, 0]) (size := (M 256 1).size) _ _ _ (ix2 r 0) fun a => ?_
  match a with
  | ⟨0, _⟩ => rfl
  | ⟨1, _⟩ => rfl

theorem put_col_out (lo : ℕ) (h : lo + 256 ≤ 4096) (w : IVec (M 256 1) 32) (X : IVec (M 4096 1) 32) (j : Fin 4096)
    (hj : j.val < lo ∨ lo + 256 ≤ j.val) : put (colRect lo 256 h) (shapeCast (M 256 1) w rfl) X (ix2 j 0) = X (ix2 j 0) := by
  refine put_out _ _ _ 0 ?_
  exact hj

theorem inv_step (B : ℕ → Box) (lo : ℕ) (hlo : lo + 256 ≤ 4096) (s : Masks) (hs : Inv B lo s) (p : IVec (M 1 4096) 32) (q : IVec (M 4096 1) 32)
    (pin : ∀ r : Fin 256, p (ix2 0 ⟨lo + r.val, by omega⟩) ≠ 0#32 ↔ kept B (lo + r))
    (pout : ∀ j : Fin 4096, j.val < lo ∨ lo + 256 ≤ j.val → p (ix2 0 j) = s.1 (ix2 0 j))
    (qin : ∀ r : Fin 256, q (ix2 ⟨lo + r.val, by omega⟩ 0) ≠ 0#32 ↔ kept B (lo + r))
    (qout : ∀ j : Fin 4096, j.val < lo ∨ lo + 256 ≤ j.val → q (ix2 j 0) = s.2 (ix2 j 0)) : Inv B (lo + 256) (p, q) := by
  have split : ∀ j : Fin 4096, j.val < lo + 256 → ¬ j.val < lo → ∃ r : Fin 256, j = ⟨lo + r.val, by omega⟩ := fun j h1 h2 =>
    ⟨⟨j.val - lo, by omega⟩, Fin.ext (by show j.val = lo + (j.val - lo); omega)⟩
  refine ⟨fun j hj => ?_, fun j hj => (pout j (.inr hj)).trans (hs.rest j (by omega)), fun j hj => ?_⟩
  · by_cases h : j.val < lo
    · rw [← hs.row j h]
      exact not_congr (iff_of_eq (congrArg (· = 0#32) (pout j (.inl h))))
    · obtain ⟨r, hr⟩ := split j hj h
      have := pin r
      rw [← hr] at this
      rw [show j.val = lo + r.val from congrArg Fin.val hr]
      exact this
  · by_cases h : j.val < lo
    · rw [← hs.col j h]
      exact not_congr (iff_of_eq (congrArg (· = 0#32) (qout j (.inl h))))
    · obtain ⟨r, hr⟩ := split j hj h
      have := qin r
      rw [← hr] at this
      rw [show j.val = lo + r.val from congrArg Fin.val hr]
      exact this

theorem end_inv (B : ℕ → Box) (lo : ℕ) (hlo : lo + 256 ≤ 4096) (t : IVec (M 256 256) 1) (ac : IVec (M 256 1) 1) (ar : IVec (M 1 256) 1)
    (s : Masks) (hs : Inv B lo s) (ht : ∀ r c : Fin 256, t (ix2 r c) = 1#1 ↔ hits (B (lo + r)) (B (lo + c)))
    (hac : ∀ r : Fin 256, ac (ix2 r 0) = 1#1 ↔ alive B lo (lo + r))
    (har : ∀ c : Fin 256, ar (ix2 0 c) = 1#1 ↔ alive B lo (lo + c)) :
    Inv B (lo + 256) (endS (F := Ideal) lo hlo t ac ar s) := by
  obtain ⟨y, hy, hg⟩ := fixed_good B lo t ac ar ht hac har
  unfold endS
  rw [hy, nz_wide]
  refine inv_step B lo hlo s hs _ _ (fun r => ?_) (fun j hj => put_row_out lo hlo _ _ j hj) (fun r => ?_) (fun j hj => put_col_out lo hlo _ _ j hj)
  · rw [put_row_in lo hlo, wide_on]
    exact row_good B lo t ar ht har hg r (by have := r.isLt; omega)
  · rw [put_col_in lo hlo, wide_on]
    exact hg r r.isLt

theorem row_idx (j q : ℕ) (h : j + q ≤ 4096) (c : Fin q) : (rowRect j q h).toLoadRect.idx (ix2 0 c) = ix2 0 ⟨j + c.val, by omega⟩ := by
  funext a; apply Fin.ext
  match a with
  | ⟨0, _⟩ => rfl
  | ⟨1, _⟩ => show j + 1 * c.val = j + c.val; omega

theorem col_idx (j q : ℕ) (h : j + q ≤ 4096) (c : Fin q) : (colRect j q h).toLoadRect.idx (ix2 c 0) = ix2 ⟨j + c.val, by omega⟩ 0 := by
  funext a; apply Fin.ext
  match a with
  | ⟨0, _⟩ => show j + 1 * c.val = j + c.val; omega
  | ⟨1, _⟩ => rfl

section blocks
variable (B : ℕ → Box) (C : Boxes Ideal (M 4096 1)) (R : Boxes Ideal (M 1 4096))
  (hC : ∀ r : Fin 4096, colBox C r = B r) (hR : ∀ c : Fin 4096, rowBox R c = B c)

include hC in
theorem valid_col (lo : ℕ) (h : lo + 256 ≤ 4096) (r : Fin 256) : colPart lo 256 h C.valid (ix2 r 0) = (B (lo + r)).valid := by
  have e : colPart lo 256 h C.valid (ix2 r 0) = (colBox (C.colPart lo 256 h) r).valid := rfl
  rw [e, colBox_part, hC]

include hR in
theorem valid_row (lo : ℕ) (h : lo + 256 ≤ 4096) (c : Fin 256) : rowPart lo 256 h R.valid (ix2 0 c) = (B (lo + c)).valid := by
  have e : rowPart lo 256 h R.valid (ix2 0 c) = (rowBox (R.rowPart lo 256 h) c).valid := rfl
  rw [e, rowBox_part, hR]

include hC hR in
theorem blk_inv (lo hi : ℕ) (h : lo + 256 = hi) (hhi : hi ≤ 4096) (Rh : Boxes Ideal (M 1 hi)) (hRh : ∀ c : Fin hi, rowBox Rh c = B c)
    (s : Masks) (hs : Inv B lo s) : Inv B hi (blkS C R lo hi h hhi Rh s) := by
  subst h
  have hsup : ∀ (r : Fin 256) (c : Fin (lo + 256)),
      supOf 256 (lo + 256) (C.colPart lo 256 (by omega)) Rh (ix2 r c) = 1#1 ↔ hits (B (lo + r)) (B c) := fun r c => by
    rw [supOf_on, colBox_part, hC, hRh]
  unfold blkS
  refine end_inv B lo (by omega) _ _ _ s hs (fun r c => ?_) (fun r => ?_) (fun c => ?_)
  · rw [show extractStridedSlice (M 256 256) ![0, lo] (supOf 256 (lo + 256) (C.colPart lo 256 (by omega)) Rh)
        (slices 256 (lo + 256) 0 lo 256 256 (by omega) (by omega)) (ix2 r c)
      = supOf 256 (lo + 256) (C.colPart lo 256 (by omega)) Rh (ix2 r ⟨lo + c.val, by omega⟩) from
      slice2_axis1_apply lo _ _ r c ⟨lo + c.val, by omega⟩ rfl, hsup]
  · rw [andi_on, valid_col B C hC, neg_on, anyCol_on]
    refine and_congr_right fun _ => not_congr ⟨?_, ?_⟩
    · rintro ⟨c, hc⟩
      rw [andi_on, hsup, row_apply, nz_on, row_idx, hits_comm] at hc
      have hlt : c.val < lo := by
        by_contra hge
        exact hc.2 (hs.rest _ (by show lo ≤ 0 + c.val; omega))
      refine ⟨c.val, hlt, hc.1, ?_⟩
      have := (hs.row ⟨0 + c.val, by omega⟩ (by show 0 + c.val < lo; omega)).mp hc.2
      simpa using this
    · rintro ⟨j, hj, hh, hk⟩
      refine ⟨⟨j, by omega⟩, ?_⟩
      rw [andi_on, hsup, row_apply, nz_on, row_idx, hits_comm]
      refine ⟨hh, (hs.row ⟨0 + j, by omega⟩ (by show 0 + j < lo; omega)).mpr ?_⟩
      simpa using hk
  · rw [andi_on, valid_row B R hR, neg_on, anyRow_on]
    refine and_congr_right fun _ => not_congr ⟨?_, ?_⟩
    · rintro ⟨r, hr⟩
      rw [andi_on, supOf_on, colBox_part, rowBox_part, hC, hR, col_apply, nz_on, col_idx] at hr
      refine ⟨r.val, r.isLt, by simpa using hr.1, ?_⟩
      have := (hs.col ⟨0 + r.val, by omega⟩ (by show 0 + r.val < lo; omega)).mp hr.2
      simpa using this
    · rintro ⟨j, hj, hh, hk⟩
      refine ⟨⟨j, hj⟩, ?_⟩
      rw [andi_on, supOf_on, colBox_part, rowBox_part, hC, hR, col_apply, nz_on, col_idx]
      refine ⟨by simpa using hh, (hs.col ⟨0 + j, by omega⟩ (by show 0 + j < lo; omega)).mpr ?_⟩
      simpa using hk

include hC hR in
theorem blk0_inv (s : Masks) (hs : Inv B 0 s) : Inv B 256 (blk0S C R s) := by
  have hsup : ∀ (r : Fin 256) (c : Fin 256),
      supOf 256 256 (C.colPart 0 256 (by omega)) (R.rowPart 0 256 (by omega)) (ix2 r c) = 1#1 ↔ hits (B (0 + r)) (B (0 + c)) := fun r c => by
    rw [supOf_on, colBox_part, rowBox_part, hC, hR]
  unfold blk0S
  refine end_inv B 0 (by omega) _ _ _ s hs hsup (fun r => ?_) (fun c => ?_)
  · rw [andi_on, valid_col B C hC, neg_on, anyCol_on]
    refine and_congr_right fun _ => not_congr ⟨?_, fun ⟨j, hj, _⟩ => absurd hj (Nat.not_lt_zero _)⟩
    rintro ⟨c, hc⟩
    rw [andi_on, row_apply, nz_on, row_idx] at hc
    exact absurd (hs.rest _ (Nat.zero_le _)) hc.2
  · rw [andi_on, valid_row B R hR, neg_on]
    refine and_congr_right fun _ => not_congr ⟨fun h => absurd (show (0#1 : BitVec 1) = 1#1 from h) (by decide), fun ⟨j, hj, _⟩ => absurd hj (Nat.not_lt_zero _)⟩

include hR in
theorem part_box (q : ℕ) (h : 0 + q ≤ 4096) (c : Fin q) : rowBox (R.rowPart 0 q h) c = B c := by
  rw [rowBox_part, hR]
  simp

include hC hR in
theorem blocks_inv : Inv B 4096 (blocksS C R noneS) := by
  unfold blocksS
  refine blk_inv B C R hC hR 3840 4096 _ _ _ hR _ ?_
  refine blk_inv B C R hC hR 3584 3840 _ _ _ (part_box B R hR _ _) _ ?_
  refine blk_inv B C R hC hR 3328 3584 _ _ _ (part_box B R hR _ _) _ ?_
  refine blk_inv B C R hC hR 3072 3328 _ _ _ (part_box B R hR _ _) _ ?_
  refine blk_inv B C R hC hR 2816 3072 _ _ _ (part_box B R hR _ _) _ ?_
  refine blk_inv B C R hC hR 2560 2816 _ _ _ (part_box B R hR _ _) _ ?_
  refine blk_inv B C R hC hR 2304 2560 _ _ _ (part_box B R hR _ _) _ ?_
  refine blk_inv B C R hC hR 2048 2304 _ _ _ (part_box B R hR _ _) _ ?_
  refine blk_inv B C R hC hR 1792 2048 _ _ _ (part_box B R hR _ _) _ ?_
  refine blk_inv B C R hC hR 1536 1792 _ _ _ (part_box B R hR _ _) _ ?_
  refine blk_inv B C R hC hR 1280 1536 _ _ _ (part_box B R hR _ _) _ ?_
  refine blk_inv B C R hC hR 1024 1280 _ _ _ (part_box B R hR _ _) _ ?_
  refine blk_inv B C R hC hR 768 1024 _ _ _ (part_box B R hR _ _) _ ?_
  refine blk_inv B C R hC hR 512 768 _ _ _ (part_box B R hR _ _) _ ?_
  refine blk_inv B C R hC hR 256 512 _ _ _ (part_box B R hR _ _) _ ?_
  exact blk0_inv B C R hC hR _ (inv_none B)

end blocks

end Cert.Nms

end
-- ==== Proof.Nms.Result.lean ====
/-
  The suppression kernel's block of results read at an index: in its first four rows the corners of the decoded boxes, in
  the fifth the score of a box that the greedy choice keeps and the low word for the others.
-/
module

public import proofs.«01_k».proof.Proof.Nms.Masks

@[expose] public section

set_option maxRecDepth 16384

noncomputable section

namespace Cert.Nms

open Idealize.ShloMosaic Idealize.ShloMosaic.ValueIdx

/-- The box decoded from four deltas and an anchor's four corners. -/
def point (d : Fin 8 → Ideal .f32) : Box :=
  rowBox (decode (M 1 1) (fun _ => d 0) (fun _ => d 1) (fun _ => d 2) (fun _ => d 3) (fun _ => d 4) (fun _ => d 5) (fun _ => d 6)
    (fun _ => d 7)) 0

theorem rowBox_decode {n : ℕ} (a0 a1 a2 a3 a4 a5 a6 a7 : FVec Ideal (M 1 n) .f32) (c : Fin n) :
    rowBox (decode (M 1 n) a0 a1 a2 a3 a4 a5 a6 a7) c
      = point ![a0 (ix2 0 c), a1 (ix2 0 c), a2 (ix2 0 c), a3 (ix2 0 c), a4 (ix2 0 c), a5 (ix2 0 c), a6 (ix2 0 c), a7 (ix2 0 c)] := rfl

theorem colBox_decode {n : ℕ} (a0 a1 a2 a3 a4 a5 a6 a7 : FVec Ideal (M n 1) .f32) (r : Fin n) :
    colBox (decode (M n 1) a0 a1 a2 a3 a4 a5 a6 a7) r
      = point ![a0 (ix2 r 0), a1 (ix2 r 0), a2 (ix2 r 0), a3 (ix2 r 0), a4 (ix2 r 0), a5 (ix2 r 0), a6 (ix2 r 0), a7 (ix2 r 0)] := rfl

theorem rowAt_apply (X : FVec Ideal R8 .f32) (k : ℕ) (hk : k < 8) (j : Fin 4096) :
    rowAt X k hk (ix2 0 j) = X (ix3 0 ⟨k, hk⟩ j) := by
  unfold rowAt
  refine (shapeCast_1ab_ab_apply _ _ 0 j).trans (congrArg X (funext fun a => Fin.ext ?_))
  match a with
  | ⟨0, _⟩ => rfl
  | ⟨1, _⟩ => show k + 1 * 0 = k; omega
  | ⟨2, _⟩ => show 0 + 1 * j.val = j.val; omega

theorem colAt_apply (X : FVec Ideal C8 .f32) (k : ℕ) (hk : k < 8) (j : Fin 4096) :
    colAt X k hk (ix2 j 0) = X (ix3 0 j ⟨k, hk⟩) := by
  unfold colAt
  refine (shapeCast_1ab_ab_apply _ _ j 0).trans (congrArg X (funext fun a => Fin.ext ?_))
  match a with
  | ⟨0, _⟩ => rfl
  | ⟨1, _⟩ => show 0 + 1 * j.val = j.val; omega
  | ⟨2, _⟩ => show k + 1 * 0 = k; omega

theorem rowBoxes_box (X : FVec Ideal R8 .f32) (j : Fin 4096) : rowBox (rowBoxes X) j = point fun k => X (ix3 0 k j) := by
  unfold rowBoxes
  rw [rowBox_decode]
  simp only [rowAt_apply]
  exact congrArg point (funext fun k => by fin_cases k <;> rfl)

theorem colBoxes_box (X : FVec Ideal C8 .f32) (j : Fin 4096) : colBox (colBoxes X) j = point fun k => X (ix3 0 j k) := by
  unfold colBoxes
  rw [colBox_decode]
  simp only [colAt_apply]
  exact congrArg point (funext fun k => by fin_cases k <;> rfl)

theorem toR1_apply (w : FVec Ideal (M 1 4096) .f32) (j : Fin 4096) : shapeCast R1 w casts_toR1 (r1 j) = w (ix2 0 j) := by
  have e : r1 j = ix3 0 0 j := by
    funext a
    match a with | ⟨0, _⟩ => rfl | ⟨1, _⟩ => rfl | ⟨2, _⟩ => rfl
  rw [e]; exact shapeCast_ab_1ab_apply _ _ 0 0 j

theorem masked_apply (s : Masks) (S : FVec Ideal R1 .f32) (j : Fin 4096) :
    masked s S (ix2 0 j) = if s.1 (ix2 0 j) ≠ 0#32 then S (ix3 0 0 j) else Ideal.ofBits .f32 0xD01502F9#32 := by
  have e1 : (rowRect 0 4096 (by omega)).toLoadRect.idx (ix2 0 j) = (ix2 0 j : (M 1 4096).Idx) := by
    rw [row_idx]; congr 1; apply Fin.ext; exact Nat.zero_add _
  have e2 : shapeCast (M 1 4096) (fun x => S (rectR1.toLoadRect.idx x)) casts_R1 (ix2 0 j) = S (ix3 0 0 j) := by
    refine (shapeCast_1ab_ab_apply _ _ 0 j).trans (congrArg S (funext fun a => Fin.ext ?_))
    match a with
    | ⟨0, _⟩ => rfl
    | ⟨1, _⟩ => rfl
    | ⟨2, _⟩ => show 0 + 1 * j.val = j.val; omega
  have e3 : masked s S (ix2 0 j) = if nz (M 1 4096) (fun x => s.1 ((rowRect 0 4096 (by omega)).toLoadRect.idx x)) (ix2 0 j) = 1#1
      then shapeCast (M 1 4096) (fun x => S (rectR1.toLoadRect.idx x)) casts_R1 (ix2 0 j) else Ideal.ofBits .f32 0xD01502F9#32 := rfl
  rw [e3, e2]
  refine if_congr ?_ rfl rfl
  rw [nz_on, e1]

section
variable (X1 : FVec Ideal R8 .f32) (X2 : FVec Ideal C8 .f32) (X3 : FVec Ideal R1 .f32)

/-- The corner `k` of a box. -/
def Box.corner (B : Box) (k : Fin 4) : Ideal .f32 := ![B.x1, B.y1, B.x2, B.y2] k

theorem result_corner (k : Fin 4) (j : Fin 4096) :
    result X1 X2 X3 (ix3 0 ⟨k.val, by omega⟩ j) = (point fun k => X1 (ix3 0 k j)).corner k := by
  rw [← rowBoxes_box]
  unfold result outOf
  have h := k.isLt
  rw [putRow_ne 7 _ _ _ _ (by show k.val ≠ 7; omega), putRow_ne 6 _ _ _ _ (by show k.val ≠ 6; omega),
    putRow_ne 5 _ _ _ _ (by show k.val ≠ 5; omega), putRow_ne 4 _ _ _ _ (by show k.val ≠ 4; omega)]
  match k with
  | ⟨3, _⟩ => rw [putRow_at 3 _ _ _ _ rfl]; exact toR1_apply _ j
  | ⟨2, _⟩ => rw [putRow_ne 3 _ _ _ _ (by show 2 ≠ 3; omega), putRow_at 2 _ _ _ _ rfl]; exact toR1_apply _ j
  | ⟨1, _⟩ =>
    rw [putRow_ne 3 _ _ _ _ (by show 1 ≠ 3; omega), putRow_ne 2 _ _ _ _ (by show 1 ≠ 2; omega), putRow_at 1 _ _ _ _ rfl]
    exact toR1_apply _ j
  | ⟨0, _⟩ =>
    rw [putRow_ne 3 _ _ _ _ (by show 0 ≠ 3; omega), putRow_ne 2 _ _ _ _ (by show 0 ≠ 2; omega),
      putRow_ne 1 _ _ _ _ (by show 0 ≠ 1; omega), putRow_at 0 _ _ _ _ rfl]
    exact toR1_apply _ j

open Classical in
theorem result_score (B : ℕ → Box) (h1 : ∀ j : Fin 4096, (point fun k => X1 (ix3 0 k j)) = B j)
    (h2 : ∀ j : Fin 4096, (point fun k => X2 (ix3 0 j k)) = B j) (j : Fin 4096) :
    result X1 X2 X3 (ix3 0 4 j) = if kept B j then X3 (ix3 0 0 j) else Ideal.ofBits .f32 0xD01502F9#32 := by
  have hs := blocks_inv B (colBoxes X2) (rowBoxes X1) (fun r => (colBoxes_box X2 r).trans (h2 r))
    (fun c => (rowBoxes_box X1 c).trans (h1 c))
  unfold result outOf
  rw [putRow_ne 7 _ _ _ _ (by show 4 ≠ 7; omega), putRow_ne 6 _ _ _ _ (by show 4 ≠ 6; omega),
    putRow_ne 5 _ _ _ _ (by show 4 ≠ 5; omega), putRow_at 4 _ _ _ _ rfl]
  refine (toR1_apply _ j).trans ((masked_apply _ _ j).trans ?_)
  exact if_congr (hs.row j j.isLt) rfl rfl

end

end Cert.Nms

end
-- ==== Proof.KI.Arrays.lean ====
/-
  What the two kernels leave in their result arrays: the logistic of the whole first array, and for each of the two images
  the suppression kernel's block of results.
-/
module

public import proofs.«01_k».proof.Proof.KI.Run
public import proofs.«01_k».proof.Proof.Nms.Result
public import Idealize.ShloMosaic.Lib.Pipeline.Value

@[expose] public section

set_option maxRecDepth 16384

noncomputable section

namespace Cert.Proof.KI

open Cert.KernelIdeal Cert.KernelIdeal.Gen Cert.Nms
open Idealize.ShloMosaic Idealize.ShloMosaic.ValueIdx
open Idealize.ShloMosaic.TcCoe
open Idealize.SL Idealize.SL.Sem
open Idealize.ShloMosaic.Pipeline (Dat arrRef)

variable {F : FTy → Type} [FloatOps F]

/-! ## The windows' blocks in their arrays -/

theorem index0_0 : ∀ (t : Fin grid0.N) (a : Fin 2), win0_0.index t a = 0 := by decide +kernel
theorem index0_1 : ∀ (t : Fin grid0.N) (a : Fin 2), win0_1.index t a = 0 := by decide +kernel
theorem index1_0 : ∀ (t : Fin grid1.N) (a : Fin 3), win1_0.index t a = if a = 0 then t.val else 0 := by decide +kernel
theorem index1_1 : ∀ (t : Fin grid1.N) (a : Fin 3), win1_1.index t a = if a = 0 then t.val else 0 := by decide +kernel
theorem index1_2 : ∀ (t : Fin grid1.N) (a : Fin 3), win1_2.index t a = if a = 0 then t.val else 0 := by decide +kernel
theorem index1_3 : ∀ (t : Fin grid1.N) (a : Fin 3), win1_3.index t a = if a = 0 then t.val else 0 := by decide +kernel

theorem emb0_0 (t : Fin (cfg0 (F := F)).N) (y : S2x45600.Idx) : (((cfg0 (F := F)).win 0).blk t).view.emb y = y :=
  funext fun a => Fin.ext (Pipeline.Window.rect_emb_val_of_index_zero win0_0 t a (index0_0 t a) y)
theorem emb0_1 (t : Fin (cfg0 (F := F)).N) (y : S2x45600.Idx) : (((cfg0 (F := F)).win 1).blk t).view.emb y = y :=
  funext fun a => Fin.ext (Pipeline.Window.rect_emb_val_of_index_zero win0_1 t a (index0_1 t a) y)

/-- The image a point of the grid treats. -/
abbrev imgOf (t : Fin (cfg1 (F := F)).N) : Fin 2 := ⟨t.val, t.isLt⟩

theorem emb1_0 (t : Fin (cfg1 (F := F)).N) (y : S1x8x4096.Idx) :
    (((cfg1 (F := F)).win 0).blk t).view.emb y = (ix3 (imgOf t) (y 1) (y 2) : S2x8x4096.Idx) := by
  funext a; apply Fin.ext
  refine (Pipeline.Window.rect_emb_val win1_0 t y a).trans ?_
  match a with
  | ⟨0, _⟩ =>
    show win1_0.index t 0 * 1 + (y 0).val = t.val
    have h := (y 0).isLt; rw [index1_0, if_pos rfl, Nat.lt_one_iff.mp h, Nat.mul_one]; rfl
  | ⟨1, _⟩ => show win1_0.index t 1 * 8 + (y 1).val = (y 1).val; rw [index1_0, if_neg (by decide), Nat.zero_mul, Nat.zero_add]
  | ⟨2, _⟩ => show win1_0.index t 2 * 4096 + (y 2).val = (y 2).val; rw [index1_0, if_neg (by decide), Nat.zero_mul, Nat.zero_add]

theorem emb1_1 (t : Fin (cfg1 (F := F)).N) (y : S1x4096x8.Idx) :
    (((cfg1 (F := F)).win 1).blk t).view.emb y = (ix3 (imgOf t) (y 1) (y 2) : S2x4096x8.Idx) := by
  funext a; apply Fin.ext
  refine (Pipeline.Window.rect_emb_val win1_1 t y a).trans ?_
  match a with
  | ⟨0, _⟩ =>
    show win1_1.index t 0 * 1 + (y 0).val = t.val
    have h := (y 0).isLt; rw [index1_1, if_pos rfl, Nat.lt_one_iff.mp h, Nat.mul_one]; rfl
  | ⟨1, _⟩ => show win1_1.index t 1 * 4096 + (y 1).val = (y 1).val; rw [index1_1, if_neg (by decide), Nat.zero_mul, Nat.zero_add]
  | ⟨2, _⟩ => show win1_1.index t 2 * 8 + (y 2).val = (y 2).val; rw [index1_1, if_neg (by decide), Nat.zero_mul, Nat.zero_add]

theorem emb1_2 (t : Fin (cfg1 (F := F)).N) (y : S1x1x4096.Idx) :
    (((cfg1 (F := F)).win 2).blk t).view.emb y = (ix3 (imgOf t) (y 1) (y 2) : S2x1x4096.Idx) := by
  funext a; apply Fin.ext
  refine (Pipeline.Window.rect_emb_val win1_2 t y a).trans ?_
  match a with
  | ⟨0, _⟩ =>
    show win1_2.index t 0 * 1 + (y 0).val = t.val
    have h := (y 0).isLt; rw [index1_2, if_pos rfl, Nat.lt_one_iff.mp h, Nat.mul_one]; rfl
  | ⟨1, _⟩ => show win1_2.index t 1 * 1 + (y 1).val = (y 1).val; rw [index1_2, if_neg (by decide), Nat.zero_mul, Nat.zero_add]
  | ⟨2, _⟩ => show win1_2.index t 2 * 4096 + (y 2).val = (y 2).val; rw [index1_2, if_neg (by decide), Nat.zero_mul, Nat.zero_add]

theorem emb1_3 (t : Fin (cfg1 (F := F)).N) (y : S1x8x4096.Idx) :
    (((cfg1 (F := F)).win 3).blk t).view.emb y = (ix3 (imgOf t) (y 1) (y 2) : S2x8x4096.Idx) := by
  funext a; apply Fin.ext
  refine (Pipeline.Window.rect_emb_val win1_3 t y a).trans ?_
  match a with
  | ⟨0, _⟩ =>
    show win1_3.index t 0 * 1 + (y 0).val = t.val
    have h := (y 0).isLt; rw [index1_3, if_pos rfl, Nat.lt_one_iff.mp h, Nat.mul_one]; rfl
  | ⟨1, _⟩ => show win1_3.index t 1 * 8 + (y 1).val = (y 1).val; rw [index1_3, if_neg (by decide), Nat.zero_mul, Nat.zero_add]
  | ⟨2, _⟩ => show win1_3.index t 2 * 4096 + (y 2).val = (y 2).val; rw [index1_3, if_neg (by decide), Nat.zero_mul, Nat.zero_add]

/-! ## The result arrays -/

variable (m : (ℓ : Loc nD τ sig) → Buf (Elt F) ℓ)

/-- Image `b` of an array of two. -/
def img {α : Type} {p q : ℕ} (X : (⟨3, ![2, p, q]⟩ : Shape).Idx → α) (b : Fin 2) : (⟨3, ![1, p, q]⟩ : Shape).Idx → α :=
  fun x => X (ix3 b (x 1) (x 2))

/-- The block of results of the image `b` of three arrays. -/
def leaves (X1 : FVec F S2x8x4096 .f32) (X2 : FVec F S2x4096x8 .f32) (X3 : FVec F S2x1x4096 .f32) : FVec F S2x8x4096 .f32 :=
  fun i => result (img X1 (i 0)) (img X2 (i 0)) (img X3 (i 0)) (ix3 0 (i 1) (i 2))

theorem leaves_block (X1 : FVec F S2x8x4096 .f32) (X2 : FVec F S2x4096x8 .f32) (X3 : FVec F S2x1x4096 .f32)
    (t : Fin (cfg1 (F := F)).N) (y : S1x8x4096.Idx) :
    result (img X1 (imgOf t)) (img X2 (imgOf t)) (img X3 (imgOf t)) y
      = leaves X1 X2 X3 ((((cfg1 (F := F)).win 3).blk t).view.emb y) := by
  rw [emb1_3]
  refine congrArg (result _ _ _) (funext fun a => ?_)
  match a with
  | ⟨0, h0⟩ => exact Fin.ext (Nat.lt_one_iff.mp (y ⟨0, h0⟩).isLt)
  | ⟨1, _⟩ => rfl
  | ⟨2, _⟩ => rfl

theorem cover1 (i : S2x8x4096.Idx) :
    ∃ t : Fin (cfg1 (F := F)).N, ((cfg1 (F := F)).win 3).flush t = true ∧ i ∈ (((cfg1 (F := F)).win 3).blk t).view.set := by
  have ht : (i 0).val < grid1.N := (i 0).isLt
  have e := (emb1_3 (F := F) ⟨(i 0).val, ht⟩ (ix3 0 (i 1) (i 2))).trans (eq_ix3 i).symm
  exact ⟨⟨(i 0).val, ht⟩, flush1_3 _, Eq.mp (congrArg (· ∈ (((cfg1 (F := F)).win 3).blk ⟨(i 0).val, ht⟩).view.set) e)
    ((((cfg1 (F := F)).win 3).blk ⟨(i 0).val, ht⟩).view.emb_mem_set _)⟩

theorem cover0 (i : S2x45600.Idx) :
    ∃ t : Fin (cfg0 (F := F)).N, ((cfg0 (F := F)).win 1).flush t = true ∧ i ∈ (((cfg0 (F := F)).win 1).blk t).view.set := by
  have ht : 0 < grid0.N := by decide
  have e := emb0_1 (F := F) ⟨0, ht⟩ i
  exact ⟨⟨0, ht⟩, flush0_1 _, Eq.mp (congrArg (· ∈ (((cfg0 (F := F)).win 1).blk ⟨0, ht⟩).view.set) e)
    ((((cfg0 (F := F)).win 1).blk ⟨0, ht⟩).view.emb_mem_set _)⟩

/-- The scores. -/
theorem sig1_eq (c : Dev nD) :
    sig1 m c = (logistic (F := F) (s := S2x45600) (φ := .f32) (V1 m c (Proc.devRef .tc main_v1)) : FVec F S2x45600 .f32) := by
  have eo : ∀ t, obj (V1 m) c t = V1 m c (Proc.devRef .tc main_v1) := fun t => funext fun y =>
    congrArg (V1 m c (Proc.devRef .tc main_v1)) (emb0_0 t y)
  unfold sig1
  refine (dat0 (V1 m) c).arrAt_eq_of_cover 1 _ (fun t _ => funext fun y => ?_) cover0
  show logistic (F := F) (obj (V1 m) c t) y
    = logistic (F := F) (s := S2x45600) (φ := .f32) (V1 m c (Proc.devRef .tc main_v1)) ((((cfg0 (F := F)).win 1).blk t).view.emb y)
  rw [eo]
  exact congrArg (logistic (F := F) (s := S2x45600) (φ := .f32) (V1 m c (Proc.devRef .tc main_v1))) (emb0_1 t y).symm

theorem nms1_eq (c : Dev nD) : nms1 m c = leaves (F := F) (mid m c (Proc.devRef .tc main_v12)) (mid m c (Proc.devRef .tc main_v11))
    (mid m c (Proc.devRef .tc main_v14)) := by
  have er : ∀ t, rows (mid m) c t = img (mid m c (Proc.devRef .tc main_v12)) (imgOf t) := fun t => funext fun y => by
    show mid m c (Proc.devRef .tc main_v12) ((((cfg1 (F := F)).win 0).blk t).view.emb y) = _
    rw [emb1_0]; rfl
  have ec : ∀ t, cols (mid m) c t = img (mid m c (Proc.devRef .tc main_v11)) (imgOf t) := fun t => funext fun y => by
    show mid m c (Proc.devRef .tc main_v11) ((((cfg1 (F := F)).win 1).blk t).view.emb y) = _
    rw [emb1_1]; rfl
  have es : ∀ t, scoreRow (mid m) c t = img (mid m c (Proc.devRef .tc main_v14)) (imgOf t) := fun t => funext fun y => by
    show mid m c (Proc.devRef .tc main_v14) ((((cfg1 (F := F)).win 2).blk t).view.emb y) = _
    rw [emb1_2]; rfl
  unfold nms1
  refine (dat1 (mid m) c).arrAt_eq_of_cover 3 _ (fun t _ => funext fun y => ?_) cover1
  show result (rows (mid m) c t) (cols (mid m) c t) (scoreRow (mid m) c t) y
    = leaves (F := F) (mid m c (Proc.devRef .tc main_v12)) (mid m c (Proc.devRef .tc main_v11)) (mid m c (Proc.devRef .tc main_v14))
        ((((cfg1 (F := F)).win 3).blk t).view.emb y)
  rw [er, ec, es]
  exact leaves_block _ _ _ t y

end Cert.Proof.KI

end
-- ==== Proof.Nms.Tail.lean ====
/-
The end of the computation: the best entries and the rows they name

Two facts about the host operations after the suppression.  A stable top-k of a row is not changed by further
entries at its end that are no greater than any entry of the row.  And rows taken at positions known to be
inside the array are the rows at these positions.
-/
module

public import Idealize.ShloMosaic.PureOps
public import Idealize.ShloMosaic.Lib.ValueIdx
public import Idealize.ShloMosaic.Lib.SortFacts
public import Mathlib.Tactic.Common

@[expose] public section

namespace Cert.Nms

open Idealize Idealize.ShloMosaic Idealize.ShloMosaic.ValueIdx

/-! ## Stable sorting -/

section sorting
variable {ι κ : Type} (before : ι → ι → Bool)

theorem insert_append (a : ι) (l r : List ι) (h : ∀ b ∈ r, before b a = false) :
    insertBefore before a (l ++ r) = insertBefore before a l ++ r := by
  induction l with
  | nil =>
    cases r with
    | nil => rfl
    | cons b r => show (if before b a then _ else _) = _; rw [if_neg (by rw [h b (List.mem_cons_self ..)]; decide)]; rfl
  | cons b l ih =>
    show (if before b a then _ else _) = (if before b a then _ else _) ++ r
    split
    · exact congrArg (List.cons b) ih
    · rfl

theorem sort_append (l r : List ι) (h : ∀ a ∈ l, ∀ b ∈ r, before b a = false) :
    stableSort before (l ++ r) = stableSort before l ++ stableSort before r := by
  induction l with
  | nil => rfl
  | cons a l ih =>
    show insertBefore before a (stableSort before (l ++ r)) = insertBefore before a (stableSort before l) ++ _
    rw [ih fun a' ha' => h a' (List.mem_cons_of_mem _ ha')]
    exact insert_append before a _ _ fun b hb =>
      h a (List.mem_cons_self ..) b ((perm_stableSort before r).mem_iff.mp hb)

theorem insert_map (f : κ → ι) (a : κ) (l : List κ) :
    insertBefore before (f a) (l.map f) = (insertBefore (fun k k' => before (f k) (f k')) a l).map f := by
  induction l with
  | nil => rfl
  | cons b l ih =>
    show (if before (f b) (f a) then _ else _) = List.map f (if before (f b) (f a) then _ else _)
    split
    · exact congrArg (List.cons (f b)) ih
    · rfl

theorem sort_map (f : κ → ι) (l : List κ) :
    stableSort before (l.map f) = (stableSort (fun k k' => before (f k) (f k')) l).map f := by
  induction l with
  | nil => rfl
  | cons a l ih =>
    show insertBefore before (f a) (stableSort before (l.map f)) = List.map f (insertBefore _ a (stableSort _ l))
    rw [ih]; exact insert_map before f a _

end sorting

/-- Of `n + p` positions, none of the last `p` before one of the first `n`, the sort has the first `n` in front. -/
theorem sortedFrom_front {n p : Nat} (B : Fin (n + p) → Fin (n + p) → Bool)
    (h : ∀ (i : Fin n) (j : Fin p), B (Fin.natAdd n j) (Fin.castAdd p i) = false) (i : Fin n) :
    sortedFrom B (Fin.castAdd p i)
      = Fin.castAdd p (sortedFrom (fun k k' => B (Fin.castAdd p k) (Fin.castAdd p k')) i) := by
  have e : sortPositions (n + p) B
      = (sortPositions n fun k k' => B (Fin.castAdd p k) (Fin.castAdd p k')).map (Fin.castAdd p)
        ++ stableSort B ((List.finRange p).map (Fin.natAdd n)) := by
    unfold sortPositions
    rw [← sort_map, ← sort_append]
    · congr 1
      apply List.ext_get
      · simp
      · intro q h1 h2
        apply Fin.ext
        simp only [List.get_eq_getElem, List.getElem_finRange, List.getElem_append, List.getElem_map, List.length_map,
          List.length_finRange]
        split
        · rfl
        · simp at *; omega
    · intro a ha b hb
      obtain ⟨i, _, rfl⟩ := List.mem_map.mp ha
      obtain ⟨j, _, rfl⟩ := List.mem_map.mp hb
      exact h i j
  unfold sortedFrom
  have hl : i.val < (sortPositions n fun k k' => B (Fin.castAdd p k) (Fin.castAdd p k')).length := by
    rw [length_sortPositions]; exact i.isLt
  simp only [List.get_eq_getElem, Fin.val_cast, Fin.val_castAdd, e]
  rw [List.getElem_append_left (by rw [List.length_map]; exact hl), List.getElem_map]

/-! ## The top-k -/

section top
variable {R n k : Nat} {α : Type} (gt : α → α → BitVec 1) (x : (⟨2, ![R, n]⟩ : Shape).Idx → α)

/-- The position the sort of row `b` puts at `i`. -/
def place (b : Fin R) (i : Fin n) : Fin n :=
  sortedFrom (fun q q' => gt (x (ix2 b q)) (x (ix2 b q')) == 1#1) i

theorem along_row (b : Fin R) (i q : Fin n) :
    (ix2 b i : (⟨2, ![R, n]⟩ : Shape).Idx).along (1 : Fin 2) q = ix2 b q := by
  funext a
  match a with
  | ⟨0, _⟩ => rfl
  | ⟨1, _⟩ => rfl

theorem slice_front {β : Type} (v : (⟨2, ![R, n]⟩ : Shape).Idx → β) (hk : k ≤ n)
    (h : (⟨2, ![R, n]⟩ : Shape).Slices (fun _ => 0) ⟨2, ![R, k]⟩) (b : Fin R) (i : Fin k) :
    extractStridedSlice ⟨2, ![R, k]⟩ (fun _ => 0) v h (ix2 b i) = v (ix2 b (i.castLE hk)) := by
  refine congrArg v (funext fun a => Fin.ext ?_)
  match a with
  | ⟨0, _⟩ => exact Nat.zero_add _
  | ⟨1, _⟩ => exact Nat.zero_add _

theorem topK_value (hk : k ≤ n) (h : (⟨2, ![R, n]⟩ : Shape).Slices (fun _ => 0) ⟨2, ![R, k]⟩) (b : Fin R) (i : Fin k) :
    (Host.topK ⟨2, ![R, k]⟩ 1 gt x h).1 (ix2 b i) = x (ix2 b (place gt x b (i.castLE hk))) := by
  show extractStridedSlice ⟨2, ![R, k]⟩ (fun _ => 0) (fun j : (⟨2, ![R, n]⟩ : Shape).Idx => x (j.along (1 : Fin 2)
    (sortedFrom (fun q q' => gt (x (j.along (1 : Fin 2) q)) (x (j.along (1 : Fin 2) q')) == 1#1) (j 1)))) h (ix2 b i) = _
  refine (slice_front _ hk h b i).trans ?_
  refine congrArg x ((along_row b _ _).trans ?_)
  refine congrArg (ix2 b) ?_
  show sortedFrom _ _ = sortedFrom _ _
  congr 1
  exact funext fun q => funext fun q' => congrArg₂ (fun u v => gt (x u) (x v) == 1#1) (along_row b _ q) (along_row b _ q')

theorem topK_index (hk : k ≤ n) (h : (⟨2, ![R, n]⟩ : Shape).Slices (fun _ => 0) ⟨2, ![R, k]⟩) (b : Fin R) (i : Fin k) :
    (Host.topK ⟨2, ![R, k]⟩ 1 gt x h).2 (ix2 b i) = BitVec.ofNat 32 (place gt x b (i.castLE hk)).val := by
  show extractStridedSlice ⟨2, ![R, k]⟩ (fun _ => 0) (fun j : (⟨2, ![R, n]⟩ : Shape).Idx => BitVec.ofNat 32
    (sortedFrom (fun q q' => gt (x (j.along (1 : Fin 2) q)) (x (j.along (1 : Fin 2) q')) == 1#1) (j 1)).val) h (ix2 b i) = _
  refine (slice_front _ hk h b i).trans ?_
  show BitVec.ofNat 32 (sortedFrom _ _).val = BitVec.ofNat 32 (sortedFrom _ _).val
  congr 2
  congr 1
  exact funext fun q => funext fun q' => congrArg₂ (fun u v => gt (x u) (x v) == 1#1) (along_row b _ q) (along_row b _ q')

end top

/-- Entries at the end of the row that come before none of the others change no place in front. -/
theorem place_front {R n m : Nat} {α : Type} (gt : α → α → BitVec 1) (x : (⟨2, ![R, m]⟩ : Shape).Idx → α)
    (y : (⟨2, ![R, n]⟩ : Shape).Idx → α) (hm : n ≤ m) (hxy : ∀ b (j : Fin n), x (ix2 b (j.castLE hm)) = y (ix2 b j))
    (hend : ∀ b (j : Fin n) (q : Fin m), n ≤ q.val → (gt (x (ix2 b q)) (y (ix2 b j)) == 1#1) = false)
    (b : Fin R) (i : Fin n) : place gt x b (i.castLE hm) = (place gt y b i).castLE hm := by
  obtain ⟨p, rfl⟩ := Nat.exists_eq_add_of_le hm
  unfold place
  refine (sortedFrom_front _ (fun i j => ?_) i).trans ?_
  · exact (congrArg (fun z => gt _ z == 1#1) (hxy b i)).trans (hend b i (Fin.natAdd n j) (Nat.le_add_right _ _))
  · refine congrArg (Fin.castAdd p) (congrArg (fun B => sortedFrom B i) (funext fun q => funext fun q' => ?_))
    exact congrArg₂ (fun u v => gt u v == 1#1) (hxy b q) (hxy b q')

/-! ## Rows taken at positions -/

theorem mask_true {s t u : Shape} {axes : List (Fin s.rank)} (x : IVec s 1) (v : IVec u 1) (h : s.ReducesTo axes t)
    (hu : 0 < u.numel) (hx : ∀ i, x i = 1#1) (hv : ∀ i, v i = 1#1) (j : t.Idx) : Host.reduce IntOp.andi x v h hu j = 1#1 := by
  unfold Host.reduce
  rw [hv]
  generalize List.filter _ _ = l
  induction l with
  | nil => rfl
  | cons a l ih => rw [List.foldl_cons, hx]; exact ih

/-- The rows of `[2, N, C]` named by `[2, K, 1]`, read at an index. -/
theorem gather_rows {α : Type} {N C K : Nat} (d : GatherDims ⟨3, ![2, N, C]⟩ ⟨3, ![2, K, 1]⟩ ⟨3, ![2, K, C]⟩)
    (hoff : d.offsetDims = [2]) (hcoll : d.collapsedSliceDims = [1]) (hob : d.operandBatchingDims = [0])
    (hsb : d.startIndicesBatchingDims = [0])
    (hsim : d.startIndexMap = [1]) (hivd : d.indexVectorDim = 2) (hss : d.sliceSizes = ![1, 1, C])
    (x : (⟨3, ![2, N, C]⟩ : Shape).Idx → α) (idx : IVec ⟨3, ![2, K, 1]⟩ 32)
    (b : Fin 2) (k : Fin K) (c : Fin C) (q : Fin N) (hN : N < 2 ^ 31) (hq : idx (ix3 b k 0) = BitVec.ofNat 32 q.val) :
    Host.gather d x idx (ix3 b k c) = x (ix3 b q c) := by
  obtain ⟨od, cd, obd, sbd, sim, ivd, ss, wf⟩ := d
  subst hoff hcoll hob hsb hsim hivd hss
  unfold Host.gather
  refine congrArg x (funext fun a => Fin.ext ?_)
  set d : GatherDims ⟨3, ![2, N, C]⟩ ⟨3, ![2, K, 1]⟩ ⟨3, ![2, K, C]⟩ := ⟨[2], [1], [0], [0], [1], 2, ![1, 1, C], wf⟩ with hd
  show d.start (ix3 b k c) idx a + d.batchCoord (ix3 b k c) a + d.offCoord (ix3 b k c) a = _
  match a with
  | ⟨0, _⟩ =>
    rw [show (⟨0, by decide⟩ : Fin 3) = 0 from rfl, GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    rw [show (⟨1, by decide⟩ : Fin 3) = 1 from rfl, GatherDims.batchCoord_eq_zero _ _ _ (fun h => by simp [hd] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix3 b k c) ⟨List.idxOf (1 : Fin 3) d.startIndexMap,
        List.idxOf_lt_length_iff.2 (List.mem_singleton.mpr rfl)⟩ = ix3 b k 0 := by
      funext b'; refine Fin.ext ?_
      match b' with
      | ⟨0, _⟩ => rfl
      | ⟨1, _⟩ => rfl
      | ⟨2, _⟩ => rfl
    rw [hsi, hq]
    show min (BitVec.ofNat 32 q.val).toInt.toNat (N - 1) = q.val
    have hqN := q.isLt
    rw [show (BitVec.ofNat 32 q.val).toInt = (q.val : Int) from by
      have e : (BitVec.ofNat 32 q.val).toNat = q.val := by rw [BitVec.toNat_ofNat]; exact Nat.mod_eq_of_lt (by omega)
      rw [BitVec.toInt_eq_toNat_of_lt (by omega), e]]
    rw [Int.toNat_natCast]; omega
  | ⟨2, _⟩ =>
    have hns : (2 : Fin 3) ∉ d.startIndexMap := by simp [hd]
    rw [show (⟨2, by decide⟩ : Fin 3) = 2 from rfl, GatherDims.batchCoord_eq_zero _ _ _ (fun h => by simp [hd] at h)]
    unfold GatherDims.start GatherDims.offCoord
    rw [dif_neg hns, dif_pos (show (2 : Fin 3) ∈ d.sKept from (GatherDims.mem_sKept _ _).mpr ⟨by simp [hd], by simp [hd]⟩)]
    simp only [Nat.zero_add, Nat.add_zero]
    rfl

end Cert.Nms
-- ==== Proof.Nms.Host.lean ====
/-
  The whole-array steps around the suppression: rows picked by number, the best thousand with their rows, the list of candidates
  the suppression starts from. Each is one function, so that two programs that take the same step name the same function.
-/
module

public import proofs.«01_k».proof.Proof.Nms.Tail

@[expose] public section

set_option maxRecDepth 16384

noncomputable section

namespace Cert.Nms

open Idealize.ShloMosaic Idealize.ShloMosaic.ValueIdx

variable {F : FTy → Type} [FloatOps F]

abbrev Unit0 : Shape := ⟨0, ![]⟩
abbrev One1 : Shape := ⟨1, ![1]⟩
abbrev One3 : Shape := ⟨3, ![1, 1, 1]⟩

section take

variable {N K C : ℕ}

/-- A row number counted from the end when it is negative. -/
def wrap (nN : BitVec 32) (i : IVec (⟨3, ![2, K, 1]⟩ : Shape) 32)
    (hs : Unit0.BroadcastsInDim ⟨3, ![2, K, 1]⟩ (![] : Fin 0 → Fin 3)) : IVec (⟨3, ![2, K, 1]⟩ : Shape) 32 :=
  select (cmpi .slt i (broadcastInDim _ ![] hs (constantI Unit0 32 0#32)))
    (addi i (broadcastInDim _ ![] hs (constantI Unit0 32 nN))) i

/-- Which row numbers lie in the array. -/
def inside (nL : BitVec 32) (w : IVec (⟨3, ![2, K, 1]⟩ : Shape) 32)
    (hs : Unit0.BroadcastsInDim ⟨3, ![2, K, 1]⟩ (![] : Fin 0 → Fin 3))
    (h1 : One1.BroadcastsInDim One3 (![2] : Fin 1 → Fin 3))
    (h2 : One3.BroadcastsInDim ⟨3, ![2, K, 1]⟩ (![0, 1, 2] : Fin 3 → Fin 3)) : IVec (⟨3, ![2, K, 1]⟩ : Shape) 1 :=
  andi (cmpi .sge w (broadcastInDim _ ![] hs (constantI Unit0 32 0#32)))
    (cmpi .sle w (broadcastInDim _ ![0, 1, 2] h2 (broadcastInDim One3 ![2] h1 (constantI One1 32 nL))))

/-- The rows of `x` picked by the row numbers `i`; a number outside the array gives a row without a number. -/
def take (d : GatherDims ⟨3, ![2, N, C]⟩ ⟨3, ![2, K, 1]⟩ ⟨3, ![2, K, C]⟩) (nN nL : BitVec 32)
    (x : FVec F (⟨3, ![2, N, C]⟩ : Shape) .f32) (i : IVec (⟨2, ![2, K]⟩ : Shape) 32)
    (hi : (⟨2, ![2, K]⟩ : Shape).BroadcastsInDim ⟨3, ![2, K, 1]⟩ (![0, 1] : Fin 2 → Fin 3) := by decide)
    (hs : Unit0.BroadcastsInDim ⟨3, ![2, K, 1]⟩ (![] : Fin 0 → Fin 3) := by decide)
    (h1 : One1.BroadcastsInDim One3 (![2] : Fin 1 → Fin 3) := by decide)
    (h2 : One3.BroadcastsInDim ⟨3, ![2, K, 1]⟩ (![0, 1, 2] : Fin 3 → Fin 3) := by decide)
    (hr : (⟨3, ![2, K, 1]⟩ : Shape).ReducesTo [2] ⟨2, ![2, K]⟩ := by decide)
    (hu : 0 < Unit0.numel := by decide)
    (ho : (⟨2, ![2, K]⟩ : Shape).BroadcastsInDim ⟨3, ![2, K, C]⟩ (![0, 1] : Fin 2 → Fin 3) := by decide)
    (hn : Unit0.BroadcastsInDim ⟨3, ![2, K, C]⟩ (![] : Fin 0 → Fin 3) := by decide) :
    FVec F (⟨3, ![2, K, C]⟩ : Shape) .f32 :=
  select (broadcastInDim _ ![0, 1] ho (Host.reduce IntOp.andi
      (inside nL (wrap nN (broadcastInDim _ ![0, 1] hi i) hs) hs h1 h2) (constantI Unit0 1 1#1) hr hu))
    (Host.gather d x (wrap nN (broadcastInDim _ ![0, 1] hi i) hs))
    (broadcastInDim _ ![] hn (constant Unit0 .f32 0x7FC00000#32))

end take

end Cert.Nms
-- ==== Proof.KI.Value.lean ====
/-
  What the host lines around the two kernels compute, as functions of the arguments.
-/
module

public import proofs.«01_k».proof.Proof.KI.Arrays
public import proofs.«01_k».proof.Proof.Nms.Host
public import Idealize.ShloMosaic.Lib.StableHlo.RunRead

@[expose] public section

set_option maxRecDepth 16384

noncomputable section

namespace Cert.Proof.KI

open Cert.KernelIdeal Cert.KernelIdeal.Gen Cert.Nms
open Idealize.ShloMosaic Idealize.ShloMosaic.ValueIdx Idealize.ShloMosaic.StableHlo
open Idealize.ShloMosaic.TcCoe
open Idealize.SL Idealize.SL.Sem

variable {F : FTy → Type} [FloatOps F]
variable (V : Valuation τ sig (Elt F))

/-- The regression rows, one per anchor. -/
def regRows (x : FVec F S2x12x100x152 .f32) : FVec F S2x45600x4 .f32 :=
  shapeCast S2x45600x4 (transpose S2x100x152x3x4 [0, 3, 4, 1, 2]
    (shapeCast S2x3x4x100x152 x shapeCasts_S2x12x100x152_S2x3x4x100x152)
    transposes_S2x3x4x100x152_S2x100x152x3x4_0_3_4_1_2) shapeCasts_S2x100x152x3x4_S2x45600x4

/-- The best four thousand scores and where they stand. -/
def top (x : FVec F S2x45600 .f32) : FVec F S2x4000 .f32 × IVec S2x4000 32 :=
  Host.topK S2x4000 1 (FloatOps.cmpfTotal .gt) x sliceFits_S2x45600_S2x4000

theorem read_v1 : after hostOps0 V (Proc.devRef .tc main_v1) = shapeCast S2x45600
    (transpose S2x100x152x3 [0, 2, 3, 1] (V (Proc.devRef .tc main_arg0)) transposes_S2x3x100x152_S2x100x152x3_0_2_3_1)
    shapeCasts_S2x100x152x3_S2x45600 := by
  after_reads_simp; rfl

theorem read_values : after hostOps1 V (Proc.devRef .tc main_values) = (top (F := F) (V (Proc.devRef .tc main_v2))).1 := by
  after_reads_simp; rfl
theorem read_indices : after hostOps1 V (Proc.devRef .tc main_indices) = (top (F := F) (V (Proc.devRef .tc main_v2))).2 := by
  after_reads_simp; rfl
theorem read_v5 : after hostOps1 V (Proc.devRef .tc main_v5) = regRows (F := F) (V (Proc.devRef .tc main_arg1)) := by
  after_reads_simp; rfl
theorem read_v6 : after hostOps1 V (Proc.devRef .tc main_v6) =
    broadcastInDim S2x4000x1 ![0, 1] bcast_S2x4000_S2x4000x1_0_1 (top (F := F) (V (Proc.devRef .tc main_v2))).2 := by
  after_reads_simp; rfl

abbrev rows4000 (x : FVec F S2x45600x4 .f32) (i : IVec S2x4000 32) : FVec F S2x4000x4 .f32 :=
  take gather_S2x45600x4_S2x4000x1_S2x4000x4_2_1_0_0_1_2_114 45600#32 45599#32 x i

abbrev rows1000 (x : FVec F S2x4096x4 .f32) (i : IVec S2x1000 32) : FVec F S2x1000x4 .f32 :=
  take gather_S2x4096x4_S2x1000x1_S2x1000x4_2_1_0_0_1_2_114 4096#32 4095#32 x i

theorem read_v7 (i) (h : V (Proc.devRef .tc main_v6) = broadcastInDim S2x4000x1 ![0, 1] bcast_S2x4000_S2x4000x1_0_1 i) :
    after hostOps1_1 V (Proc.devRef .tc main_v7) = rows4000 (F := F) (V (Proc.devRef .tc main_v5)) i := by
  after_reads_simp
  rw [h]; rfl

theorem read_v8 : after hostOps1_2 V (Proc.devRef .tc main_v8) =
    broadcastInDim S2x4000x1 ![0, 1] bcast_S2x4000_S2x4000x1_0_1 (V (Proc.devRef .tc main_indices)) := by
  after_reads_simp

theorem read_v9 (i) (h : V (Proc.devRef .tc main_v8) = broadcastInDim S2x4000x1 ![0, 1] bcast_S2x4000_S2x4000x1_0_1 i) :
    after hostOps1_3 V (Proc.devRef .tc main_v9) = rows4000 (F := F) (V (Proc.devRef .tc main_arg2)) i := by
  after_reads_simp
  rw [h]; rfl

/-- Each candidate's regression and anchor side by side. -/
def sides (br an : FVec F S2x4000x4 .f32) : FVec F S2x4000x8 .f32 :=
  concatenate S2x4000x8 2 [⟨S2x4000x4, br⟩, ⟨S2x4000x4, an⟩] concatenates_S2x4000x4_S2x4000x4_S2x4000x8_d2

theorem read_v10 : after hostOps1_4 V (Proc.devRef .tc main_v10) =
    sides (F := F) (V (Proc.devRef .tc main_v7)) (V (Proc.devRef .tc main_v9)) := by
  after_reads_simp; rfl
theorem read_c : after hostOps1_4 V (Proc.devRef .tc main_c) = constantI S_ 32 0#32 := by
  after_reads_simp

def longSides (x : FVec F S2x4000x8 .f32) (z : IVec S_ 32) : FVec F S2x4096x8 .f32 :=
  pad S2x4096x8 ![0, 0, 0] ![0, 96, 0] ![0, 0, 0] x (sitofp .f32 z) pads_S2x4000x8_S2x4096x8_000_0960_000 h_S_

theorem read_v11 : after hostOps1_5 V (Proc.devRef .tc main_v11) =
    longSides (F := F) (V (Proc.devRef .tc main_v10)) (V (Proc.devRef .tc main_c)) := by
  after_reads_simp; rfl

theorem read_v12 : after hostOps1_6 V (Proc.devRef .tc main_v12) =
    transpose S2x8x4096 [0, 2, 1] (V (Proc.devRef .tc main_v11)) transposes_S2x4096x8_S2x8x4096_0_2_1 := by
  after_reads_simp
theorem read_cst : after hostOps1_6 V (Proc.devRef .tc main_cst) = constant (F := F) S_ .f32 0xD01502F9#32 := by
  after_reads_simp

def longScores (x : FVec F S2x4000 .f32) (z : FVec F S_ .f32) : FVec F S2x4096 .f32 :=
  pad S2x4096 ![0, 0] ![0, 96] ![0, 0] x z pads_S2x4000_S2x4096_000_0960 h_S_

theorem read_v13 : after hostOps1_7 V (Proc.devRef .tc main_v13) =
    longScores (F := F) (V (Proc.devRef .tc main_values)) (V (Proc.devRef .tc main_cst)) := by
  after_reads_simp; rfl

theorem read_v14 : after hostOps1_8 V (Proc.devRef .tc main_v14) =
    broadcastInDim S2x1x4096 ![0, 2] bcast_S2x4096_S2x1x4096_0_2 (V (Proc.devRef .tc main_v13)) := by
  after_reads_simp

/-- The first four rows of the kernel's leaf, one row per candidate. -/
def corners (x : FVec F S2x8x4096 .f32) : FVec F S2x4096x4 .f32 :=
  transpose S2x4096x4 [0, 2, 1] (extractStridedSlice S2x4x4096 ![0, 0, 0] x slices_S2x8x4096_S2x4x4096_0_0_0)
    transposes_S2x4x4096_S2x4096x4_0_2_1

/-- The fifth row of the kernel's leaf. -/
def fifth (x : FVec F S2x8x4096 .f32) : FVec F S2x4096 .f32 :=
  shapeCast S2x4096 (extractStridedSlice S2x1x4096 ![0, 4, 0] x slices_S2x8x4096_S2x1x4096_0_4_0) shapeCasts_S2x1x4096_S2x4096

/-- The best thousand of a row and where they stand. -/
def best (x : FVec F S2x4096 .f32) : FVec F S2x1000 .f32 × IVec S2x1000 32 :=
  Host.topK S2x1000 1 (FloatOps.cmpfTotal .gt) x sliceFits_S2x4096_S2x1000

theorem read_v17 : after hostOps2 V (Proc.devRef .tc main_v17) = corners (F := F) (V (Proc.devRef .tc main_v15)) := by
  after_reads_simp; rfl
theorem read_values_0 : after hostOps2 V (Proc.devRef .tc main_values_0) =
    (best (F := F) (fifth (V (Proc.devRef .tc main_v15)))).1 := by
  after_reads_simp; rfl
theorem read_v20 : after hostOps2 V (Proc.devRef .tc main_v20) =
    broadcastInDim S2x1000x1 ![0, 1] bcast_S2x1000_S2x1000x1_0_1 (best (F := F) (fifth (V (Proc.devRef .tc main_v15)))).2 := by
  after_reads_simp; rfl

theorem read_v21 (i) (h : V (Proc.devRef .tc main_v20) = broadcastInDim S2x1000x1 ![0, 1] bcast_S2x1000_S2x1000x1_0_1 i) :
    after hostOps2_1 V (Proc.devRef .tc main_v21) = rows1000 (F := F) (V (Proc.devRef .tc main_v17)) i := by
  after_reads_simp
  rw [h]; rfl

/-- The picked rows with their scores as a fifth column. -/
def joined (x : FVec F S2x1000x4 .f32) (y : FVec F S2x1000 .f32) : FVec F S2x1000x5 .f32 :=
  concatenate S2x1000x5 2 [⟨S2x1000x4, x⟩, ⟨S2x1000x1, broadcastInDim S2x1000x1 ![0, 1] bcast_S2x1000_S2x1000x1_0_1 y⟩]
    concatenates_S2x1000x4_S2x1000x1_S2x1000x5_d2

theorem read_v23 : after hostOps2_2 V (Proc.devRef .tc main_v23) =
    joined (F := F) (V (Proc.devRef .tc main_v21)) (V (Proc.devRef .tc main_values_0)) := by
  after_reads_simp; rfl

/-! ## The lines in a row -/

variable (m : (ℓ : Loc nD τ sig) → Buf (Elt F) ℓ) (outs : Outs (F := F)) (c : Dev nD)

/-- The regression rows of the candidates when the scores are `s`. -/
def reg (s : FVec F S2x45600 .f32) : FVec F S2x4000x4 .f32 := rows4000 (regRows (m (c, Proc.devRef .tc main_arg1))) (top s).2
/-- The anchors of the candidates when the scores are `s`. -/
def anc (s : FVec F S2x45600 .f32) : FVec F S2x4000x4 .f32 := rows4000 (m (c, Proc.devRef .tc main_arg2)) (top s).2

theorem at_v11 (s : FVec F S2x45600 .f32) (hs : V2 m outs c (Proc.devRef .tc main_v2) = s) :
    V11 m outs c (Proc.devRef .tc main_v11) = longSides (sides (reg m c s) (anc m c s)) (constantI S_ 32 0#32) := by
  subst hs
  refine (V11_of m outs c main_v11 (by decide)).trans <| (V10_of m outs c main_v11 (by decide)).trans <|
    (V9_of m outs c main_v11 (by decide)).trans <| (read_v11 (V7 m outs c)).trans ?_
  refine congrArg₂ longSides ((read_v10 (V6 m outs c)).trans ?_) (read_c (V6 m outs c))
  refine congrArg₂ sides ?_ ?_
  · refine (V6_of m outs c main_v7 (by decide)).trans <| (V5_of m outs c main_v7 (by decide)).trans <|
      (read_v7 (V3 m outs c) _ (read_v6 (V2 m outs c))).trans ?_
    refine congrArg (fun x => rows4000 x _) ((read_v5 (V2 m outs c)).trans (congrArg regRows ?_))
    exact (V2_of m outs c main_arg1 (by decide)).trans (V1_of m c main_arg1 (by decide))
  · refine (read_v9 (V5 m outs c) _ ((read_v8 (V4 m outs c)).trans (congrArg _
      ((V4_of m outs c main_indices (by decide)).trans (read_indices (V2 m outs c)))))).trans ?_
    refine congrArg (fun x => rows4000 x _) ?_
    exact (V5_of m outs c main_arg2 (by decide)).trans <| (V4_of m outs c main_arg2 (by decide)).trans <|
      (V3_of m outs c main_arg2 (by decide)).trans <| (V2_of m outs c main_arg2 (by decide)).trans (V1_of m c main_arg2 (by decide))

theorem at_v12 : V11 m outs c (Proc.devRef .tc main_v12) =
    transpose S2x8x4096 [0, 2, 1] (V11 m outs c (Proc.devRef .tc main_v11)) transposes_S2x4096x8_S2x8x4096_0_2_1 := by
  refine (V11_of m outs c main_v12 (by decide)).trans <| (V10_of m outs c main_v12 (by decide)).trans <|
    (read_v12 (V8 m outs c)).trans ?_
  exact congrArg (fun x => transpose S2x8x4096 [0, 2, 1] x transposes_S2x4096x8_S2x8x4096_0_2_1)
    ((V11_of m outs c main_v11 (by decide)).trans <| (V10_of m outs c main_v11 (by decide)).trans <|
      (V9_of m outs c main_v11 (by decide))).symm

theorem at_v14 (s : FVec F S2x45600 .f32) (hs : V2 m outs c (Proc.devRef .tc main_v2) = s) :
    V11 m outs c (Proc.devRef .tc main_v14) = broadcastInDim S2x1x4096 ![0, 2] bcast_S2x4096_S2x1x4096_0_2
      (longScores (top s).1 (constant (F := F) S_ .f32 0xD01502F9#32)) := by
  subst hs
  refine (read_v14 (V10 m outs c)).trans (congrArg _ ((read_v13 (V9 m outs c)).trans ?_))
  refine congrArg₂ longScores ?_ (read_cst (V8 m outs c))
  exact (V9_of m outs c main_values (by decide)).trans <| (V8_of m outs c main_values (by decide)).trans <|
    (V7_of m outs c main_values (by decide)).trans <| (V6_of m outs c main_values (by decide)).trans <|
    (V5_of m outs c main_values (by decide)).trans <| (V4_of m outs c main_values (by decide)).trans (read_values (V2 m outs c))

theorem at_v23 (x : FVec F S2x8x4096 .f32) (hx : V12 m outs c (Proc.devRef .tc main_v15) = x) :
    V15 m outs c (Proc.devRef .tc main_v23) = joined (rows1000 (corners x) (best (fifth x)).2) (best (fifth x)).1 := by
  subst hx
  refine (read_v23 (V14 m outs c)).trans (congrArg₂ joined ?_ ?_)
  · refine (read_v21 (V13 m outs c) _ (read_v20 (V12 m outs c))).trans ?_
    exact congrArg (fun x => rows1000 x _) (read_v17 (V12 m outs c))
  · exact (V14_of m outs c main_values_0 (by decide)).trans (read_values_0 (V12 m outs c))

end Cert.Proof.KI
-- ==== Proof.RI.Value.lean ====
/-
  What the reference's lines before and after its loop compute, as functions of the arguments.
-/
module

public import proofs.«01_k».proof.Proof.RI.Run
public import proofs.«01_k».proof.Proof.Nms.Host
public import proofs.«01_k».proof.Proof.Nms.Result
public import Idealize.ShloMosaic.Lib.StableHlo.RunRead

@[expose] public section

set_option maxRecDepth 16384

noncomputable section

namespace Cert.Proof.RI

open Cert.ReferenceIdeal Cert.ReferenceIdeal.Gen Cert.ReferenceIdeal.Value Cert.Nms
open Idealize.ShloMosaic Idealize.ShloMosaic.ValueIdx Idealize.ShloMosaic.StableHlo
open Idealize.ShloMosaic.TcCoe
open Idealize.SL Idealize.SL.Sem

variable (V : Valuation τ sig (Elt Ideal))

/-! ## The candidates -/

/-- The regression rows, one per anchor. -/
def regRows (x : FVec Ideal S2x12x100x152 .f32) : FVec Ideal S2x45600x4 .f32 :=
  shapeCast S2x45600x4 (transpose S2x100x152x3x4 [0, 3, 4, 1, 2]
    (shapeCast S2x3x4x100x152 x shapeCasts_S2x12x100x152_S2x3x4x100x152)
    transposes_S2x3x4x100x152_S2x100x152x3x4_0_3_4_1_2) shapeCasts_S2x100x152x3x4_S2x45600x4

/-- The scores before the logistic, one per anchor. -/
def raw (x : FVec Ideal S2x3x100x152 .f32) : FVec Ideal S2x45600 .f32 :=
  shapeCast S2x45600 (transpose S2x100x152x3 [0, 2, 3, 1] x transposes_S2x3x100x152_S2x100x152x3_0_2_3_1)
    shapeCasts_S2x100x152x3_S2x45600

/-- The logistic written out. -/
def sigm (x : FVec Ideal S2x45600 .f32) : FVec Ideal S2x45600 .f32 :=
  Host.divf (broadcastInDim S2x45600 ![] bcast_S_S2x45600 (constant S_ .f32 0x3F800000#32))
    (addf (broadcastInDim S2x45600 ![] bcast_S_S2x45600 (constant S_ .f32 0x3F800000#32)) (Host.exp (Host.negf x)))

/-- The best four thousand scores and where they stand. -/
def top (x : FVec Ideal S2x45600 .f32) : FVec Ideal S2x4000 .f32 × IVec S2x4000 32 :=
  Host.topK S2x4000 1 (FloatOps.cmpfTotal .gt) x sliceFits_S2x45600_S2x4000

theorem read_values : after hostOps0 V (Proc.devRef .tc main_values) = (top (sigm (raw (V (Proc.devRef .tc main_arg0))))).1 := by
  after_reads_simp; rfl
theorem read_indices : after hostOps0 V (Proc.devRef .tc main_indices) = (top (sigm (raw (V (Proc.devRef .tc main_arg0))))).2 := by
  after_reads_simp; rfl
theorem read_v10 : after hostOps0 V (Proc.devRef .tc main_v10) = regRows (V (Proc.devRef .tc main_arg1)) := by
  after_reads_simp; rfl
theorem read_v11 : after hostOps0 V (Proc.devRef .tc main_v11) = broadcastInDim S2x4000x1 ![0, 1] bcast_S2x4000_S2x4000x1_0_1
    (top (sigm (raw (V (Proc.devRef .tc main_arg0))))).2 := by
  after_reads_simp; rfl

abbrev rows4000 (x : FVec Ideal S2x45600x4 .f32) (i : IVec S2x4000 32) : FVec Ideal S2x4000x4 .f32 :=
  take gather_S2x45600x4_S2x4000x1_S2x4000x4_2_1_0_0_1_2_114 45600#32 45599#32 x i

abbrev rows1000 (x : FVec Ideal S2x4000x4 .f32) (i : IVec S2x1000 32) : FVec Ideal S2x1000x4 .f32 :=
  take gather_S2x4000x4_S2x1000x1_S2x1000x4_2_1_0_0_1_2_114 4000#32 3999#32 x i

theorem read_v12 (i) (h : V (Proc.devRef .tc main_v11) = broadcastInDim S2x4000x1 ![0, 1] bcast_S2x4000_S2x4000x1_0_1 i) :
    after hostOps0_1 V (Proc.devRef .tc main_v12) = rows4000 (V (Proc.devRef .tc main_v10)) i := by
  after_reads_simp
  rw [h]; rfl
theorem read_v13 : after hostOps0_2 V (Proc.devRef .tc main_v13) =
    broadcastInDim S2x4000x1 ![0, 1] bcast_S2x4000_S2x4000x1_0_1 (V (Proc.devRef .tc main_indices)) := by
  after_reads_simp
theorem read_v14 (i) (h : V (Proc.devRef .tc main_v13) = broadcastInDim S2x4000x1 ![0, 1] bcast_S2x4000_S2x4000x1_0_1 i) :
    after hostOps0_3 V (Proc.devRef .tc main_v14) = rows4000 (V (Proc.devRef .tc main_arg2)) i := by
  after_reads_simp
  rw [h]; rfl

/-! ## The boxes -/

/-- One column of the flattened rows. -/
abbrev flat0 (x : FVec Ideal S2x4000x4 .f32) : FVec Ideal S8000 .f32 :=
  shapeCast S8000 (extractStridedSlice S8000x1 ![0, 0] (shapeCast S8000x4 x shapeCasts_S2x4000x4_S8000x4) slices_S8000x4_S8000x1_0_0) shapeCasts_S8000x1_S8000
abbrev flat1 (x : FVec Ideal S2x4000x4 .f32) : FVec Ideal S8000 .f32 :=
  shapeCast S8000 (extractStridedSlice S8000x1 ![0, 1] (shapeCast S8000x4 x shapeCasts_S2x4000x4_S8000x4) slices_S8000x4_S8000x1_0_1) shapeCasts_S8000x1_S8000
abbrev flat2 (x : FVec Ideal S2x4000x4 .f32) : FVec Ideal S8000 .f32 :=
  shapeCast S8000 (extractStridedSlice S8000x1 ![0, 2] (shapeCast S8000x4 x shapeCasts_S2x4000x4_S8000x4) slices_S8000x4_S8000x1_0_2) shapeCasts_S8000x1_S8000
abbrev flat3 (x : FVec Ideal S2x4000x4 .f32) : FVec Ideal S8000 .f32 :=
  shapeCast S8000 (extractStridedSlice S8000x1 ![0, 3] (shapeCast S8000x4 x shapeCasts_S2x4000x4_S8000x4) slices_S8000x4_S8000x1_0_3) shapeCasts_S8000x1_S8000

/-- The low edge before clipping. -/
def lowRaw (s : Shape) (d e a1 a2 : FVec Ideal s .f32) : FVec Ideal s .f32 :=
  subf (moved s d a1 a2) (mulf (lit s 0x3F000000#32) (scaled s e a1 a2))
/-- The high edge before clipping. -/
def highRaw (s : Shape) (d e a1 a2 : FVec Ideal s .f32) : FVec Ideal s .f32 :=
  subf (addf (moved s d a1 a2) (mulf (lit s 0x3F000000#32) (scaled s e a1 a2))) (lit s 0x3F800000#32)

abbrev asCol (x : FVec Ideal S8000 .f32) : FVec Ideal S8000x1 .f32 := broadcastInDim S8000x1 ![0] bcast_S8000_S8000x1_0 x

/-- The four edges before clipping, one row per candidate. -/
def edges (br an : FVec Ideal S2x4000x4 .f32) : FVec Ideal S2x4000x4 .f32 :=
  shapeCast S2x4000x4 (concatenate S8000x4 1
    [⟨S8000x1, asCol (lowRaw S8000 (flat0 br) (flat2 br) (flat0 an) (flat2 an))⟩,
     ⟨S8000x1, asCol (lowRaw S8000 (flat1 br) (flat3 br) (flat1 an) (flat3 an))⟩,
     ⟨S8000x1, asCol (highRaw S8000 (flat0 br) (flat2 br) (flat0 an) (flat2 an))⟩,
     ⟨S8000x1, asCol (highRaw S8000 (flat1 br) (flat3 br) (flat1 an) (flat3 an))⟩]
    concatenates_S8000x1_S8000x1_S8000x1_S8000x1_S8000x4_d1) shapeCasts_S8000x4_S2x4000x4

set_option maxHeartbeats 4000000 in
theorem read_v82 : after hostOps0_4 V (Proc.devRef .tc main_v82) =
    edges (V (Proc.devRef .tc main_v12)) (V (Proc.devRef .tc main_v14)) := by
  after_reads_simp; rfl

abbrev edge0 (x : FVec Ideal S2x4000x4 .f32) : FVec Ideal S2x4000 .f32 :=
  shapeCast S2x4000 (extractStridedSlice S2x4000x1 ![0, 0, 0] x slices_S2x4000x4_S2x4000x1_0_0_0) shapeCasts_S2x4000x1_S2x4000
abbrev edge1 (x : FVec Ideal S2x4000x4 .f32) : FVec Ideal S2x4000 .f32 :=
  shapeCast S2x4000 (extractStridedSlice S2x4000x1 ![0, 0, 1] x slices_S2x4000x4_S2x4000x1_0_0_1) shapeCasts_S2x4000x1_S2x4000
abbrev edge2 (x : FVec Ideal S2x4000x4 .f32) : FVec Ideal S2x4000 .f32 :=
  shapeCast S2x4000 (extractStridedSlice S2x4000x1 ![0, 0, 2] x slices_S2x4000x4_S2x4000x1_0_0_2) shapeCasts_S2x4000x1_S2x4000
abbrev edge3 (x : FVec Ideal S2x4000x4 .f32) : FVec Ideal S2x4000 .f32 :=
  shapeCast S2x4000 (extractStridedSlice S2x4000x1 ![0, 0, 3] x slices_S2x4000x4_S2x4000x1_0_0_3) shapeCasts_S2x4000x1_S2x4000

set_option maxHeartbeats 4000000 in
theorem read_v84 : after hostOps0_4 V (Proc.devRef .tc main_v84) =
    edge0 (edges (V (Proc.devRef .tc main_v12)) (V (Proc.devRef .tc main_v14))) := by
  after_reads_simp; rfl

set_option maxHeartbeats 4000000 in
theorem read_cst_13 : after hostOps0_4 V (Proc.devRef .tc main_cst_13) = constant (F := Ideal) S_ .f32 0x00000000#32 := by
  after_reads_simp
set_option maxHeartbeats 4000000 in
theorem read_cst_14 : after hostOps0_4 V (Proc.devRef .tc main_cst_14) = constant (F := Ideal) S_ .f32 0x4497E000#32 := by
  after_reads_simp

section clips
variable (h84 : V (Proc.devRef .tc main_v84) = edge0 (V (Proc.devRef .tc main_v82)))
    (h13 : V (Proc.devRef .tc main_cst_13) = constant (F := Ideal) S_ .f32 0x00000000#32)
    (h14 : V (Proc.devRef .tc main_cst_14) = constant (F := Ideal) S_ .f32 0x4497E000#32)

/-- The buffers after the four clippings. -/
abbrev clipped : Valuation τ sig (Elt Ideal) :=
  after hostOps0_11 (after hostOps0_10 (after hostOps0_9 (after hostOps0_8 (after hostOps0_7 (after hostOps0_6 (after hostOps0_5 V))))))

include h84 h13 h14 in
theorem read_v85 : clipped V (Proc.devRef .tc main_v85) = clip S2x4000 0x00000000#32 0x4497E000#32 (edge0 (V (Proc.devRef .tc main_v82))) := by
  after_reads_simp
  rw [h84, h13, h14]; rfl
theorem read_v88 : clipped V (Proc.devRef .tc main_v88) = clip S2x4000 0x00000000#32 0x4447C000#32 (edge1 (V (Proc.devRef .tc main_v82))) := by
  after_reads_simp; rfl
theorem read_v91 : clipped V (Proc.devRef .tc main_v91) = clip S2x4000 0x00000000#32 0x4497E000#32 (edge2 (V (Proc.devRef .tc main_v82))) := by
  after_reads_simp; rfl
theorem read_v94 : clipped V (Proc.devRef .tc main_v94) = clip S2x4000 0x00000000#32 0x4447C000#32 (edge3 (V (Proc.devRef .tc main_v82))) := by
  after_reads_simp; rfl
end clips

abbrev asLast (x : FVec Ideal S2x4000 .f32) : FVec Ideal S2x4000x1 .f32 :=
  broadcastInDim S2x4000x1 ![0, 1] bcast_S2x4000_S2x4000x1_0_1 x

/-- Four arrays side by side as the columns of rows. -/
def stack (a b c d : FVec Ideal S2x4000 .f32) : FVec Ideal S2x4000x4 .f32 :=
  concatenate S2x4000x4 2 [⟨S2x4000x1, asLast a⟩, ⟨S2x4000x1, asLast b⟩, ⟨S2x4000x1, asLast c⟩, ⟨S2x4000x1, asLast d⟩]
    concatenates_S2x4000x1_S2x4000x1_S2x4000x1_S2x4000x1_S2x4000x4_d2

/-- Which boxes have no negative side. -/
def valids (a b c d : FVec Ideal S2x4000 .f32) : IVec S2x4000 1 :=
  andi (cmpf .oge (side S2x4000 a c) (lit S2x4000 0x00000000#32)) (cmpf .oge (side S2x4000 b d) (lit S2x4000 0x00000000#32))

/-- The areas of the boxes. -/
def areas (p : FVec Ideal S2x4000x4 .f32) : FVec Ideal S2x4000 .f32 :=
  mulf (side S2x4000 (edge0 p) (edge2 p)) (side S2x4000 (edge1 p) (edge3 p))

abbrev down (x : FVec Ideal S2x4000x2 .f32) : FVec Ideal S2x4000x4000x2 .f32 :=
  broadcastInDim S2x4000x4000x2 ![0, 1, 2, 3] bcast_S2x4000x1x2_S2x4000x4000x2_0_1_2_3
    (broadcastInDim S2x4000x1x2 ![0, 1, 3] bcast_S2x4000x2_S2x4000x1x2_0_1_3 x)
abbrev across (x : FVec Ideal S2x4000x2 .f32) : FVec Ideal S2x4000x4000x2 .f32 :=
  broadcastInDim S2x4000x4000x2 ![0, 1, 2, 3] bcast_S2x1x4000x2_S2x4000x4000x2_0_1_2_3
    (broadcastInDim S2x1x4000x2 ![0, 2, 3] bcast_S2x4000x2_S2x1x4000x2_0_2_3 x)
abbrev lows (p : FVec Ideal S2x4000x4 .f32) : FVec Ideal S2x4000x2 .f32 :=
  extractStridedSlice S2x4000x2 ![0, 0, 0] p slices_S2x4000x4_S2x4000x2_0_0_0
abbrev highs (p : FVec Ideal S2x4000x4 .f32) : FVec Ideal S2x4000x2 .f32 :=
  extractStridedSlice S2x4000x2 ![0, 0, 2] p slices_S2x4000x4_S2x4000x2_0_0_2

/-- The shared lengths of every two boxes, before the bound at zero. -/
def lengths (p : FVec Ideal S2x4000x4 .f32) : FVec Ideal S2x4000x4000x2 .f32 :=
  addf (subf (minimumf (down (highs p)) (across (highs p))) (maximumf (down (lows p)) (across (lows p))))
    (broadcastInDim S2x4000x4000x2 ![] bcast_S_S2x4000x4000x2 (constant S_ .f32 0x3F800000#32))

section boxes
variable (a b c d : FVec Ideal S2x4000 .f32)
  (ha : V (Proc.devRef .tc main_v85) = a) (hb : V (Proc.devRef .tc main_v88) = b)
  (hc : V (Proc.devRef .tc main_v91) = c) (hd : V (Proc.devRef .tc main_v94) = d)
include ha hb hc hd

theorem read_v99 : after hostOps0_12 V (Proc.devRef .tc main_v99) = stack a b c d := by
  subst ha hb hc hd; after_reads_simp; rfl
theorem read_v110 : after hostOps0_12 V (Proc.devRef .tc main_v110) = valids a b c d := by
  subst ha hb hc hd; after_reads_simp; rfl
theorem read_v125 : after hostOps0_12 V (Proc.devRef .tc main_v125) = areas (stack a b c d) := by
  subst ha hb hc hd; after_reads_simp; rfl
theorem read_v142 : after hostOps0_12 V (Proc.devRef .tc main_v142) = lengths (stack a b c d) := by
  subst ha hb hc hd; after_reads_simp; rfl
end boxes
theorem read_cst_28 : after hostOps0_12 V (Proc.devRef .tc main_cst_28) = constant (F := Ideal) S_ .f32 0x00000000#32 := by
  after_reads_simp

theorem read_v143 (h : V (Proc.devRef .tc main_cst_28) = constant (F := Ideal) S_ .f32 0x00000000#32) :
    after hostOps0_13 V (Proc.devRef .tc main_v143) =
      maximumf (broadcastInDim S2x4000x4000x2 ![] bcast_S_S2x4000x4000x2 (constant (F := Ideal) S_ .f32 0x00000000#32))
        (V (Proc.devRef .tc main_v142)) := by
  after_reads_simp; rw [h]; rfl

abbrev len0 (w : FVec Ideal S2x4000x4000x2 .f32) : FVec Ideal S2x4000x4000 .f32 :=
  shapeCast S2x4000x4000 (extractStridedSlice S2x4000x4000x1 ![0, 0, 0, 0] w slices_S2x4000x4000x2_S2x4000x4000x1_0_0_0_0) shapeCasts_S2x4000x4000x1_S2x4000x4000
abbrev len1 (w : FVec Ideal S2x4000x4000x2 .f32) : FVec Ideal S2x4000x4000 .f32 :=
  shapeCast S2x4000x4000 (extractStridedSlice S2x4000x4000x1 ![0, 0, 0, 1] w slices_S2x4000x4000x2_S2x4000x4000x1_0_0_0_1) shapeCasts_S2x4000x4000x1_S2x4000x4000

/-- The overlap ratios of every two boxes. -/
def ratios (w : FVec Ideal S2x4000x4000x2 .f32) (ar : FVec Ideal S2x4000 .f32) : FVec Ideal S2x4000x4000 .f32 :=
  Host.divf (mulf (len0 w) (len1 w))
    (subf (addf
      (broadcastInDim S2x4000x4000 ![0, 1, 2] bcast_S2x4000x1_S2x4000x4000_0_1_2 (broadcastInDim S2x4000x1 ![0, 1] bcast_S2x4000_S2x4000x1_0_1 ar))
      (broadcastInDim S2x4000x4000 ![0, 1, 2] bcast_S2x1x4000_S2x4000x4000_0_1_2 (broadcastInDim S2x1x4000 ![0, 2] bcast_S2x4000_S2x1x4000_0_2 ar)))
      (mulf (len0 w) (len1 w)))

theorem read_157_0 : after hostOps0_14 V (Proc.devRef .tc main_v157_0) = ratios (V (Proc.devRef .tc main_v143)) (V (Proc.devRef .tc main_v125)) := by
  after_reads_simp; rfl
theorem read_157_1 : after hostOps0_14 V (Proc.devRef .tc main_v157_1) = iotaInDim S4000 32 0 := by
  after_reads_simp; rfl
theorem read_157_3 : after hostOps0_14 V (Proc.devRef .tc main_v157_3) = constantI S_ 32 0#32 := by
  after_reads_simp; rfl
theorem read_157_4 : after hostOps0_14 V (Proc.devRef .tc main_v157_4) = V (Proc.devRef .tc main_v110) := by
  after_reads_simp; rfl

/-! ## After the loop -/

/-- The best thousand of a row and where they stand. -/
def best (x : FVec Ideal S2x4000 .f32) : FVec Ideal S2x1000 .f32 × IVec S2x1000 32 :=
  Host.topK S2x1000 1 (FloatOps.cmpfTotal .gt) x sliceFits_S2x4000_S2x1000

/-- The scores of the kept candidates. -/
def chosen (k : IVec S2x4000 1) (x : FVec Ideal S2x4000 .f32) : FVec Ideal S2x4000 .f32 :=
  select k x (broadcastInDim S2x4000 ![] bcast_S_S2x4000 (constant S_ .f32 0xD01502F9#32))

theorem read_v158 : after hostOps0_16 (after hostOps0_15 V) (Proc.devRef .tc main_v158) =
    chosen (V (Proc.devRef .tc main_v157_4)) (V (Proc.devRef .tc main_values)) := by
  after_reads_simp; rfl

theorem read_values_31 : after hostOps0_17 V (Proc.devRef .tc main_values_31) = (best (V (Proc.devRef .tc main_v158))).1 := by
  after_reads_simp; rfl
theorem read_v159 : after hostOps0_17 V (Proc.devRef .tc main_v159) =
    broadcastInDim S2x1000x1 ![0, 1] bcast_S2x1000_S2x1000x1_0_1 (best (V (Proc.devRef .tc main_v158))).2 := by
  after_reads_simp; rfl

theorem read_v160 (i) (h : V (Proc.devRef .tc main_v159) = broadcastInDim S2x1000x1 ![0, 1] bcast_S2x1000_S2x1000x1_0_1 i) :
    after hostOps0_18 V (Proc.devRef .tc main_v160) = rows1000 (V (Proc.devRef .tc main_v99)) i := by
  after_reads_simp
  rw [h]; rfl

/-- The picked rows with their scores as a fifth column. -/
def joined (x : FVec Ideal S2x1000x4 .f32) (y : FVec Ideal S2x1000 .f32) : FVec Ideal S2x1000x5 .f32 :=
  concatenate S2x1000x5 2 [⟨S2x1000x4, x⟩, ⟨S2x1000x1, broadcastInDim S2x1000x1 ![0, 1] bcast_S2x1000_S2x1000x1_0_1 y⟩]
    concatenates_S2x1000x4_S2x1000x1_S2x1000x5_d2

theorem read_v162 : after hostOps0_19 V (Proc.devRef .tc main_v162) =
    joined (V (Proc.devRef .tc main_v160)) (V (Proc.devRef .tc main_values_31)) := by
  after_reads_simp; rfl

end Cert.Proof.RI
-- ==== Proof.RI.Chain.lean ====
/-
  The reference's lines in a row: what its loop starts from, and its result as a function of what the loop leaves.
-/
module

public import proofs.«01_k».proof.Proof.RI.Value

@[expose] public section

set_option maxRecDepth 16384

noncomputable section

namespace Cert.Proof.RI

open Cert.ReferenceIdeal Cert.ReferenceIdeal.Gen Cert.ReferenceIdeal.Value Cert.Nms
open Idealize.ShloMosaic Idealize.ShloMosaic.ValueIdx Idealize.ShloMosaic.StableHlo
open Idealize.ShloMosaic.TcCoe
open Idealize.SL Idealize.SL.Sem

/-! ## A buffer a line does not write -/

section skip
variable {F : FTy → Type} [FloatOps F]

theorem skip {ops : List (HloOp τ sig (Elt F))} {Wr : List (Ref sig .tc)}
    (hw : ops.Forall fun op => op.writes ⊆ (Wr.map (Proc.devRef (τ := τ) .tc)).toFinset)
    {V : Valuation τ sig (Elt F)} {r : Ref sig .tc} (hd : r ∉ Wr) :
    after ops V (Proc.devRef .tc r) = V (Proc.devRef .tc r) := after_of_writes_sub ops V hw hd

end skip

/-! ## The boxes as functions of the candidates -/

section
variable (br an : FVec Ideal S2x4000x4 .f32)

def cx1 : FVec Ideal S2x4000 .f32 := clip S2x4000 0x00000000#32 0x4497E000#32 (edge0 (edges br an))
def cy1 : FVec Ideal S2x4000 .f32 := clip S2x4000 0x00000000#32 0x4447C000#32 (edge1 (edges br an))
def cx2 : FVec Ideal S2x4000 .f32 := clip S2x4000 0x00000000#32 0x4497E000#32 (edge2 (edges br an))
def cy2 : FVec Ideal S2x4000 .f32 := clip S2x4000 0x00000000#32 0x4447C000#32 (edge3 (edges br an))
/-- The decoded boxes' corners. -/
def props : FVec Ideal S2x4000x4 .f32 := stack (cx1 br an) (cy1 br an) (cx2 br an) (cy2 br an)
def vals : IVec S2x4000 1 := valids (cx1 br an) (cy1 br an) (cx2 br an) (cy2 br an)
/-- The overlap ratios the loop reads. -/
def iou : FVec Ideal S2x4000x4000 .f32 :=
  ratios (maximumf (broadcastInDim S2x4000x4000x2 ![] bcast_S_S2x4000x4000x2 (constant (F := Ideal) S_ .f32 0x00000000#32))
    (lengths (props br an))) (areas (props br an))
end

variable (m : (ℓ : Loc nD τ sig) → Buf (Elt Ideal) ℓ) (c : Dev nD)

abbrev E0 : Valuation τ sig (Elt Ideal) := launchContents m c
abbrev E1 := after hostOps0 (E0 m c)
abbrev E2 := after hostOps0_1 (E1 m c)
abbrev E3 := after hostOps0_2 (E2 m c)
abbrev E4 := after hostOps0_3 (E3 m c)
abbrev E5 := after hostOps0_4 (E4 m c)
abbrev E12 := clipped (E5 m c)
abbrev E13 := after hostOps0_12 (E12 m c)
abbrev E14 := after hostOps0_13 (E13 m c)
abbrev E15 := after hostOps0_14 (E14 m c)

theorem entry_eq : entryContents preI m c = E15 m c := rfl

/-- The scores. -/
def sc : FVec Ideal S2x45600 .f32 := sigm (raw (m ((c.tc : Thread nD τ).loc main_arg0)))
def reg : FVec Ideal S2x4000x4 .f32 := rows4000 (regRows (m ((c.tc : Thread nD τ).loc main_arg1))) (top (sc m c)).2
def anc : FVec Ideal S2x4000x4 .f32 := rows4000 (m ((c.tc : Thread nD τ).loc main_arg2)) (top (sc m c)).2

theorem at_v12 : E4 m c (Proc.devRef .tc main_v12) = reg m c :=
  (skip hostOps0_3_writes (by decide)).trans <| (skip hostOps0_2_writes (by decide)).trans <|
    (read_v12 (E1 m c) _ (read_v11 (E0 m c))).trans (congrArg (fun x => rows4000 x _) (read_v10 (E0 m c)))

theorem at_v14 : E4 m c (Proc.devRef .tc main_v14) = anc m c := by
  refine (read_v14 (E3 m c) _ ((read_v13 (E2 m c)).trans (congrArg _
    ((skip hostOps0_1_writes (by decide)).trans (read_indices (E0 m c)))))).trans ?_
  exact congrArg (fun x => rows4000 x _) ((skip hostOps0_2_writes (by decide)).trans <|
    (skip hostOps0_1_writes (by decide)).trans (skip hostOps0_writes (by decide)))

theorem at_values : E15 m c (Proc.devRef .tc main_values) = (top (sc m c)).1 :=
  (skip hostOps0_14_writes (by decide)).trans <| (skip hostOps0_13_writes (by decide)).trans <|
  (skip hostOps0_12_writes (by decide)).trans <| (skip hostOps0_11_writes (by decide)).trans <|
  (skip hostOps0_10_writes (by decide)).trans <| (skip hostOps0_9_writes (by decide)).trans <|
  (skip hostOps0_8_writes (by decide)).trans <| (skip hostOps0_7_writes (by decide)).trans <|
  (skip hostOps0_6_writes (by decide)).trans <| (skip hostOps0_5_writes (by decide)).trans <|
  (skip hostOps0_4_writes (by decide)).trans <| (skip hostOps0_3_writes (by decide)).trans <|
  (skip hostOps0_2_writes (by decide)).trans <| (skip hostOps0_1_writes (by decide)).trans (read_values (E0 m c))

theorem at_v82 : E5 m c (Proc.devRef .tc main_v82) = edges (reg m c) (anc m c) :=
  (read_v82 (E4 m c)).trans (congrArg₂ edges (at_v12 m c) (at_v14 m c))
theorem at_v84 : E5 m c (Proc.devRef .tc main_v84) = edge0 (E5 m c (Proc.devRef .tc main_v82)) :=
  (read_v84 (E4 m c)).trans (congrArg (fun x => edge0 x) (read_v82 (E4 m c)).symm)

theorem at_v85 : E12 m c (Proc.devRef .tc main_v85) = cx1 (reg m c) (anc m c) :=
  (read_v85 (E5 m c) (at_v84 m c) (read_cst_13 (E4 m c)) (read_cst_14 (E4 m c))).trans
    (congrArg (fun x => clip S2x4000 _ _ (edge0 x)) (at_v82 m c))
theorem at_v88 : E12 m c (Proc.devRef .tc main_v88) = cy1 (reg m c) (anc m c) :=
  (read_v88 (E5 m c)).trans (congrArg (fun x => clip S2x4000 _ _ (edge1 x)) (at_v82 m c))
theorem at_v91 : E12 m c (Proc.devRef .tc main_v91) = cx2 (reg m c) (anc m c) :=
  (read_v91 (E5 m c)).trans (congrArg (fun x => clip S2x4000 _ _ (edge2 x)) (at_v82 m c))
theorem at_v94 : E12 m c (Proc.devRef .tc main_v94) = cy2 (reg m c) (anc m c) :=
  (read_v94 (E5 m c)).trans (congrArg (fun x => clip S2x4000 _ _ (edge3 x)) (at_v82 m c))

theorem at_v99 : E15 m c (Proc.devRef .tc main_v99) = props (reg m c) (anc m c) :=
  (skip hostOps0_14_writes (by decide)).trans <| (skip hostOps0_13_writes (by decide)).trans <|
    read_v99 (E12 m c) _ _ _ _ (at_v85 m c) (at_v88 m c) (at_v91 m c) (at_v94 m c)

theorem at_start : E15 m c (Proc.devRef .tc main_v157_4) = vals (reg m c) (anc m c) :=
  (read_157_4 (E14 m c)).trans <| (skip hostOps0_13_writes (by decide)).trans <|
    read_v110 (E12 m c) _ _ _ _ (at_v85 m c) (at_v88 m c) (at_v91 m c) (at_v94 m c)

theorem at_iou : E15 m c (Proc.devRef .tc main_v157_0) = iou (reg m c) (anc m c) := by
  refine (read_157_0 (E14 m c)).trans (congrArg₂ ratios ?_ ?_)
  · refine (read_v143 (E13 m c) (read_cst_28 (E12 m c))).trans (congrArg (fun x => maximumf _ x) ?_)
    exact read_v142 (E12 m c) _ _ _ _ (at_v85 m c) (at_v88 m c) (at_v91 m c) (at_v94 m c)
  · exact (skip hostOps0_13_writes (by decide)).trans
      (read_v125 (E12 m c) _ _ _ _ (at_v85 m c) (at_v88 m c) (at_v91 m c) (at_v94 m c))

/-! ## Through the loop -/

theorem loop_keeps {r : Ref sig .tc} (h0 : r ∉ condOps_W) (h1 : r ∉ while0Ops0_W) (h2 : r ∉ while0Ops0_1_W)
    (h3 : r ∉ while0Ops0_2_W) (h4 : r ∉ while0Ops0_3_W) : ∀ k, atK m k c (Proc.devRef .tc r) = E15 m c (Proc.devRef .tc r)
  | 0 => rfl
  | k + 1 => (skip while0Ops0_3_writes h4).trans <| (skip while0Ops0_2_writes h3).trans <| (skip while0Ops0_1_writes h2).trans <|
      (skip while0Ops0_writes h1).trans <| (skip condOps_writes h0).trans (loop_keeps h0 h1 h2 h3 h4 k)

/-- What the loop leaves of the candidates. -/
def left : IVec S2x4000 1 := atK m 4000 c (Proc.devRef .tc main_v157_4)

/-- The kept scores. -/
def ch : FVec Ideal S2x4000 .f32 := chosen (left m c) (top (sc m c)).1

abbrev L0 : Valuation τ sig (Elt Ideal) := after condOps (atK m 4000 c)
abbrev L2 := after hostOps0_16 (after hostOps0_15 (L0 m c))
abbrev L3 := after hostOps0_17 (L2 m c)
abbrev L4 := after hostOps0_18 (L3 m c)

theorem at_v158 : L2 m c (Proc.devRef .tc main_v158) = ch m c := by
  refine (read_v158 (L0 m c)).trans (congrArg₂ chosen (skip condOps_writes (by decide)) ?_)
  exact (skip condOps_writes (by decide)).trans
    ((loop_keeps m c (by decide) (by decide) (by decide) (by decide) (by decide) 4000).trans (at_values m c))

theorem final_v162 : finalContents condOps preI bodyI postI 4000 m c (Proc.devRef .tc main_v162) =
    joined (rows1000 (props (reg m c) (anc m c)) (best (ch m c)).2) (best (ch m c)).1 := by
  refine (read_v162 (L4 m c)).trans (congrArg₂ joined ?_ ?_)
  · refine (read_v160 (L3 m c) _ (read_v159 (L2 m c))).trans ?_
    refine congrArg₂ rows1000 ?_ (congrArg (fun x => (best x).2) (at_v158 m c))
    exact (skip hostOps0_17_writes (by decide)).trans <| (skip hostOps0_16_writes (by decide)).trans <|
      (skip hostOps0_15_writes (by decide)).trans <| (skip condOps_writes (by decide)).trans
      ((loop_keeps m c (by decide) (by decide) (by decide) (by decide) (by decide) 4000).trans (at_v99 m c))
  · exact (skip hostOps0_18_writes (by decide)).trans ((read_values_31 (L2 m c)).trans (congrArg (fun x => (best x).1) (at_v158 m c)))

end Cert.Proof.RI
-- ==== Proof.RI.Entries.lean ====
/-
  The reference's arrays entry by entry: the boxes, their validity and area, and the overlap ratios are those of `point`.
-/
module

public import proofs.«01_k».proof.Proof.RI.Chain
public import Idealize.ShloMosaic.Lib.Pipeline.Value

@[expose] public section

set_option maxRecDepth 16384

noncomputable section

namespace Cert.Proof.RI

open Cert.ReferenceIdeal Cert.ReferenceIdeal.Gen Cert.ReferenceIdeal.Value Cert.Nms
open Idealize.ShloMosaic Idealize.ShloMosaic.ValueIdx Idealize.ShloMosaic.StableHlo
open Idealize.ShloMosaic.TcCoe

/-- Candidate `n` of image `b` in the flattened order. -/
def at8000 (b : Fin 2) (n : Fin 4000) : Fin 8000 := ⟨b.val * 4000 + n.val, by omega⟩

theorem flatten_apply (x : FVec Ideal S2x4000x4 .f32) (b : Fin 2) (n : Fin 4000) (k : Fin 4) :
    shapeCast S8000x4 x shapeCasts_S2x4000x4_S8000x4 (ix2 (at8000 b n) k) = x (ix3 b n k) := by
  refine shapeCast_apply x _ (ix2 (at8000 b n) k) (ix3 b n k) ?_
  rw [Shape.rowMajor_val_three, Shape.rowMajor_val_two]
  show (b.val * 4000 + n.val) * 4 + k.val = (b.val * 4000 + n.val) * 4 + k.val
  rfl

theorem unflatten_apply (x : FVec Ideal S8000x4 .f32) (b : Fin 2) (n : Fin 4000) (k : Fin 4) :
    shapeCast S2x4000x4 x shapeCasts_S8000x4_S2x4000x4 (ix3 b n k) = x (ix2 (at8000 b n) k) := by
  refine shapeCast_apply x _ (ix3 b n k) (ix2 (at8000 b n) k) ?_
  rw [Shape.rowMajor_val_three, Shape.rowMajor_val_two]
  show (b.val * 4000 + n.val) * 4 + k.val = (b.val * 4000 + n.val) * 4 + k.val
  rfl

theorem four2 (x : Fin 4 → FVec Ideal S8000x1 .f32) (p : Fin 8000) (k : Fin 4) :
    concatenate S8000x4 1 [⟨S8000x1, x 0⟩, ⟨S8000x1, x 1⟩, ⟨S8000x1, x 2⟩, ⟨S8000x1, x 3⟩]
      concatenates_S8000x1_S8000x1_S8000x1_S8000x1_S8000x4_d1 (ix2 p k) = x k (ix2 p 0) := by
  have hi : ∀ a : Fin 2, a ≠ 1 → ((ix2 p (0 : Fin 1) : S8000x1.Idx) a).val = ((ix2 p k : S8000x4.Idx) a).val := fun a ha => by
    match a with
    | ⟨0, _⟩ => rfl
    | ⟨1, _⟩ => exact absurd rfl ha
  match k with
  | ⟨0, _⟩ => exact concatenate_apply_piece (t := S8000x4) (1 : Fin 2) _ _ _ 0 (by show 0 < 4; decide) S8000x1 (x 0) rfl rfl 0 rfl (ix2 p 0) hi rfl
  | ⟨1, _⟩ => exact concatenate_apply_piece (t := S8000x4) (1 : Fin 2) _ _ _ 1 (by show 1 < 4; decide) S8000x1 (x 1) rfl rfl 1 rfl (ix2 p 0) hi rfl
  | ⟨2, _⟩ => exact concatenate_apply_piece (t := S8000x4) (1 : Fin 2) _ _ _ 2 (by show 2 < 4; decide) S8000x1 (x 2) rfl rfl 2 rfl (ix2 p 0) hi rfl
  | ⟨3, _⟩ => exact concatenate_apply_piece (t := S8000x4) (1 : Fin 2) _ _ _ 3 (by show 3 < 4; decide) S8000x1 (x 3) rfl rfl 3 rfl (ix2 p 0) hi rfl

theorem four3 (x : Fin 4 → FVec Ideal S2x4000x1 .f32) (b : Fin 2) (n : Fin 4000) (k : Fin 4) :
    concatenate S2x4000x4 2 [⟨S2x4000x1, x 0⟩, ⟨S2x4000x1, x 1⟩, ⟨S2x4000x1, x 2⟩, ⟨S2x4000x1, x 3⟩]
      concatenates_S2x4000x1_S2x4000x1_S2x4000x1_S2x4000x1_S2x4000x4_d2 (ix3 b n k) = x k (ix3 b n 0) := by
  have hi : ∀ a : Fin 3, a ≠ 2 → ((ix3 b n (0 : Fin 1) : S2x4000x1.Idx) a).val = ((ix3 b n k : S2x4000x4.Idx) a).val := fun a ha => by
    match a with
    | ⟨0, _⟩ => rfl
    | ⟨1, _⟩ => rfl
    | ⟨2, _⟩ => exact absurd rfl ha
  match k with
  | ⟨0, _⟩ => exact concatenate_apply_piece (t := S2x4000x4) (2 : Fin 3) _ _ _ 0 (by show 0 < 4; decide) S2x4000x1 (x 0) rfl rfl 0 rfl (ix3 b n 0) hi rfl
  | ⟨1, _⟩ => exact concatenate_apply_piece (t := S2x4000x4) (2 : Fin 3) _ _ _ 1 (by show 1 < 4; decide) S2x4000x1 (x 1) rfl rfl 1 rfl (ix3 b n 0) hi rfl
  | ⟨2, _⟩ => exact concatenate_apply_piece (t := S2x4000x4) (2 : Fin 3) _ _ _ 2 (by show 2 < 4; decide) S2x4000x1 (x 2) rfl rfl 2 rfl (ix3 b n 0) hi rfl
  | ⟨3, _⟩ => exact concatenate_apply_piece (t := S2x4000x4) (2 : Fin 3) _ _ _ 3 (by show 3 < 4; decide) S2x4000x1 (x 3) rfl rfl 3 rfl (ix3 b n 0) hi rfl

/-- One column of flattened rows, read at a candidate. -/
theorem column_apply (k : Fin 4) (h : S8000x4.Slices ![0, k.val] S8000x1) (x : FVec Ideal S2x4000x4 .f32) (b : Fin 2) (n : Fin 4000) :
    shapeCast S8000 (extractStridedSlice S8000x1 ![0, k.val] (shapeCast S8000x4 x shapeCasts_S2x4000x4_S8000x4) h) shapeCasts_S8000x1_S8000
      (ix1 (at8000 b n)) = x (ix3 b n k) := by
  refine (shapeCast_apply _ _ (ix1 (at8000 b n)) (ix2 (at8000 b n) 0) ?_).trans ?_
  · rw [Shape.rowMajor_val_two, Shape.rowMajor_val_one]
    show (b.val * 4000 + n.val) * 1 + 0 = b.val * 4000 + n.val
    omega
  · refine Eq.trans (congrArg (shapeCast S8000x4 x shapeCasts_S2x4000x4_S8000x4) (funext fun a => Fin.ext ?_)) (flatten_apply x b n k)
    match a with
    | ⟨0, _⟩ => exact Nat.zero_add _
    | ⟨1, _⟩ => exact Nat.add_zero _

theorem flat0_apply (x : FVec Ideal S2x4000x4 .f32) (b : Fin 2) (n : Fin 4000) : flat0 x (ix1 (at8000 b n)) = x (ix3 b n 0) :=
  column_apply 0 _ x b n
theorem flat1_apply (x : FVec Ideal S2x4000x4 .f32) (b : Fin 2) (n : Fin 4000) : flat1 x (ix1 (at8000 b n)) = x (ix3 b n 1) :=
  column_apply 1 _ x b n
theorem flat2_apply (x : FVec Ideal S2x4000x4 .f32) (b : Fin 2) (n : Fin 4000) : flat2 x (ix1 (at8000 b n)) = x (ix3 b n 2) :=
  column_apply 2 _ x b n
theorem flat3_apply (x : FVec Ideal S2x4000x4 .f32) (b : Fin 2) (n : Fin 4000) : flat3 x (ix1 (at8000 b n)) = x (ix3 b n 3) :=
  column_apply 3 _ x b n

/-- One column of rows, read at a candidate. -/
theorem edge_apply (k : Fin 4) (h : S2x4000x4.Slices ![0, 0, k.val] S2x4000x1) (x : FVec Ideal S2x4000x4 .f32) (b : Fin 2) (n : Fin 4000) :
    shapeCast S2x4000 (extractStridedSlice S2x4000x1 ![0, 0, k.val] x h) shapeCasts_S2x4000x1_S2x4000 (ix2 b n) = x (ix3 b n k) := by
  refine (shapeCast_apply _ _ (ix2 b n) (ix3 b n 0) ?_).trans (congrArg x (funext fun a => Fin.ext ?_))
  · rw [Shape.rowMajor_val_two, Shape.rowMajor_val_three]
    show (b.val * 4000 + n.val) * 1 + 0 = b.val * 4000 + n.val
    omega
  · match a with
    | ⟨0, _⟩ => exact Nat.zero_add _
    | ⟨1, _⟩ => exact Nat.zero_add _
    | ⟨2, _⟩ => exact Nat.add_zero _

theorem edge0_apply (x : FVec Ideal S2x4000x4 .f32) (b : Fin 2) (n : Fin 4000) : edge0 x (ix2 b n) = x (ix3 b n 0) := edge_apply 0 _ x b n
theorem edge1_apply (x : FVec Ideal S2x4000x4 .f32) (b : Fin 2) (n : Fin 4000) : edge1 x (ix2 b n) = x (ix3 b n 1) := edge_apply 1 _ x b n
theorem edge2_apply (x : FVec Ideal S2x4000x4 .f32) (b : Fin 2) (n : Fin 4000) : edge2 x (ix2 b n) = x (ix3 b n 2) := edge_apply 2 _ x b n
theorem edge3_apply (x : FVec Ideal S2x4000x4 .f32) (b : Fin 2) (n : Fin 4000) : edge3 x (ix2 b n) = x (ix3 b n 3) := edge_apply 3 _ x b n

/-! ## The boxes -/

section
variable (br an : FVec Ideal S2x4000x4 .f32) (b : Fin 2) (n : Fin 4000)

/-- The four deltas and the four anchor corners of a candidate. -/
def cand : Fin 8 → Ideal .f32 :=
  ![br (ix3 b n 0), br (ix3 b n 1), br (ix3 b n 2), br (ix3 b n 3), an (ix3 b n 0), an (ix3 b n 1), an (ix3 b n 2), an (ix3 b n 3)]

/-- Its box. -/
abbrev box : Box := point (cand br an b n)

theorem edges_apply (k : Fin 4) : edges br an (ix3 b n k) =
    ![lowRaw (M 1 1) (fun _ => br (ix3 b n 0)) (fun _ => br (ix3 b n 2)) (fun _ => an (ix3 b n 0)) (fun _ => an (ix3 b n 2)) (ix2 0 0),
      lowRaw (M 1 1) (fun _ => br (ix3 b n 1)) (fun _ => br (ix3 b n 3)) (fun _ => an (ix3 b n 1)) (fun _ => an (ix3 b n 3)) (ix2 0 0),
      highRaw (M 1 1) (fun _ => br (ix3 b n 0)) (fun _ => br (ix3 b n 2)) (fun _ => an (ix3 b n 0)) (fun _ => an (ix3 b n 2)) (ix2 0 0),
      highRaw (M 1 1) (fun _ => br (ix3 b n 1)) (fun _ => br (ix3 b n 3)) (fun _ => an (ix3 b n 1)) (fun _ => an (ix3 b n 3)) (ix2 0 0)] k := by
  refine (unflatten_apply _ b n k).trans ((four2 ![asCol (lowRaw S8000 (flat0 br) (flat2 br) (flat0 an) (flat2 an)),
    asCol (lowRaw S8000 (flat1 br) (flat3 br) (flat1 an) (flat3 an)), asCol (highRaw S8000 (flat0 br) (flat2 br) (flat0 an) (flat2 an)),
    asCol (highRaw S8000 (flat1 br) (flat3 br) (flat1 an) (flat3 an))] (at8000 b n) k).trans ?_)
  have hcol : ∀ x : FVec Ideal S8000 .f32, asCol x (ix2 (at8000 b n) 0) = x (ix1 (at8000 b n)) := fun x =>
    broadcastInDim_apply _ _ x _ (ix1 (at8000 b n)) (fun a => by
      match a with
      | ⟨0, _⟩ => show (at8000 b n).val = if (8000 : ℕ) = 1 then 0 else (at8000 b n).val; rw [if_neg (by decide)])
  rw [← flat0_apply br b n, ← flat1_apply br b n, ← flat2_apply br b n, ← flat3_apply br b n,
    ← flat0_apply an b n, ← flat1_apply an b n, ← flat2_apply an b n, ← flat3_apply an b n]
  match k with
  | ⟨0, _⟩ => exact (hcol (lowRaw S8000 (flat0 br) (flat2 br) (flat0 an) (flat2 an))).trans rfl
  | ⟨1, _⟩ => exact (hcol (lowRaw S8000 (flat1 br) (flat3 br) (flat1 an) (flat3 an))).trans rfl
  | ⟨2, _⟩ => exact (hcol (highRaw S8000 (flat0 br) (flat2 br) (flat0 an) (flat2 an))).trans rfl
  | ⟨3, _⟩ => exact (hcol (highRaw S8000 (flat1 br) (flat3 br) (flat1 an) (flat3 an))).trans rfl

theorem cx1_apply : cx1 br an (ix2 b n) = (box br an b n).x1 :=
  (congrArg (fun v => min (Ideal.ofBits .f32 0x4497E000#32) (max (Ideal.ofBits .f32 0x00000000#32) v))
    ((edge0_apply _ b n).trans (edges_apply br an b n 0)) : _)
theorem cy1_apply : cy1 br an (ix2 b n) = (box br an b n).y1 :=
  (congrArg (fun v => min (Ideal.ofBits .f32 0x4447C000#32) (max (Ideal.ofBits .f32 0x00000000#32) v))
    ((edge1_apply _ b n).trans (edges_apply br an b n 1)) : _)
theorem cx2_apply : cx2 br an (ix2 b n) = (box br an b n).x2 :=
  (congrArg (fun v => min (Ideal.ofBits .f32 0x4497E000#32) (max (Ideal.ofBits .f32 0x00000000#32) v))
    ((edge2_apply _ b n).trans (edges_apply br an b n 2)) : _)
theorem cy2_apply : cy2 br an (ix2 b n) = (box br an b n).y2 :=
  (congrArg (fun v => min (Ideal.ofBits .f32 0x4447C000#32) (max (Ideal.ofBits .f32 0x00000000#32) v))
    ((edge3_apply _ b n).trans (edges_apply br an b n 3)) : _)

theorem props_apply (k : Fin 4) : props br an (ix3 b n k) = (box br an b n).corner k := by
  refine (four3 ![asLast (cx1 br an), asLast (cy1 br an), asLast (cx2 br an), asLast (cy2 br an)] b n k).trans ?_
  have hcol : ∀ x : FVec Ideal S2x4000 .f32, asLast x (ix3 b n 0) = x (ix2 b n) := fun x =>
    broadcastInDim_apply _ _ x _ (ix2 b n) (fun a => by
      match a with
      | ⟨0, _⟩ => show b.val = if (2 : ℕ) = 1 then 0 else b.val; rw [if_neg (by decide)]
      | ⟨1, _⟩ => show n.val = if (4000 : ℕ) = 1 then 0 else n.val; rw [if_neg (by decide)])
  match k with
  | ⟨0, _⟩ => exact (hcol (cx1 br an)).trans (cx1_apply br an b n)
  | ⟨1, _⟩ => exact (hcol (cy1 br an)).trans (cy1_apply br an b n)
  | ⟨2, _⟩ => exact (hcol (cx2 br an)).trans (cx2_apply br an b n)
  | ⟨3, _⟩ => exact (hcol (cy2 br an)).trans (cy2_apply br an b n)

theorem valids_apply (x1 y1 x2 y2 : FVec Ideal S2x4000 .f32) (i : S2x4000.Idx) : valids x1 y1 x2 y2 i =
    andi (cmpf .oge (side (M 1 1) (fun _ => x1 i) (fun _ => x2 i)) (lit (M 1 1) 0x00000000#32))
      (cmpf .oge (side (M 1 1) (fun _ => y1 i) (fun _ => y2 i)) (lit (M 1 1) 0x00000000#32)) (ix2 0 0) := rfl

theorem vals_apply : vals br an (ix2 b n) = (box br an b n).valid := by
  unfold vals
  rw [valids_apply, cx1_apply, cy1_apply, cx2_apply, cy2_apply]; rfl

theorem areas_of (p : FVec Ideal S2x4000x4 .f32) : areas p (ix2 b n) =
    (p (ix3 b n 2) - p (ix3 b n 0) + Ideal.ofBits .f32 0x3F800000#32) * (p (ix3 b n 3) - p (ix3 b n 1) + Ideal.ofBits .f32 0x3F800000#32) := by
  have e : areas p (ix2 b n) = (edge2 p (ix2 b n) - edge0 p (ix2 b n) + Ideal.ofBits .f32 0x3F800000#32)
      * (edge3 p (ix2 b n) - edge1 p (ix2 b n) + Ideal.ofBits .f32 0x3F800000#32) := rfl
  rw [e, edge0_apply, edge1_apply, edge2_apply, edge3_apply]

theorem areas_apply : areas (props br an) (ix2 b n) = (box br an b n).area := by
  rw [areas_of, props_apply, props_apply, props_apply, props_apply]; rfl

/-! ## The overlap ratios -/

theorem length_apply (p : FVec Ideal S2x4000x4 .f32) (i j : Fin 4000) (l h : Fin 4) (k : Fin 2) (hl : l.val = k.val) (hh : h.val = 2 + k.val) :
    maximumf (broadcastInDim S2x4000x4000x2 ![] bcast_S_S2x4000x4000x2 (constant (F := Ideal) S_ .f32 0x00000000#32)) (lengths p) (ix4 b i j k)
      = overlap (p (ix3 b i l)) (p (ix3 b i h)) (p (ix3 b j l)) (p (ix3 b j h)) := by
  have hd : ∀ x : FVec Ideal S2x4000x2 .f32, down x (ix4 b i j k) = x (ix3 b i k) := fun x =>
    (broadcastInDim_apply _ _ _ _ (ix4 b i 0 k) (fun a => by
      match a with
      | ⟨0, _⟩ => rfl
      | ⟨1, _⟩ => rfl
      | ⟨2, _⟩ => rfl
      | ⟨3, _⟩ => rfl)).trans (broadcastInDim_apply _ _ x _ (ix3 b i k) (fun a => by
      match a with
      | ⟨0, _⟩ => rfl
      | ⟨1, _⟩ => rfl
      | ⟨2, _⟩ => rfl))
  have ha : ∀ x : FVec Ideal S2x4000x2 .f32, across x (ix4 b i j k) = x (ix3 b j k) := fun x =>
    (broadcastInDim_apply _ _ _ _ (ix4 b 0 j k) (fun a => by
      match a with
      | ⟨0, _⟩ => rfl
      | ⟨1, _⟩ => rfl
      | ⟨2, _⟩ => rfl
      | ⟨3, _⟩ => rfl)).trans (broadcastInDim_apply _ _ x _ (ix3 b j k) (fun a => by
      match a with
      | ⟨0, _⟩ => rfl
      | ⟨1, _⟩ => rfl
      | ⟨2, _⟩ => rfl))
  have hlo : ∀ n : Fin 4000, lows p (ix3 b n k) = p (ix3 b n l) := fun n => congrArg p (funext fun a => Fin.ext (by
    match a with
    | ⟨0, _⟩ => exact Nat.zero_add _
    | ⟨1, _⟩ => exact Nat.zero_add _
    | ⟨2, _⟩ => exact (Nat.zero_add _).trans hl.symm))
  have hhi : ∀ n : Fin 4000, highs p (ix3 b n k) = p (ix3 b n h) := fun n => congrArg p (funext fun a => Fin.ext (by
    match a with
    | ⟨0, _⟩ => exact Nat.zero_add _
    | ⟨1, _⟩ => exact Nat.zero_add _
    | ⟨2, _⟩ => exact hh.symm))
  have e : ∀ q r s t : FVec Ideal S2x4000x4000x2 .f32,
      maximumf (broadcastInDim S2x4000x4000x2 ![] bcast_S_S2x4000x4000x2 (constant (F := Ideal) S_ .f32 0x00000000#32))
        (addf (subf (minimumf q r) (maximumf s t)) (broadcastInDim S2x4000x4000x2 ![] bcast_S_S2x4000x4000x2 (constant S_ .f32 0x3F800000#32)))
        (ix4 b i j k) = overlap (s (ix4 b i j k)) (q (ix4 b i j k)) (t (ix4 b i j k)) (r (ix4 b i j k)) := fun _ _ _ _ => rfl
  refine (e _ _ _ _).trans ?_
  rw [hd, hd, ha, ha, hlo, hlo, hhi, hhi]

theorem len0_apply (w : FVec Ideal S2x4000x4000x2 .f32) (i j : Fin 4000) : len0 w (ix3 b i j) = w (ix4 b i j 0) := by
  refine (shapeCast_apply _ _ (ix3 b i j) (ix4 b i j 0) ?_).trans (congrArg w (funext fun a => Fin.ext ?_))
  · rw [Shape.rowMajor_val_four, Shape.rowMajor_val_three]
    show ((b.val * 4000 + i.val) * 4000 + j.val) * 1 + 0 = (b.val * 4000 + i.val) * 4000 + j.val
    omega
  · match a with
    | ⟨0, _⟩ => exact Nat.zero_add _
    | ⟨1, _⟩ => exact Nat.zero_add _
    | ⟨2, _⟩ => exact Nat.zero_add _
    | ⟨3, _⟩ => exact Nat.zero_add _
theorem len1_apply (w : FVec Ideal S2x4000x4000x2 .f32) (i j : Fin 4000) : len1 w (ix3 b i j) = w (ix4 b i j 1) := by
  refine (shapeCast_apply _ _ (ix3 b i j) (ix4 b i j 0) ?_).trans (congrArg w (funext fun a => Fin.ext ?_))
  · rw [Shape.rowMajor_val_four, Shape.rowMajor_val_three]
    show ((b.val * 4000 + i.val) * 4000 + j.val) * 1 + 0 = (b.val * 4000 + i.val) * 4000 + j.val
    omega
  · match a with
    | ⟨0, _⟩ => exact Nat.zero_add _
    | ⟨1, _⟩ => exact Nat.zero_add _
    | ⟨2, _⟩ => exact Nat.zero_add _
    | ⟨3, _⟩ => rfl

theorem ratios_apply (w : FVec Ideal S2x4000x4000x2 .f32) (ar : FVec Ideal S2x4000 .f32) (i j : Fin 4000) :
    ratios w ar (ix3 b i j) = Ideal.div (w (ix4 b i j 0) * w (ix4 b i j 1))
      (ar (ix2 b i) + ar (ix2 b j) - w (ix4 b i j 0) * w (ix4 b i j 1)) := by
  have e : ∀ p q r s : FVec Ideal S2x4000x4000 .f32, Host.divf (mulf p q) (subf (addf r s) (mulf p q)) (ix3 b i j) =
      Ideal.div (p (ix3 b i j) * q (ix3 b i j)) (r (ix3 b i j) + s (ix3 b i j) - p (ix3 b i j) * q (ix3 b i j)) := fun _ _ _ _ => rfl
  have h1 : broadcastInDim S2x4000x4000 ![0, 1, 2] bcast_S2x4000x1_S2x4000x4000_0_1_2
      (broadcastInDim S2x4000x1 ![0, 1] bcast_S2x4000_S2x4000x1_0_1 ar) (ix3 b i j) = ar (ix2 b i) :=
    (broadcastInDim_apply _ _ _ _ (ix3 b i 0) (fun a => by
      match a with
      | ⟨0, _⟩ => rfl
      | ⟨1, _⟩ => rfl
      | ⟨2, _⟩ => rfl)).trans (broadcastInDim_apply _ _ ar _ (ix2 b i) (fun a => by
      match a with
      | ⟨0, _⟩ => rfl
      | ⟨1, _⟩ => rfl))
  have h2 : broadcastInDim S2x4000x4000 ![0, 1, 2] bcast_S2x1x4000_S2x4000x4000_0_1_2
      (broadcastInDim S2x1x4000 ![0, 2] bcast_S2x4000_S2x1x4000_0_2 ar) (ix3 b i j) = ar (ix2 b j) :=
    (broadcastInDim_apply _ _ _ _ (ix3 b 0 j) (fun a => by
      match a with
      | ⟨0, _⟩ => rfl
      | ⟨1, _⟩ => rfl
      | ⟨2, _⟩ => rfl)).trans (broadcastInDim_apply _ _ ar _ (ix2 b j) (fun a => by
      match a with
      | ⟨0, _⟩ => rfl
      | ⟨1, _⟩ => rfl))
  unfold ratios
  refine (e _ _ _ _).trans ?_
  rw [h1, h2, len0_apply, len1_apply]

theorem iou_apply (i j : Fin 4000) : (Ideal.ofBits .f32 0x3F333333#32 < iou br an (ix3 b i j)) ↔ hits (box br an b i) (box br an b j) := by
  unfold iou
  rw [ratios_apply, length_apply b _ i j 0 2 0 rfl rfl, length_apply b _ i j 1 3 1 rfl rfl, areas_apply, areas_apply]
  simp only [props_apply]
  exact Iff.rfl

end

end Cert.Proof.RI
-- ==== Proof.RI.Loop.lean ====
/-
  The reference's loop: after its last trip the mask holds exactly the boxes the greedy choice keeps.
-/
module

public import proofs.«01_k».proof.Proof.RI.Entries
public import Idealize.ShloMosaic.Lib.WordCmp

@[expose] public section

set_option maxRecDepth 16384

noncomputable section

namespace Cert.Proof.RI

open Cert.ReferenceIdeal Cert.ReferenceIdeal.Gen Cert.ReferenceIdeal.Value Cert.Nms
open Idealize.ShloMosaic Idealize.ShloMosaic.ValueIdx Idealize.ShloMosaic.StableHlo
open Idealize.ShloMosaic.TcCoe

theorem small_toInt {k : ℕ} (hk : k < 2 ^ 31) : (BitVec.ofNat 32 k).toInt = (k : Int) := by
  have h : (BitVec.ofNat 32 k).toNat = k := by rw [BitVec.toNat_ofNat]; omega
  rw [BitVec.toInt_eq_toNat_of_lt (by omega), h]

/-- The row number the trip reads, counted from the end when it is negative. -/
abbrev pick (q : IVec S_ 32) : IVec S_ 32 := select (cmpi .slt q (constantI S_ 32 0#32)) (addi (id q) (constantI S_ 32 4000#32)) q

theorem pick_small {k : ℕ} (hk : k < 2 ^ 31) (i : S_.Idx) : (pick (fun _ => BitVec.ofNat 32 k) i).toInt = (k : Int) := by
  have h : (BitVec.ofNat 32 k).slt 0#32 = false := by
    rw [BitVec.slt_eq_decide, small_toInt hk]
    exact decide_eq_false (by show ¬ ((k : Int) < 0); omega)
  have e : pick (fun _ => BitVec.ofNat 32 k) i =
      if BitVec.ofBool ((BitVec.ofNat 32 k).slt 0#32) = 1#1 then BitVec.ofNat 32 k + 4000#32 else BitVec.ofNat 32 k := rfl
  rw [e, h, if_neg (by decide), small_toInt hk]

/-- One trip of the loop on the mask. -/
def tripStep (K : IVec S2x4000 1) (w : FVec Ideal S2x4000x4000 .f32) (io : IVec S4000 32) (q : IVec S_ 32) : IVec S2x4000 1 :=
  andi K (noti (andi (andi (cmpf .ogt (shapeCast S2x4000 (Host.dynamicSlice S2x1x4000 w
      (fun k => (((![constantI S_ 32 0#32, pick q, constantI S_ 32 0#32] : Fin 3 → IVec S_ 32)) k (Shape.Idx.first h_S_)).toInt)
      sliceFits_S2x4000x4000_S2x1x4000) shapeCasts_S2x1x4000_S2x4000) (broadcastInDim S2x4000 ![] bcast_S_S2x4000 (constant S_ .f32 0x3F333333#32)))
    (broadcastInDim S2x4000 ![0, 1] bcast_S1x4000_S2x4000_0_1 (broadcastInDim S1x4000 ![1] bcast_S4000_S1x4000_1
      (cmpi .sgt io (broadcastInDim S4000 ![] bcast_S_S4000 (id q))))))
    (broadcastInDim S2x4000 ![0, 1] bcast_S2x1_S2x4000_0_1 (Host.dynamicSlice S2x1 K
      (fun k => (((![constantI S_ 32 0#32, pick q] : Fin 2 → IVec S_ 32)) k (Shape.Idx.first h_S_)).toInt) sliceFits_S2x4000_S2x1))))

theorem step_eq (V : Valuation τ sig (Elt Ideal)) : step_main_v157_4 V = tripStep (V (Proc.devRef .tc main_v157_4))
    (V (Proc.devRef .tc main_v157_0)) (V (Proc.devRef .tc main_v157_1)) (V (Proc.devRef .tc main_v157_3)) := rfl

section trip
variable (K : IVec S2x4000 1) (w : FVec Ideal S2x4000x4000 .f32) (k : ℕ) (hk : k < 4000)

theorem read_row (b : Fin 2) (j : Fin 4000) : shapeCast S2x4000 (Host.dynamicSlice S2x1x4000 w
      (fun a => (((![constantI S_ 32 0#32, pick (fun _ => BitVec.ofNat 32 k), constantI S_ 32 0#32] : Fin 3 → IVec S_ 32)) a (Shape.Idx.first h_S_)).toInt)
      sliceFits_S2x4000x4000_S2x1x4000) shapeCasts_S2x1x4000_S2x4000 (ix2 b j) = w (ix3 b ⟨k, hk⟩ j) := by
  have hs : S2x4000x4000.Slices ![0, k, 0] S2x1x4000 := ⟨rfl, fun a => by
    match a with
    | ⟨0, _⟩ => show 0 + 2 ≤ 2; omega
    | ⟨1, _⟩ => show k + 1 ≤ 4000; omega
    | ⟨2, _⟩ => show 0 + 4000 ≤ 4000; omega⟩
  rw [WordCmp.dynamicSlice_eq_extract S2x1x4000 w _ sliceFits_S2x4000x4000_S2x1x4000 ![0, k, 0] hs (fun a => by
    match a with
    | ⟨0, _⟩ => rfl
    | ⟨1, _⟩ => exact pick_small (by omega) _
    | ⟨2, _⟩ => rfl)]
  refine (shapeCast_apply _ _ (ix2 b j) (ix3 b 0 j) ?_).trans (congrArg w (funext fun a => Fin.ext ?_))
  · rw [Shape.rowMajor_val_two, Shape.rowMajor_val_three]
    show (b.val * 1 + 0) * 4000 + j.val = b.val * 4000 + j.val
    omega
  · match a with
    | ⟨0, _⟩ => exact Nat.zero_add _
    | ⟨1, _⟩ => exact Nat.add_zero _
    | ⟨2, _⟩ => exact Nat.zero_add _

theorem read_bit (b : Fin 2) (j : Fin 4000) : broadcastInDim S2x4000 ![0, 1] bcast_S2x1_S2x4000_0_1 (Host.dynamicSlice S2x1 K
      (fun a => (((![constantI S_ 32 0#32, pick (fun _ => BitVec.ofNat 32 k)] : Fin 2 → IVec S_ 32)) a (Shape.Idx.first h_S_)).toInt) sliceFits_S2x4000_S2x1)
      (ix2 b j) = K (ix2 b ⟨k, hk⟩) := by
  have hs : S2x4000.Slices ![0, k] S2x1 := ⟨rfl, fun a => by
    match a with
    | ⟨0, _⟩ => show 0 + 2 ≤ 2; omega
    | ⟨1, _⟩ => show k + 1 ≤ 4000; omega⟩
  rw [WordCmp.dynamicSlice_eq_extract S2x1 K _ sliceFits_S2x4000_S2x1 ![0, k] hs (fun a => by
    match a with
    | ⟨0, _⟩ => rfl
    | ⟨1, _⟩ => exact pick_small (by omega) _)]
  refine (broadcastInDim_apply _ _ _ _ (ix2 b 0) (fun a => by
      match a with
      | ⟨0, _⟩ => rfl
      | ⟨1, _⟩ => rfl)).trans (congrArg K (funext fun a => Fin.ext ?_))
  match a with
  | ⟨0, _⟩ => exact Nat.zero_add _
  | ⟨1, _⟩ => exact Nat.add_zero _

include hk in
theorem read_later (b : Fin 2) (j : Fin 4000) : broadcastInDim S2x4000 ![0, 1] bcast_S1x4000_S2x4000_0_1
    (broadcastInDim S1x4000 ![1] bcast_S4000_S1x4000_1
      (cmpi .sgt (iotaInDim S4000 32 0) (broadcastInDim S4000 ![] bcast_S_S4000 (id (fun _ => BitVec.ofNat 32 k : IVec S_ 32))))) (ix2 b j)
      = BitVec.ofBool (decide (k < j.val)) := by
  refine (broadcastInDim_apply _ _ _ _ (ix2 0 j) (fun a => by
      match a with
      | ⟨0, _⟩ => rfl
      | ⟨1, _⟩ => rfl)).trans ((broadcastInDim_apply _ _ _ _ (ix1 j) (fun a => by
      match a with
      | ⟨0, _⟩ => rfl)).trans ?_)
  show BitVec.ofBool ((BitVec.ofNat 32 k).slt (BitVec.ofNat 32 j.val)) = _
  have := j.isLt
  rw [BitVec.slt_eq_decide, small_toInt (by omega), small_toInt (by omega)]
  exact congrArg BitVec.ofBool (decide_eq_decide.mpr Int.ofNat_lt)

theorem trip_apply (b : Fin 2) (j : Fin 4000) :
    tripStep K w (iotaInDim S4000 32 0) (fun _ => BitVec.ofNat 32 k) (ix2 b j) = 1#1 ↔
      K (ix2 b j) = 1#1 ∧ ¬ ((Ideal.ofBits .f32 0x3F333333#32 < w (ix3 b ⟨k, hk⟩ j) ∧ k < j.val) ∧ K (ix2 b ⟨k, hk⟩) = 1#1) := by
  have e : ∀ (x : FVec Ideal S2x4000 .f32) (y z : IVec S2x4000 1) (i : S2x4000.Idx),
      andi K (noti (andi (andi (cmpf .ogt x (broadcastInDim S2x4000 ![] bcast_S_S2x4000 (constant S_ .f32 0x3F333333#32))) y) z)) i =
        K i &&& ~~~ ((BitVec.ofBool (decide (Ideal.ofBits .f32 0x3F333333#32 < x i)) &&& y i) &&& z i) := fun _ _ _ _ => rfl
  unfold tripStep
  rw [e, read_row w k hk, read_bit K k hk, read_later k hk]
  have bits : ∀ u v x y : BitVec 1, (u &&& ~~~ ((v &&& x) &&& y) = 1#1) ↔ (u = 1#1 ∧ ¬ ((v = 1#1 ∧ x = 1#1) ∧ y = 1#1)) := by decide
  rw [bits, ofBool_on, ofBool_on]

end trip

/-! ## All the trips -/

section
variable (m : (ℓ : Loc nD τ sig) → Buf (Elt Ideal) ℓ) (c : Dev nD)

theorem atK_succ (k : ℕ) {j : Ref sig .tc} (hj : j ∈ carriedRefs) :
    atK m (k + 1) c (Proc.devRef .tc j) = STEP (atK m k c) (Proc.devRef .tc j) := trip_agree (atK m k c) j hj

theorem atK_0 : ∀ k, atK m k c (Proc.devRef .tc main_v157_0) = iou (reg m c) (anc m c)
  | 0 => at_iou m c
  | k + 1 => (atK_succ m c k (by decide)).trans ((STEP_main_v157_0 _).trans (atK_0 k))
theorem atK_1 : ∀ k, atK m k c (Proc.devRef .tc main_v157_1) = iotaInDim S4000 32 0
  | 0 => read_157_1 (E14 m c)
  | k + 1 => (atK_succ m c k (by decide)).trans ((STEP_main_v157_1 _).trans (atK_1 k))
theorem atK_3 : ∀ k, atK m k c (Proc.devRef .tc main_v157_3) = fun _ => BitVec.ofNat 32 k
  | 0 => read_157_3 (E14 m c)
  | k + 1 => by
    rw [atK_succ m c k (by decide), STEP_main_v157_3, step_main_v157_3, atK_3 k]
    funext i
    show BitVec.ofNat 32 k + BitVec.ofNat 32 1 = BitVec.ofNat 32 (k + 1)
    rw [BitVec.ofNat_add]

/-- The boxes of image `b`. -/
def boxes (br an : FVec Ideal S2x4000x4 .f32) (b : Fin 2) : ℕ → Box := fun n => if h : n < 4000 then box br an b ⟨n, h⟩ else point fun _ => 0

theorem boxes_at (br an : FVec Ideal S2x4000x4 .f32) (b : Fin 2) (j : Fin 4000) : boxes br an b j.val = box br an b j := by
  unfold boxes; rw [dif_pos j.isLt]

theorem kept_iff (B : ℕ → Box) (i : ℕ) : Nms.kept B i ↔ (B i).valid = 1#1 ∧ ∀ j < i, Nms.kept B j → ¬ hits (B j) (B i) :=
  keep_iff _ _ i

/-- After `k` trips the mask holds the valid boxes that no kept box among the first `k` suppresses. -/
theorem atK_4 (b : Fin 2) : ∀ k, k ≤ 4000 → ∀ j : Fin 4000,
    (atK m k c (Proc.devRef .tc main_v157_4) : IVec S2x4000 1) (ix2 b j) = 1#1 ↔
      (boxes (reg m c) (anc m c) b j).valid = 1#1 ∧ ∀ i < k, i < j.val → Nms.kept (boxes (reg m c) (anc m c) b) i →
        ¬ hits (boxes (reg m c) (anc m c) b i) (boxes (reg m c) (anc m c) b j)
  | 0, _, j => by
    have e : (atK m 0 c (Proc.devRef .tc main_v157_4) : IVec S2x4000 1) = vals (reg m c) (anc m c) := at_start m c
    rw [e, vals_apply, boxes_at]
    exact ⟨fun h => ⟨h, fun i hi => absurd hi (Nat.not_lt_zero i)⟩, fun h => h.1⟩
  | k + 1, hk, j => by
    have hk' : k < 4000 := hk
    have ih := atK_4 b k (Nat.le_of_lt hk)
    have e : (atK m (k + 1) c (Proc.devRef .tc main_v157_4) : IVec S2x4000 1) =
        tripStep (atK m k c (Proc.devRef .tc main_v157_4)) (iou (reg m c) (anc m c)) (iotaInDim S4000 32 0) (fun _ => BitVec.ofNat 32 k) := by
      refine (atK_succ m c k (by decide)).trans ((STEP_main_v157_4 _).trans ((step_eq _).trans ?_))
      rw [atK_0, atK_1, atK_3]; rfl
    have hself : (atK m k c (Proc.devRef .tc main_v157_4) : IVec S2x4000 1) (ix2 b ⟨k, hk'⟩) = 1#1 ↔ Nms.kept (boxes (reg m c) (anc m c) b) k := by
      rw [ih ⟨k, hk'⟩, kept_iff]
      exact and_congr_right fun _ => ⟨fun h i hi => h i hi hi, fun h i hi _ => h i hi⟩
    rw [e, trip_apply _ _ k hk', ih j, hself, iou_apply, ← boxes_at _ _ b ⟨k, hk'⟩, ← boxes_at _ _ b j]
    constructor
    · rintro ⟨⟨hv, h⟩, hn⟩
      refine ⟨hv, fun i hi hij hki hh => ?_⟩
      rcases Nat.lt_succ_iff_lt_or_eq.mp hi with hlt | rfl
      · exact h i hlt hij hki hh
      · exact hn ⟨⟨hh, hij⟩, hki⟩
    · rintro ⟨hv, h⟩
      exact ⟨⟨hv, fun i hi => h i (Nat.lt_succ_of_lt hi)⟩, fun hn => h k (Nat.lt_succ_self k) hn.1.2 hn.2 hn.1.1⟩

theorem left_apply (b : Fin 2) (j : Fin 4000) : left m c (ix2 b j) = 1#1 ↔ Nms.kept (boxes (reg m c) (anc m c) b) j := by
  unfold left
  rw [atK_4 m c b 4000 (Nat.le_refl _) j, kept_iff]
  exact and_congr_right fun _ => ⟨fun h i hi => h i (by have := j.isLt; omega) hi, fun h i _ hi => h i hi⟩

open Classical in
theorem ch_apply (b : Fin 2) (j : Fin 4000) : ch m c (ix2 b j) =
    if Nms.kept (boxes (reg m c) (anc m c) b) j then (top (sc m c)).1 (ix2 b j) else Ideal.ofBits .f32 0xD01502F9#32 := by
  have e : ∀ (K : IVec S2x4000 1) (x : FVec Ideal S2x4000 .f32) (i : S2x4000.Idx), chosen K x i =
    if K i = 1#1 then x i else Ideal.ofBits .f32 0xD01502F9#32 := fun _ _ _ => rfl
  unfold ch
  rw [e]
  exact if_congr (left_apply m c b j) rfl rfl

end

end Cert.Proof.RI
-- ==== Proof.KI.Entries.lean ====
/-
  The kernel's arrays entry by entry: among the first four thousand places the leaf of the second kernel holds the boxes of `point`,
  and in its fifth row the score of each kept box; after them the score of no box.
-/
module

public import proofs.«01_k».proof.Proof.KI.Value
public import proofs.«01_k».proof.Proof.RI.Loop
public import Idealize.ShloMosaic.Lib.Pipeline.Value
public import Idealize.ShloMosaic.Lib.KernelVsHost

@[expose] public section

set_option maxRecDepth 16384

noncomputable section

namespace Cert.Proof.KI

open Cert.KernelIdeal Cert.KernelIdeal.Gen Cert.Nms
open Idealize.ShloMosaic Idealize.ShloMosaic.ValueIdx Idealize.ShloMosaic.StableHlo
open Idealize.ShloMosaic.TcCoe

variable (br an : FVec Ideal S2x4000x4 .f32) (sv : FVec Ideal S2x4000 .f32)

theorem sides_low (b : Fin 2) (n : Fin 4000) (k : Fin 4) (k' : Fin 8) (hk : k'.val = k.val) :
    sides br an (ix3 b n k') = br (ix3 b n k) :=
  concatenate_pair_apply_left (t := S2x4000x8) (2 : Fin 3) br an _ (ix3 b n k') rfl (ix3 b n k) (fun a => by
    match a with
    | ⟨0, _⟩ => rfl
    | ⟨1, _⟩ => rfl
    | ⟨2, _⟩ => exact hk.symm)

theorem sides_high (b : Fin 2) (n : Fin 4000) (k : Fin 4) (k' : Fin 8) (hk : k'.val = k.val + 4) :
    sides br an (ix3 b n k') = an (ix3 b n k) :=
  concatenate_pair_apply_right (t := S2x4000x8) (2 : Fin 3) br an _ (ix3 b n k') rfl rfl (ix3 b n k) (fun a ha => by
    match a with
    | ⟨0, _⟩ => rfl
    | ⟨1, _⟩ => rfl
    | ⟨2, _⟩ => exact absurd rfl ha) hk.symm

theorem sides_apply (b : Fin 2) (n : Fin 4000) (k : Fin 8) : sides br an (ix3 b n k) = RI.cand br an b n k := by
  match k with
  | ⟨0, _⟩ => exact sides_low br an b n 0 _ rfl
  | ⟨1, _⟩ => exact sides_low br an b n 1 _ rfl
  | ⟨2, _⟩ => exact sides_low br an b n 2 _ rfl
  | ⟨3, _⟩ => exact sides_low br an b n 3 _ rfl
  | ⟨4, _⟩ => exact sides_high br an b n 0 _ rfl
  | ⟨5, _⟩ => exact sides_high br an b n 1 _ rfl
  | ⟨6, _⟩ => exact sides_high br an b n 2 _ rfl
  | ⟨7, _⟩ => exact sides_high br an b n 3 _ rfl

theorem longSides_apply (x : FVec Ideal S2x4000x8 .f32) (z : IVec S_ 32) (b : Fin 2) (j : Fin 4096) (hj : j.val < 4000) (k : Fin 8) :
    longSides x z (ix3 b j k) = x (ix3 b ⟨j.val, hj⟩ k) :=
  pad_apply_of_inside _ _ _ _ _ _ _ (ix3 b j k) (ix3 b ⟨j.val, hj⟩ k) (fun a => by
    match a with
    | ⟨0, _⟩ => show b.val = 0 + b.val * (0 + 1); omega
    | ⟨1, _⟩ => show j.val = 0 + j.val * (0 + 1); omega
    | ⟨2, _⟩ => show k.val = 0 + k.val * (0 + 1); omega)

theorem longScores_front (z : FVec Ideal S_ .f32) (b : Fin 2) (j : Fin 4096) (hj : j.val < 4000) :
    longScores sv z (ix2 b j) = sv (ix2 b ⟨j.val, hj⟩) :=
  pad_apply_of_inside _ _ _ _ _ _ _ (ix2 b j) (ix2 b ⟨j.val, hj⟩) (fun a => by
    match a with
    | ⟨0, _⟩ => show b.val = 0 + b.val * (0 + 1); omega
    | ⟨1, _⟩ => show j.val = 0 + j.val * (0 + 1); omega)

theorem longScores_end (z : FVec Ideal S_ .f32) (b : Fin 2) (j : Fin 4096) (hj : 4000 ≤ j.val) :
    longScores sv z (ix2 b j) = z (Shape.Idx.first h_S_) :=
  pad_apply_of_not_inside _ _ _ _ _ _ _ (ix2 b j) (1 : Fin 2) (fun h => by
    have h3 : (j.val - 0) / (0 + 1) < 4000 := h.2.2
    rw [Nat.sub_zero, Nat.div_one] at h3
    omega)

theorem asRow_apply (x : FVec Ideal S2x4096 .f32) (b : Fin 2) (j : Fin 4096) :
    broadcastInDim S2x1x4096 ![0, 2] bcast_S2x4096_S2x1x4096_0_2 x (ix3 b 0 j) = x (ix2 b j) :=
  broadcastInDim_apply _ _ _ (ix3 b 0 j) (ix2 b j) (fun a => by
    match a with
    | ⟨0, _⟩ => rfl
    | ⟨1, _⟩ => rfl)

theorem turned_apply (x : FVec Ideal S2x4096x8 .f32) (b : Fin 2) (k : Fin 8) (j : Fin 4096) :
    transpose S2x8x4096 [0, 2, 1] x transposes_S2x4096x8_S2x8x4096_0_2_1 (ix3 b k j) = x (ix3 b j k) :=
  transpose_apply [0, 2, 1] x transposes_S2x4096x8_S2x8x4096_0_2_1 (ix3 b k j) (ix3 b j k) (fun a => by
    match a with
    | ⟨0, _⟩ => rfl
    | ⟨1, _⟩ => rfl
    | ⟨2, _⟩ => rfl)

theorem corners_apply (x : FVec Ideal S2x8x4096 .f32) (b : Fin 2) (j : Fin 4096) (k : Fin 4) (k' : Fin 8) (hk : k'.val = k.val) :
    corners x (ix3 b j k) = x (ix3 b k' j) := by
  refine (transpose_apply [0, 2, 1] _ transposes_S2x4x4096_S2x4096x4_0_2_1 (ix3 b j k) (ix3 b k j) (fun a => by
    match a with
    | ⟨0, _⟩ => rfl
    | ⟨1, _⟩ => rfl
    | ⟨2, _⟩ => rfl)).trans (congrArg x (funext fun a => Fin.ext ?_))
  match a with
  | ⟨0, _⟩ => exact Nat.zero_add _
  | ⟨1, _⟩ => exact (Nat.zero_add _).trans hk.symm
  | ⟨2, _⟩ => exact Nat.zero_add _

theorem fifth_apply (x : FVec Ideal S2x8x4096 .f32) (b : Fin 2) (j : Fin 4096) : fifth x (ix2 b j) = x (ix3 b 4 j) := by
  refine (shapeCast_apply _ _ (ix2 b j) (ix3 b 0 j) ?_).trans (congrArg x (funext fun a => Fin.ext ?_))
  · rw [Shape.rowMajor_val_two, Shape.rowMajor_val_three]
    show (b.val * 1 + 0) * 4096 + j.val = b.val * 4096 + j.val
    omega
  · match a with
    | ⟨0, _⟩ => exact Nat.zero_add _
    | ⟨1, _⟩ => exact Nat.add_zero _
    | ⟨2, _⟩ => exact Nat.zero_add _

/-! ## The leaf of the second kernel -/

section
variable (X1 : FVec Ideal S2x8x4096 .f32) (X2 : FVec Ideal S2x4096x8 .f32) (X3 : FVec Ideal S2x1x4096 .f32) (b : Fin 2)

theorem leaves_corner (k : Fin 4) (k' : Fin 8) (hk : k'.val = k.val) (j : Fin 4096) :
    leaves X1 X2 X3 (ix3 b k' j) = (point fun i => X1 (ix3 b i j)).corner k := by
  have e : k' = ⟨k.val, Nat.lt_of_lt_of_le k.isLt (by decide)⟩ := Fin.ext hk
  rw [e]
  exact result_corner (img X1 b) (img X2 b) (img X3 b) k j

open Classical in
theorem leaves_score (B : ℕ → Box) (h1 : ∀ j : Fin 4096, (point fun k => X1 (ix3 b k j)) = B j)
    (h2 : ∀ j : Fin 4096, (point fun k => X2 (ix3 b j k)) = B j) (j : Fin 4096) :
    leaves X1 X2 X3 (ix3 b 4 j) = if kept B j then X3 (ix3 b 0 j) else Ideal.ofBits .f32 0xD01502F9#32 :=
  result_score (img X1 b) (img X2 b) (img X3 b) B h1 h2 j

end

/-- What the second kernel reads, one row per place. -/
def long : FVec Ideal S2x4096x8 .f32 := longSides (sides br an) (constantI S_ 32 0#32)

/-- What the second kernel leaves. -/
def leaf : FVec Ideal S2x8x4096 .f32 :=
  leaves (transpose S2x8x4096 [0, 2, 1] (long br an) transposes_S2x4096x8_S2x8x4096_0_2_1) (long br an)
    (broadcastInDim S2x1x4096 ![0, 2] bcast_S2x4096_S2x1x4096_0_2 (longScores sv (constant (F := Ideal) S_ .f32 0xD01502F9#32)))

/-- The boxes of image `b`, the ones in the padding included. -/
def boxes (b : Fin 2) : ℕ → Box := fun n => if h : n < 4096 then point (fun k => long br an (ix3 b ⟨n, h⟩ k)) else point fun _ => 0

theorem boxes_at (b : Fin 2) (j : Fin 4096) : boxes br an b j.val = point fun k => long br an (ix3 b j k) := by
  unfold boxes; rw [dif_pos j.isLt]

theorem long_front (b : Fin 2) (j : Fin 4096) (hj : j.val < 4000) :
    (point fun k => long br an (ix3 b j k)) = RI.box br an b ⟨j.val, hj⟩ :=
  congrArg point (funext fun k => (longSides_apply _ _ b j hj k).trans (sides_apply br an b _ k))

theorem boxes_front (b : Fin 2) (n : ℕ) (hn : n < 4000) : boxes br an b n = RI.boxes br an b n :=
  (boxes_at br an b ⟨n, by omega⟩).trans ((long_front br an b ⟨n, by omega⟩ hn).trans (RI.boxes_at br an b ⟨n, hn⟩).symm)

theorem kept_front (b : Fin 2) (n : ℕ) (hn : n < 4000) : kept (boxes br an b) n ↔ kept (RI.boxes br an b) n :=
  keep_congr (n := 4000) (fun i hi => by rw [boxes_front br an b i hi])
    (fun i hi j hj => by rw [boxes_front br an b i hi, boxes_front br an b j (by omega)]) n hn

theorem leaf_corner (b : Fin 2) (k : Fin 4) (k' : Fin 8) (hk : k'.val = k.val) (j : Fin 4096) (hj : j.val < 4000) :
    leaf br an sv (ix3 b k' j) = (RI.box br an b ⟨j.val, hj⟩).corner k := by
  refine (leaves_corner _ _ _ b k k' hk j).trans (congrArg (fun B => Box.corner B k) ?_)
  exact (congrArg point (funext fun i => turned_apply _ b i j)).trans (long_front br an b j hj)

open Classical in
theorem leaf_score (b : Fin 2) (j : Fin 4096) : leaf br an sv (ix3 b 4 j) =
    if kept (boxes br an b) j then longScores sv (constant (F := Ideal) S_ .f32 0xD01502F9#32) (ix2 b j) else Ideal.ofBits .f32 0xD01502F9#32 := by
  refine (leaves_score _ _ _ b (boxes br an b) (fun j => ?_) (fun j => (boxes_at br an b j).symm) j).trans ?_
  · exact (congrArg point (funext fun i => turned_apply _ b i j)).trans (boxes_at br an b j).symm
  · exact if_congr Iff.rfl (asRow_apply _ b j) rfl

open Classical in
theorem score_front (b : Fin 2) (j : Fin 4096) (hj : j.val < 4000) : fifth (leaf br an sv) (ix2 b j) =
    if kept (RI.boxes br an b) j then sv (ix2 b ⟨j.val, hj⟩) else Ideal.ofBits .f32 0xD01502F9#32 := by
  rw [fifth_apply, leaf_score]
  exact if_congr (kept_front br an b j.val hj) (longScores_front sv _ b j hj) rfl

theorem score_end (b : Fin 2) (j : Fin 4096) (hj : 4000 ≤ j.val) : fifth (leaf br an sv) (ix2 b j) = Ideal.ofBits .f32 0xD01502F9#32 := by
  rw [fifth_apply, leaf_score, longScores_end sv _ b j hj]
  exact ite_self _

theorem corner_front (b : Fin 2) (k : Fin 4) (j : Fin 4096) (hj : j.val < 4000) :
    corners (leaf br an sv) (ix3 b j k) = (RI.box br an b ⟨j.val, hj⟩).corner k :=
  (corners_apply _ b j k ⟨k.val, by omega⟩ rfl).trans (leaf_corner br an sv b k _ rfl j hj)

/-! ## The whole program -/

variable (m : (ℓ : Loc nD τ sig) → Buf (Elt Ideal) ℓ) (c : Dev nD)

/-- The scores. -/
def sc : FVec Ideal S2x45600 .f32 := logistic (F := Ideal) (s := S2x45600) (φ := .f32) (shapeCast S2x45600
    (transpose S2x100x152x3 [0, 2, 3, 1] (m (c, Proc.devRef .tc main_arg0)) transposes_S2x3x100x152_S2x100x152x3_0_2_3_1)
    shapeCasts_S2x100x152x3_S2x45600)

theorem at_v2 : V2 m (outs m) c (Proc.devRef .tc main_v2) = sc m c := by
  have e : V2 m (outs m) c (Proc.devRef .tc main_v2) = outs m 2 main_v2 c := by unfold V2; rw [Function.update_self]
  refine e.trans ((leave_v2 m _ _ _ c).trans ((sig1_eq m c).trans ?_))
  exact congrArg (logistic (F := Ideal) (s := S2x45600) (φ := .f32)) (read_v1 (V0 m c))

theorem at_v15 : V12 m (outs m) c (Proc.devRef .tc main_v15) = leaf (reg m c (sc m c)) (anc m c (sc m c)) (top (sc m c)).1 := by
  have e : V12 m (outs m) c (Proc.devRef .tc main_v15) = outs m 12 main_v15 c := by unfold V12; rw [Function.update_self]
  refine e.trans ((leave_v15 m _ _ _ c).trans ((nms1_eq m c).trans ?_))
  rw [← mid_eq, at_v12 m (outs m) c, at_v11 m (outs m) c _ (at_v2 m c), at_v14 m (outs m) c _ (at_v2 m c)]
  rfl

theorem final_v23 : V15 m (outs m) c (Proc.devRef .tc main_v23) =
    joined (rows1000 (corners (leaf (reg m c (sc m c)) (anc m c (sc m c)) (top (sc m c)).1))
        (best (fifth (leaf (reg m c (sc m c)) (anc m c (sc m c)) (top (sc m c)).1))).2)
      (best (fifth (leaf (reg m c (sc m c)) (anc m c (sc m c)) (top (sc m c)).1))).1 :=
  at_v23 m (outs m) c _ (at_v15 m c)

end Cert.Proof.KI
-- ==== Proof.Nms.Take.lean ====
/-
  Picking a row by its number gives that row when the number lies inside the array.
-/
module

public import proofs.«01_k».proof.Proof.Nms.Host
public import Idealize.ShloMosaic.Lib.Pipeline.Value

@[expose] public section

set_option maxRecDepth 16384

noncomputable section

namespace Cert.Nms

open Idealize.ShloMosaic Idealize.ShloMosaic.ValueIdx

variable {F : FTy → Type} [FloatOps F]

theorem word_toInt {q : ℕ} (hq : q < 2 ^ 31) : (BitVec.ofNat 32 q).toInt = (q : Int) := by
  have h : (BitVec.ofNat 32 q).toNat = q := by rw [BitVec.toNat_ofNat]; omega
  rw [BitVec.toInt_eq_toNat_of_lt (by omega), h]

theorem word_nonneg {q : ℕ} (hq : q < 2 ^ 31) : (BitVec.ofNat 32 q).slt 0#32 = false := by
  rw [BitVec.slt_eq_decide, word_toInt hq]
  exact decide_eq_false (by show ¬ ((q : Int) < 0); omega)

section
variable {K : ℕ} (w : IVec (⟨3, ![2, K, 1]⟩ : Shape) 32) (hs : Unit0.BroadcastsInDim ⟨3, ![2, K, 1]⟩ (![] : Fin 0 → Fin 3))
  (j : (⟨3, ![2, K, 1]⟩ : Shape).Idx) {q : ℕ}

theorem wrap_small (nN : BitVec 32) (hq : q < 2 ^ 31) (hj : w j = BitVec.ofNat 32 q) : wrap nN w hs j = BitVec.ofNat 32 q := by
  have e : wrap nN w hs j = if BitVec.ofBool ((w j).slt 0#32) = 1#1 then w j + nN else w j := rfl
  rw [e, hj, word_nonneg hq, if_neg (by decide)]

theorem inside_small {N : ℕ} (h1 : One1.BroadcastsInDim One3 (![2] : Fin 1 → Fin 3))
    (h2 : One3.BroadcastsInDim ⟨3, ![2, K, 1]⟩ (![0, 1, 2] : Fin 3 → Fin 3)) (hN : N < 2 ^ 31) (hq : q ≤ N)
    (hj : w j = BitVec.ofNat 32 q) : inside (BitVec.ofNat 32 N) w hs h1 h2 j = 1#1 := by
  have e : inside (BitVec.ofNat 32 N) w hs h1 h2 j =
      BitVec.ofBool ((0#32).sle (w j)) &&& BitVec.ofBool ((w j).sle (BitVec.ofNat 32 N)) := rfl
  have a : (0#32).sle (BitVec.ofNat 32 q) = true := by
    rw [BitVec.sle_eq_decide, word_toInt (q := q) (by omega)]
    exact decide_eq_true (Int.natCast_nonneg q)
  have b : (BitVec.ofNat 32 q).sle (BitVec.ofNat 32 N) = true := by
    rw [BitVec.sle_eq_decide, word_toInt (by omega), word_toInt hN]
    exact decide_eq_true (by omega)
  rw [e, hj, a, b]; rfl

end

theorem take_at {N K C : ℕ} (d : GatherDims ⟨3, ![2, N, C]⟩ ⟨3, ![2, K, 1]⟩ ⟨3, ![2, K, C]⟩) (nN : BitVec 32) (L : ℕ) (hL : N = L + 1)
    (x : FVec F (⟨3, ![2, N, C]⟩ : Shape) .f32) (i : IVec (⟨2, ![2, K]⟩ : Shape) 32) (hi hs h1 h2 hr hu ho hn)
    (hoff : d.offsetDims = [2]) (hcoll : d.collapsedSliceDims = [1]) (hob : d.operandBatchingDims = [0])
    (hsb : d.startIndicesBatchingDims = [0])
    (hsim : d.startIndexMap = [1]) (hivd : d.indexVectorDim = 2) (hss : d.sliceSizes = ![1, 1, C])
    (hN : N < 2 ^ 31) (p : Fin 2 → Fin K → Fin N) (hp : ∀ b k, i (ix2 b k) = BitVec.ofNat 32 (p b k).val)
    (b : Fin 2) (k : Fin K) (c : Fin C) :
    take d nN (BitVec.ofNat 32 L) x i hi hs h1 h2 hr hu ho hn (ix3 b k c) = x (ix3 b (p b k) c) := by
  have col : ∀ j : (⟨3, ![2, K, 1]⟩ : Shape).Idx, broadcastInDim ⟨3, ![2, K, 1]⟩ ![0, 1] hi i j = BitVec.ofNat 32 (p (j 0) (j 1)).val := fun j =>
    (broadcastInDim_apply _ _ _ j (ix2 (j 0) (j 1)) (fun a => by
      match a with
      | ⟨0, _⟩ => rfl
      | ⟨1, _⟩ =>
        show (j 1).val = if K = 1 then 0 else (j 1).val
        have h : (j 1).val < K := (j 1).isLt
        split <;> omega)).trans (hp _ _)
  have lt : ∀ b k, (p b k).val < 2 ^ 31 := fun b k => lt_trans (p b k).isLt hN
  have wr : ∀ j, wrap nN (broadcastInDim ⟨3, ![2, K, 1]⟩ ![0, 1] hi i) hs j = BitVec.ofNat 32 (p (j 0) (j 1)).val := fun j =>
    wrap_small _ hs j nN (lt _ _) (col j)
  have ins : ∀ j, inside (BitVec.ofNat 32 L) (wrap nN (broadcastInDim ⟨3, ![2, K, 1]⟩ ![0, 1] hi i) hs) hs h1 h2 j = 1#1 := fun j =>
    inside_small _ hs j h1 h2 (by omega) (by have := (p (j 0) (j 1)).isLt; omega) (wr j)
  have e : ∀ (u : IVec (⟨2, ![2, K]⟩ : Shape) 1) (v z : FVec F (⟨3, ![2, K, C]⟩ : Shape) .f32) (y), (∀ t, u t = 1#1) →
      select (broadcastInDim ⟨3, ![2, K, C]⟩ ![0, 1] ho u) v z y = v y := fun u v z y hu => by
    show (if u _ = 1#1 then v y else z y) = v y
    rw [hu, if_pos rfl]
  unfold take
  refine (e _ _ _ _ (mask_true _ _ hr hu ins fun _ => rfl)).trans ?_
  exact gather_rows d hoff hcoll hob hsb hsim hivd hss x _ b k c (p b k) hN (wr _)

end Cert.Nms
-- ==== Proof.Agree.lean ====
/-
  The two programs leave the same array: equal scores, equal candidates, equal kept scores, and so the same best thousand.
-/
module

public import proofs.«01_k».proof.Proof.KI.Entries
public import proofs.«01_k».proof.Proof.Nms.Take
public import Idealize.ShloMosaic.Lib.IdealHost

@[expose] public section

set_option maxRecDepth 16384

noncomputable section

namespace Cert.Proof.Agree

open Cert.Nms
open Idealize.ShloMosaic Idealize.ShloMosaic.ValueIdx Idealize.ShloMosaic.StableHlo
open Idealize.ShloMosaic.TcCoe

abbrev Scores : Shape := ⟨2, ![2, 45600]⟩
abbrev Cands : Shape := ⟨2, ![2, 4000]⟩
abbrev Rows : Shape := ⟨3, ![2, 4000, 4]⟩

/-! ## The scores -/

theorem sigm_eq (x : FVec Ideal Scores .f32) : RI.sigm x = logistic (F := Ideal) (s := Scores) (φ := .f32) x := by
  funext i
  show Ideal.div (Ideal.ofBits .f32 0x3F800000#32) (Ideal.ofBits .f32 0x3F800000#32 + Ideal.exp (-(x i))) = Ideal.logistic (x i)
  rw [Ideal.ofBits_one_f32]; rfl

theorem logistic_nonneg (x : EReal) : 0 ≤ Ideal.logistic x := by
  induction x using EReal.rec with
  | bot => rw [Ideal.logistic_bot]
  | coe r => rw [Ideal.logistic_coe]; exact EReal.coe_nonneg.mpr (inv_nonneg.mpr (by positivity))
  | top => rw [Ideal.logistic_top]; exact zero_le_one

/-- The score of a box not kept is no score. -/
theorem low_nonpos : Ideal.ofBits .f32 0xD01502F9#32 ≤ 0 := by
  have e : Ideal.ofBits .f32 0xD01502F9#32 = ((-(10000000000 : ℝ) : ℝ) : EReal) := by
    simp [Ideal.ofBits, Ideal.ieee, -EReal.coe_mul, -EReal.coe_neg]; norm_num
  rw [e]
  exact EReal.coe_nonpos.mpr (by norm_num)

/-! ## The best thousand -/

abbrev gt : Ideal .f32 → Ideal .f32 → BitVec 1 := FloatOps.cmpfTotal (F := Ideal) (φ := .f32) .gt

abbrev short : 1000 ≤ 4000 := by decide
abbrev wide : 4000 ≤ 4096 := by decide
abbrev shortWide : 1000 ≤ 4096 := by decide

/-! A longer row of scores with its boxes, of which only the front counts. -/
section front

variable (x : FVec Ideal ⟨2, ![2, 4096]⟩ .f32) (y : FVec Ideal Cands .f32)
  (X : FVec Ideal ⟨3, ![2, 4096, 4]⟩ .f32) (Y : FVec Ideal Rows .f32)
  (hp : ∀ b (i : Fin 4000), place gt x b (i.castLE wide) = (place gt y b i).castLE wide)
  (hx : ∀ b (j : Fin 4000), x (ix2 b (j.castLE wide)) = y (ix2 b j))
  (hX : ∀ b (j : Fin 4000) q, X (ix3 b (j.castLE wide) q) = Y (ix3 b j q))

include hp hx in
theorem value_at (b : Fin 2) (k : Fin 1000) : (KI.best x).1 (ix2 b k) = (RI.best y).1 (ix2 b k) := by
  refine (topK_value gt x shortWide KernelIdeal.Gen.sliceFits_S2x4096_S2x1000 b k).trans
    (Eq.trans ?_ (topK_value gt y short ReferenceIdeal.Gen.sliceFits_S2x4000_S2x1000 b k).symm)
  exact (congrArg (fun p => x (ix2 b p)) (hp b (k.castLE short))).trans (hx b _)

include hp in
theorem wide_index (b : Fin 2) (k : Fin 1000) :
    (KI.best x).2 (ix2 b k) = BitVec.ofNat 32 ((place gt y b (k.castLE short)).castLE wide).val :=
  (topK_index gt x shortWide KernelIdeal.Gen.sliceFits_S2x4096_S2x1000 b k).trans
    (congrArg (fun p : Fin 4096 => BitVec.ofNat 32 p.val) (hp b (k.castLE short)))

theorem short_index (b : Fin 2) (k : Fin 1000) :
    (RI.best y).2 (ix2 b k) = BitVec.ofNat 32 (place gt y b (k.castLE short)).val :=
  topK_index gt y short ReferenceIdeal.Gen.sliceFits_S2x4000_S2x1000 b k

include hp hX in
theorem row_at (b : Fin 2) (k : Fin 1000) (q : Fin 4) :
    KI.rows1000 X (KI.best x).2 (ix3 b k q) = RI.rows1000 Y (RI.best y).2 (ix3 b k q) := by
  refine (take_at _ _ 4095 rfl X _ _ _ _ _ _ _ _ _ rfl rfl rfl rfl rfl rfl rfl (by decide)
      (fun b k => (place gt y b (k.castLE short)).castLE wide) (wide_index x y hp) b k q).trans
    (Eq.trans ?_ (take_at _ _ 3999 rfl Y _ _ _ _ _ _ _ _ _ rfl rfl rfl rfl rfl rfl rfl (by decide)
      (fun b k => place gt y b (k.castLE short)) (short_index y) b k q).symm)
  exact hX b _ q

include hp hx in
theorem best_values : (KI.best x).1 = (RI.best y).1 :=
  funext fun i => (congrArg (KI.best x).1 (eq_ix2 i)).trans
    ((value_at x y hp hx (i 0) (i 1)).trans (congrArg (RI.best y).1 (eq_ix2 i)).symm)

include hp hX in
theorem best_rows : KI.rows1000 X (KI.best x).2 = RI.rows1000 Y (RI.best y).2 :=
  funext fun i => (congrArg (KI.rows1000 X (KI.best x).2) (eq_ix3 i)).trans
    ((row_at x y X Y hp hX (i 0) (i 1) (i 2)).trans (congrArg (RI.rows1000 Y (RI.best y).2) (eq_ix3 i)).symm)

theorem joined_eq (R : FVec Ideal ⟨3, ![2, 1000, 4]⟩ .f32) (S : FVec Ideal ⟨2, ![2, 1000]⟩ .f32) :
    KI.joined R S = RI.joined R S := rfl

include hp hx hX in
theorem results : KI.joined (KI.rows1000 X (KI.best x).2) (KI.best x).1 = RI.joined (RI.rows1000 Y (RI.best y).2) (RI.best y).1 :=
  (joined_eq _ _).trans (congrArg₂ RI.joined (best_rows x y X Y hp hX) (best_values x y hp hx))

end front

section best

variable (br an : FVec Ideal Rows .f32) (sv y : FVec Ideal Cands .f32)

open Classical in
/-- The kept scores of image `b`. -/
def scored (b : Fin 2) (j : Fin 4000) : Ideal .f32 :=
  if kept (RI.boxes br an b) j then sv (ix2 b j) else Ideal.ofBits .f32 0xD01502F9#32

theorem scored_ge (hs : ∀ i, 0 ≤ sv i) (b : Fin 2) (j : Fin 4000) : Ideal.ofBits .f32 0xD01502F9#32 ≤ scored br an sv b j := by
  unfold scored
  split
  · exact le_trans low_nonpos (hs _)
  · exact le_refl _

variable (hs : ∀ i, 0 ≤ sv i) (hy : ∀ b j, y (ix2 b j) = scored br an sv b j)

include hy in
theorem scores_front (b : Fin 2) (j : Fin 4000) : KI.fifth (KI.leaf br an sv) (ix2 b (j.castLE wide)) = y (ix2 b j) :=
  (KI.score_front br an sv b (j.castLE wide) j.isLt).trans (hy b j).symm

theorem rows_front (b : Fin 2) (j : Fin 4000) (q : Fin 4) :
    KI.corners (KI.leaf br an sv) (ix3 b (j.castLE wide) q) = RI.props br an (ix3 b j q) :=
  (KI.corner_front br an sv b q (j.castLE wide) j.isLt).trans (RI.props_apply br an b j q).symm

include hs hy in
theorem places (b : Fin 2) (i : Fin 4000) :
    place gt (KI.fifth (KI.leaf br an sv)) b (i.castLE wide) = (place gt y b i).castLE wide := by
  refine place_front gt (KI.fifth (KI.leaf br an sv)) y wide (scores_front br an sv y hy) (fun b j q hq => ?_) b i
  rw [KI.score_end br an sv b q hq, hy]
  show (BitVec.ofBool (decide (scored br an sv b j < Ideal.ofBits .f32 0xD01502F9#32)) == 1#1) = false
  rw [decide_eq_false (not_lt.mpr (scored_ge br an sv hs b j))]; rfl

include hs hy in
theorem leaf_results : KI.joined (KI.rows1000 (KI.corners (KI.leaf br an sv)) (KI.best (KI.fifth (KI.leaf br an sv))).2)
      (KI.best (KI.fifth (KI.leaf br an sv))).1 =
    RI.joined (RI.rows1000 (RI.props br an) (RI.best y).2) (RI.best y).1 :=
  results _ y _ _ (places br an sv y hs hy) (scores_front br an sv y hy) (rows_front br an sv)

end best

/-! ## The two programs -/

section programs

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

theorem scores_eq (h : m' ((c.tc : Thread ReferenceIdeal.nD ReferenceIdeal.τ).loc ReferenceIdeal.main_arg0) =
      m ((c.tc : Thread KernelIdeal.nD KernelIdeal.τ).loc KernelIdeal.main_arg0)) : KI.sc m c = RI.sc m' c := by
  unfold RI.sc
  rw [sigm_eq, h]
  rfl

theorem top_eq (x : FVec Ideal Scores .f32) : KI.top (F := Ideal) x = RI.top x := rfl

theorem top_nonneg (x : FVec Ideal Scores .f32) (hx : ∀ i, 0 ≤ x i) (i : Cands.Idx) : 0 ≤ (RI.top x).1 i := by
  rw [eq_ix2 i]
  exact le_of_le_of_eq (hx _) (topK_value gt x (by decide) _ (i 0) (i 1)).symm

theorem reg_eq (s : FVec Ideal Scores .f32) (hs : s = RI.sc m' c)
    (h : m' ((c.tc : Thread ReferenceIdeal.nD ReferenceIdeal.τ).loc ReferenceIdeal.main_arg1) =
      m ((c.tc : Thread KernelIdeal.nD KernelIdeal.τ).loc KernelIdeal.main_arg1)) : KI.reg m c s = RI.reg m' c := by
  unfold RI.reg
  rw [h, hs]
  rfl

theorem anc_eq (s : FVec Ideal Scores .f32) (hs : s = RI.sc m' c)
    (h : m' ((c.tc : Thread ReferenceIdeal.nD ReferenceIdeal.τ).loc ReferenceIdeal.main_arg2) =
      m ((c.tc : Thread KernelIdeal.nD KernelIdeal.τ).loc KernelIdeal.main_arg2)) : KI.anc m c s = RI.anc m' c := by
  unfold RI.anc
  rw [h, hs]
  rfl

theorem agree (h : m' ((c.tc : Thread ReferenceIdeal.nD ReferenceIdeal.τ).loc ReferenceIdeal.main_arg0) =
        m ((c.tc : Thread KernelIdeal.nD KernelIdeal.τ).loc KernelIdeal.main_arg0)
      ∧ m' ((c.tc : Thread ReferenceIdeal.nD ReferenceIdeal.τ).loc ReferenceIdeal.main_arg1) =
        m ((c.tc : Thread KernelIdeal.nD KernelIdeal.τ).loc KernelIdeal.main_arg1)
      ∧ m' ((c.tc : Thread ReferenceIdeal.nD ReferenceIdeal.τ).loc ReferenceIdeal.main_arg2) =
        m ((c.tc : Thread KernelIdeal.nD KernelIdeal.τ).loc KernelIdeal.main_arg2)) :
    (KernelIdeal.Gen.V15 m (KI.outs m) c (Proc.devRef .tc KernelIdeal.main_v23) : FVec Ideal ⟨3, ![2, 1000, 5]⟩ .f32) =
      finalContents ReferenceIdeal.Value.condOps ReferenceIdeal.Value.preI ReferenceIdeal.Value.bodyI ReferenceIdeal.Value.postI 4000 m' c
        (Proc.devRef .tc ReferenceIdeal.main_v162) := by
  have hs := scores_eq m m' c h.1
  refine (KI.final_v23 m c).trans (Eq.trans ?_ (RI.final_v162 m' c).symm)
  rw [reg_eq m m' c _ hs h.2.1, anc_eq m m' c _ hs h.2.2, hs, top_eq]
  refine leaf_results (RI.reg m' c) (RI.anc m' c) (RI.top (RI.sc m' c)).1 (RI.ch m' c) (top_nonneg _ fun i => ?_) fun b j => RI.ch_apply m' c b j
  unfold RI.sc
  rw [sigm_eq]
  exact logistic_nonneg _

end programs

end Cert.Proof.Agree
-- ==== Proof.lean ====
/-
  The certificate's claim: the kernel, its reading at the ideal numbers and the reference each run to an end, keep their
  arguments and leave every counter at zero; and the kernel and the reference, from the same arguments, leave the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.RI.Run
public import proofs.«01_k».proof.Proof.Agree
public import Idealize.ShloMosaic.Adequacy
public import Idealize.ShloMosaic.Init

@[expose] public section

noncomputable section

namespace Cert.Proof

open Idealize.ShloMosaic Idealize.SL.Sem Idealize.ShloMosaic.StableHlo

theorem kernel_value (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v23) = Cert.KernelIdeal.Gen.V15 m (KI.outs m) c (Proc.devRef .tc Cert.KernelIdeal.main_v23)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun r h c =>
    ⟨h.1 c (Proc.devRef .tc Cert.KernelIdeal.main_v23) (Finset.mem_filter.mpr ⟨StableHlo.devRef_mem_tcRefs Cert.KernelIdeal.main_v23, by decide⟩),
      (h.1 c (Proc.devRef .tc Cert.KernelIdeal.main_arg0) (Finset.mem_filter.mpr ⟨StableHlo.devRef_mem_tcRefs Cert.KernelIdeal.main_arg0, by decide⟩)).trans (Cert.KernelIdeal.Gen.V15_main_arg0 m (KI.outs m) c),
      (h.1 c (Proc.devRef .tc Cert.KernelIdeal.main_arg1) (Finset.mem_filter.mpr ⟨StableHlo.devRef_mem_tcRefs Cert.KernelIdeal.main_arg1, by decide⟩)).trans (Cert.KernelIdeal.Gen.V15_main_arg1 m (KI.outs m) c),
      (h.1 c (Proc.devRef .tc Cert.KernelIdeal.main_arg2) (Finset.mem_filter.mpr ⟨StableHlo.devRef_mem_tcRefs Cert.KernelIdeal.main_arg2, by decide⟩)).trans (Cert.KernelIdeal.Gen.V15_main_arg2 m (KI.outs m) c)⟩)
    (KI.run m g)

theorem reference_value (m : (ℓ : Loc Cert.ReferenceIdeal.nD Cert.ReferenceIdeal.τ Cert.ReferenceIdeal.sig) → Buf (Elt Ideal) ℓ)
    (g : Dev Cert.ReferenceIdeal.nD → PrngReg)
    (v : (c : Dev Cert.ReferenceIdeal.nD) → Buf (Elt Ideal) ((c.tc : Thread Cert.ReferenceIdeal.nD Cert.ReferenceIdeal.τ).loc Cert.ReferenceIdeal.main_v162))
    (hv : ∀ c, v c = finalContents Cert.ReferenceIdeal.Value.condOps Cert.ReferenceIdeal.Value.preI Cert.ReferenceIdeal.Value.bodyI
      Cert.ReferenceIdeal.Value.postI 4000 m c (Proc.devRef .tc Cert.ReferenceIdeal.main_v162)) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v162) = v c
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono (fun r h c =>
    ⟨(h.1 c Cert.ReferenceIdeal.main_v162 rfl).trans (hv c).symm,
      (h.1 c Cert.ReferenceIdeal.main_arg0 rfl).trans (RI.final_kept m (by decide) c),
      (h.1 c Cert.ReferenceIdeal.main_arg1 rfl).trans (RI.final_kept m (by decide) c),
      (h.1 c Cert.ReferenceIdeal.main_arg2 rfl).trans (RI.final_kept m (by decide) c)⟩) (RI.run m g)

theorem claim : Cert.Claim := ⟨Cert.Kernel.Gen.facts, Cert.KernelIdeal.Gen.facts, Cert.ReferenceIdeal.Gen.facts,
  fun m g _ => K.frame_run m g, fun m g _ => KI.frame_run m g, fun m g _ => RI.frame_run m g, trivial,
  fun m g m' g' _ h => ⟨fun c => Cert.KernelIdeal.Gen.V15 m (KI.outs m) c (Proc.devRef .tc Cert.KernelIdeal.main_v23), kernel_value m g,
    reference_value m' g' _ fun c => Agree.agree m m' c (h c)⟩⟩

end Cert.Proof

end
